-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 64, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 64, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x4096 : Shape := ⟨2, ![512, 4096]⟩
abbrev S2x128x4x64 : Shape := ⟨4, ![2, 128, 4, 64]⟩
abbrev S4096x512 : Shape := ⟨2, ![4096, 512]⟩
abbrev S256x512 : Shape := ⟨2, ![256, 512]⟩
abbrev S16x16x512 : Shape := ⟨3, ![16, 16, 512]⟩
abbrev S16 : Shape := ⟨1, ![16]⟩
abbrev S_ : Shape := ⟨0, ![]⟩
abbrev S512x256 : Shape := ⟨2, ![512, 256]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x1x64 : Shape := ⟨4, ![1, 128, 1, 64]⟩
abbrev S128 : Shape := ⟨1, ![128]⟩
abbrev S128x1 : Shape := ⟨2, ![128, 1]⟩
abbrev S1 : Shape := ⟨1, ![1]⟩
abbrev S1x16x512 : Shape := ⟨3, ![1, 16, 512]⟩
abbrev S16x512 : Shape := ⟨2, ![16, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x4096, .f32⟩
  | .hbm, ⟨2, _⟩ => ⟨S2x128x4x64, .f32⟩
  | .hbm, ⟨3, _⟩ => ⟨S2x128x4x64, .f32⟩
  | .hbm, ⟨4, _⟩ => ⟨S4096x512, .f32⟩
  | .hbm, ⟨5, _⟩ => ⟨S2x128x512, .f32⟩
  | .local _ .vmem, ⟨0, _⟩ => ⟨S2x128x512, .f32⟩
  | .local _ .vmem, ⟨1, _⟩ => ⟨S512x4096, .f32⟩
  | .local _ .vmem, ⟨2, _⟩ => ⟨S2x128x4x64, .f32⟩
  | .local _ .vmem, ⟨3, _⟩ => ⟨S2x128x4x64, .f32⟩
  | .local _ .vmem, ⟨4, _⟩ => ⟨S4096x512, .f32⟩
  | .local _ .vmem, ⟨5, _⟩ => ⟨S2x128x512, .f32⟩
  | .local _ .vmem, ⟨6, _⟩ => ⟨S256x512, .f32⟩
  | .local _ .vmem, ⟨7, _⟩ => ⟨S16x16x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_883 : BitVec 32 := 0#32
  let c0_i32_881 : BitVec 32 := 0#32
  let c1_i32_882 : BitVec 32 := 1#32
  let v1512 : BitVec 32 := Scalar.muli c0_i32_881 c1_i32_882
  let v1513 : BitVec 32 := Scalar.addi c0_i32_883 v1512
  v1513.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_883 : BitVec 32 := 0#32
  let c1_i32_881 : BitVec 32 := 1#32
  let c1_i32_882 : BitVec 32 := 1#32
  let v1512 : BitVec 32 := Scalar.muli c1_i32_881 c1_i32_882
  let v1513 : BitVec 32 := Scalar.addi c0_i32_883 v1512
  v1513.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_883 : BitVec 32 := 0#32
  let c2_i32_881 : BitVec 32 := 2#32
  let c1_i32_882 : BitVec 32 := 1#32
  let v1512 : BitVec 32 := Scalar.muli c2_i32_881 c1_i32_882
  let v1513 : BitVec 32 := Scalar.addi c0_i32_883 v1512
  v1513.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_883 : BitVec 32 := 0#32
  let c3_i32_881 : BitVec 32 := 3#32
  let c1_i32_882 : BitVec 32 := 1#32
  let v1512 : BitVec 32 := Scalar.muli c3_i32_881 c1_i32_882
  let v1513 : BitVec 32 := Scalar.addi c0_i32_883 v1512
  v1513.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_883 : BitVec 32 := 0#32
  let c4_i32_881 : BitVec 32 := 4#32
  let c1_i32_882 : BitVec 32 := 1#32
  let v1512 : BitVec 32 := Scalar.muli c4_i32_881 c1_i32_882
  let v1513 : BitVec 32 := Scalar.addi c0_i32_883 v1512
  v1513.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_883 : BitVec 32 := 0#32
  let c5_i32_881 : BitVec 32 := 5#32
  let c1_i32_882 : BitVec 32 := 1#32
  let v1512 : BitVec 32 := Scalar.muli c5_i32_881 c1_i32_882
  let v1513 : BitVec 32 := Scalar.addi c0_i32_883 v1512
  v1513.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_883 : BitVec 32 := 0#32
  let c6_i32_881 : BitVec 32 := 6#32
  let c1_i32_882 : BitVec 32 := 1#32
  let v1512 : BitVec 32 := Scalar.muli c6_i32_881 c1_i32_882
  let v1513 : BitVec 32 := Scalar.addi c0_i32_883 v1512
  v1513.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_883 : BitVec 32 := 0#32
  let c7_i32_881 : BitVec 32 := 7#32
  let c1_i32_882 : BitVec 32 := 1#32
  let v1512 : BitVec 32 := Scalar.muli c7_i32_881 c1_i32_882
  let v1513 : BitVec 32 := Scalar.addi c0_i32_883 v1512
  v1513.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_883 : BitVec 32 := 0#32
  let c8_i32_881 : BitVec 32 := 8#32
  let c1_i32_882 : BitVec 32 := 1#32
  let v1512 : BitVec 32 := Scalar.muli c8_i32_881 c1_i32_882
  let v1513 : BitVec 32 := Scalar.addi c0_i32_883 v1512
  v1513.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_883 : BitVec 32 := 0#32
  let c9_i32_881 : BitVec 32 := 9#32
  let c1_i32_882 : BitVec 32 := 1#32
  let v1512 : BitVec 32 := Scalar.muli c9_i32_881 c1_i32_882
  let v1513 : BitVec 32 := Scalar.addi c0_i32_883 v1512
  v1513.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_883 : BitVec 32 := 0#32
  let c10_i32_881 : BitVec 32 := 10#32
  let c1_i32_882 : BitVec 32 := 1#32
  let v1512 : BitVec 32 := Scalar.muli c10_i32_881 c1_i32_882
  let v1513 : BitVec 32 := Scalar.addi c0_i32_883 v1512
  v1513.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_883 : BitVec 32 := 0#32
  let c11_i32_881 : BitVec 32 := 11#32
  let c1_i32_882 : BitVec 32 := 1#32
  let v1512 : BitVec 32 := Scalar.muli c11_i32_881 c1_i32_882
  let v1513 : BitVec 32 := Scalar.addi c0_i32_883 v1512
  v1513.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_883 : BitVec 32 := 0#32
  let c12_i32_881 : BitVec 32 := 12#32
  let c1_i32_882 : BitVec 32 := 1#32
  let v1512 : BitVec 32 := Scalar.muli c12_i32_881 c1_i32_882
  let v1513 : BitVec 32 := Scalar.addi c0_i32_883 v1512
  v1513.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_883 : BitVec 32 := 0#32
  let c13_i32_881 : BitVec 32 := 13#32
  let c1_i32_882 : BitVec 32 := 1#32
  let v1512 : BitVec 32 := Scalar.muli c13_i32_881 c1_i32_882
  let v1513 : BitVec 32 := Scalar.addi c0_i32_883 v1512
  v1513.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_883 : BitVec 32 := 0#32
  let c14_i32_881 : BitVec 32 := 14#32
  let c1_i32_882 : BitVec 32 := 1#32
  let v1512 : BitVec 32 := Scalar.muli c14_i32_881 c1_i32_882
  let v1513 : BitVec 32 := Scalar.addi c0_i32_883 v1512
  v1513.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_883 : BitVec 32 := 0#32
  let c15_i32_881 : BitVec 32 := 15#32
  let c1_i32_882 : BitVec 32 := 1#32
  let v1512 : BitVec 32 := Scalar.muli c15_i32_881 c1_i32_882
  let v1513 : BitVec 32 := Scalar.addi c0_i32_883 v1512
  v1513.toNat
def k0_off1 (d0 : Dev nD) : Fin 2 → Nat :=
  let c0 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v52 : BitVec 32 := Scalar.muli v2 c256_i32
  let v53 : Index := Scalar.indexCast v52
  ![0, v53.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v52 : BitVec 32 := Scalar.muli v2 c256_i32
  let v56 : Index := Scalar.indexCast v52
  let c0_18 : Index := 0#32
  ![v56.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v198 : BitVec 1 := Scalar.cmpi .ne v2 c0_i32_91
  let v199 : BitVec 32 := Scalar.extui v198
  let c0_i32_93 : BitVec 32 := 0#32
  let v200 : BitVec 1 := Scalar.cmpi .ne v199 c0_i32_93
  v200

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev17 : Nat :=
  let c0_i32_882 : BitVec 32 := 0#32
  let c0_i32_880 : BitVec 32 := 0#32
  let c1_i32_881 : BitVec 32 := 1#32
  let v1512 : BitVec 32 := Scalar.muli c0_i32_880 c1_i32_881
  let v1513 : BitVec 32 := Scalar.addi c0_i32_882 v1512
  v1513.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_94 : BitVec 32 := 1#32
  let v201 : BitVec 1 := Scalar.cmpi .ne v2 c1_i32_94
  let v202 : BitVec 32 := Scalar.extui v201
  let c0_i32_96 : BitVec 32 := 0#32
  let v203 : BitVec 1 := Scalar.cmpi .ne v202 c0_i32_96
  v203

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev18 : Nat :=
  let c0_i32_882 : BitVec 32 := 0#32
  let c1_i32_880 : BitVec 32 := 1#32
  let c1_i32_881 : BitVec 32 := 1#32
  let v1512 : BitVec 32 := Scalar.muli c1_i32_880 c1_i32_881
  let v1513 : BitVec 32 := Scalar.addi c0_i32_882 v1512
  v1513.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_97 : BitVec 32 := 2#32
  let v204 : BitVec 1 := Scalar.cmpi .ne v2 c2_i32_97
  let v205 : BitVec 32 := Scalar.extui v204
  let c0_i32_99 : BitVec 32 := 0#32
  let v206 : BitVec 1 := Scalar.cmpi .ne v205 c0_i32_99
  v206

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev19 : Nat :=
  let c0_i32_882 : BitVec 32 := 0#32
  let c2_i32_880 : BitVec 32 := 2#32
  let c1_i32_881 : BitVec 32 := 1#32
  let v1512 : BitVec 32 := Scalar.muli c2_i32_880 c1_i32_881
  let v1513 : BitVec 32 := Scalar.addi c0_i32_882 v1512
  v1513.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_100 : BitVec 32 := 3#32
  let v207 : BitVec 1 := Scalar.cmpi .ne v2 c3_i32_100
  let v208 : BitVec 32 := Scalar.extui v207
  let c0_i32_102 : BitVec 32 := 0#32
  let v209 : BitVec 1 := Scalar.cmpi .ne v208 c0_i32_102
  v209

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev20 : Nat :=
  let c0_i32_882 : BitVec 32 := 0#32
  let c3_i32_880 : BitVec 32 := 3#32
  let c1_i32_881 : BitVec 32 := 1#32
  let v1512 : BitVec 32 := Scalar.muli c3_i32_880 c1_i32_881
  let v1513 : BitVec 32 := Scalar.addi c0_i32_882 v1512
  v1513.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_103 : BitVec 32 := 4#32
  let v210 : BitVec 1 := Scalar.cmpi .ne v2 c4_i32_103
  let v211 : BitVec 32 := Scalar.extui v210
  let c0_i32_105 : BitVec 32 := 0#32
  let v212 : BitVec 1 := Scalar.cmpi .ne v211 c0_i32_105
  v212

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev21 : Nat :=
  let c0_i32_882 : BitVec 32 := 0#32
  let c4_i32_880 : BitVec 32 := 4#32
  let c1_i32_881 : BitVec 32 := 1#32
  let v1512 : BitVec 32 := Scalar.muli c4_i32_880 c1_i32_881
  let v1513 : BitVec 32 := Scalar.addi c0_i32_882 v1512
  v1513.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_106 : BitVec 32 := 5#32
  let v213 : BitVec 1 := Scalar.cmpi .ne v2 c5_i32_106
  let v214 : BitVec 32 := Scalar.extui v213
  let c0_i32_108 : BitVec 32 := 0#32
  let v215 : BitVec 1 := Scalar.cmpi .ne v214 c0_i32_108
  v215

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev22 : Nat :=
  let c0_i32_882 : BitVec 32 := 0#32
  let c5_i32_880 : BitVec 32 := 5#32
  let c1_i32_881 : BitVec 32 := 1#32
  let v1512 : BitVec 32 := Scalar.muli c5_i32_880 c1_i32_881
  let v1513 : BitVec 32 := Scalar.addi c0_i32_882 v1512
  v1513.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_109 : BitVec 32 := 6#32
  let v216 : BitVec 1 := Scalar.cmpi .ne v2 c6_i32_109
  let v217 : BitVec 32 := Scalar.extui v216
  let c0_i32_111 : BitVec 32 := 0#32
  let v218 : BitVec 1 := Scalar.cmpi .ne v217 c0_i32_111
  v218

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev23 : Nat :=
  let c0_i32_882 : BitVec 32 := 0#32
  let c6_i32_880 : BitVec 32 := 6#32
  let c1_i32_881 : BitVec 32 := 1#32
  let v1512 : BitVec 32 := Scalar.muli c6_i32_880 c1_i32_881
  let v1513 : BitVec 32 := Scalar.addi c0_i32_882 v1512
  v1513.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_112 : BitVec 32 := 7#32
  let v219 : BitVec 1 := Scalar.cmpi .ne v2 c7_i32_112
  let v220 : BitVec 32 := Scalar.extui v219
  let c0_i32_114 : BitVec 32 := 0#32
  let v221 : BitVec 1 := Scalar.cmpi .ne v220 c0_i32_114
  v221

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev24 : Nat :=
  let c0_i32_882 : BitVec 32 := 0#32
  let c7_i32_880 : BitVec 32 := 7#32
  let c1_i32_881 : BitVec 32 := 1#32
  let v1512 : BitVec 32 := Scalar.muli c7_i32_880 c1_i32_881
  let v1513 : BitVec 32 := Scalar.addi c0_i32_882 v1512
  v1513.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_177 : BitVec 32 := 8#32
  let v310 : BitVec 1 := Scalar.cmpi .ne v2 c8_i32_177
  let v311 : BitVec 32 := Scalar.extui v310
  let c0_i32_179 : BitVec 32 := 0#32
  let v312 : BitVec 1 := Scalar.cmpi .ne v311 c0_i32_179
  v312

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev25 : Nat :=
  let c0_i32_882 : BitVec 32 := 0#32
  let c8_i32_880 : BitVec 32 := 8#32
  let c1_i32_881 : BitVec 32 := 1#32
  let v1512 : BitVec 32 := Scalar.muli c8_i32_880 c1_i32_881
  let v1513 : BitVec 32 := Scalar.addi c0_i32_882 v1512
  v1513.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_180 : BitVec 32 := 9#32
  let v313 : BitVec 1 := Scalar.cmpi .ne v2 c9_i32_180
  let v314 : BitVec 32 := Scalar.extui v313
  let c0_i32_182 : BitVec 32 := 0#32
  let v315 : BitVec 1 := Scalar.cmpi .ne v314 c0_i32_182
  v315

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev26 : Nat :=
  let c0_i32_882 : BitVec 32 := 0#32
  let c9_i32_880 : BitVec 32 := 9#32
  let c1_i32_881 : BitVec 32 := 1#32
  let v1512 : BitVec 32 := Scalar.muli c9_i32_880 c1_i32_881
  let v1513 : BitVec 32 := Scalar.addi c0_i32_882 v1512
  v1513.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_183 : BitVec 32 := 10#32
  let v316 : BitVec 1 := Scalar.cmpi .ne v2 c10_i32_183
  let v317 : BitVec 32 := Scalar.extui v316
  let c0_i32_185 : BitVec 32 := 0#32
  let v318 : BitVec 1 := Scalar.cmpi .ne v317 c0_i32_185
  v318

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev27 : Nat :=
  let c0_i32_882 : BitVec 32 := 0#32
  let c10_i32_880 : BitVec 32 := 10#32
  let c1_i32_881 : BitVec 32 := 1#32
  let v1512 : BitVec 32 := Scalar.muli c10_i32_880 c1_i32_881
  let v1513 : BitVec 32 := Scalar.addi c0_i32_882 v1512
  v1513.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_186 : BitVec 32 := 11#32
  let v319 : BitVec 1 := Scalar.cmpi .ne v2 c11_i32_186
  let v320 : BitVec 32 := Scalar.extui v319
  let c0_i32_188 : BitVec 32 := 0#32
  let v321 : BitVec 1 := Scalar.cmpi .ne v320 c0_i32_188
  v321

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev28 : Nat :=
  let c0_i32_882 : BitVec 32 := 0#32
  let c11_i32_880 : BitVec 32 := 11#32
  let c1_i32_881 : BitVec 32 := 1#32
  let v1512 : BitVec 32 := Scalar.muli c11_i32_880 c1_i32_881
  let v1513 : BitVec 32 := Scalar.addi c0_i32_882 v1512
  v1513.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_189 : BitVec 32 := 12#32
  let v322 : BitVec 1 := Scalar.cmpi .ne v2 c12_i32_189
  let v323 : BitVec 32 := Scalar.extui v322
  let c0_i32_191 : BitVec 32 := 0#32
  let v324 : BitVec 1 := Scalar.cmpi .ne v323 c0_i32_191
  v324

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev29 : Nat :=
  let c0_i32_882 : BitVec 32 := 0#32
  let c12_i32_880 : BitVec 32 := 12#32
  let c1_i32_881 : BitVec 32 := 1#32
  let v1512 : BitVec 32 := Scalar.muli c12_i32_880 c1_i32_881
  let v1513 : BitVec 32 := Scalar.addi c0_i32_882 v1512
  v1513.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_192 : BitVec 32 := 13#32
  let v325 : BitVec 1 := Scalar.cmpi .ne v2 c13_i32_192
  let v326 : BitVec 32 := Scalar.extui v325
  let c0_i32_194 : BitVec 32 := 0#32
  let v327 : BitVec 1 := Scalar.cmpi .ne v326 c0_i32_194
  v327

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev30 : Nat :=
  let c0_i32_882 : BitVec 32 := 0#32
  let c13_i32_880 : BitVec 32 := 13#32
  let c1_i32_881 : BitVec 32 := 1#32
  let v1512 : BitVec 32 := Scalar.muli c13_i32_880 c1_i32_881
  let v1513 : BitVec 32 := Scalar.addi c0_i32_882 v1512
  v1513.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_195 : BitVec 32 := 14#32
  let v328 : BitVec 1 := Scalar.cmpi .ne v2 c14_i32_195
  let v329 : BitVec 32 := Scalar.extui v328
  let c0_i32_197 : BitVec 32 := 0#32
  let v330 : BitVec 1 := Scalar.cmpi .ne v329 c0_i32_197
  v330

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev31 : Nat :=
  let c0_i32_882 : BitVec 32 := 0#32
  let c14_i32_880 : BitVec 32 := 14#32
  let c1_i32_881 : BitVec 32 := 1#32
  let v1512 : BitVec 32 := Scalar.muli c14_i32_880 c1_i32_881
  let v1513 : BitVec 32 := Scalar.addi c0_i32_882 v1512
  v1513.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_198 : BitVec 32 := 15#32
  let v331 : BitVec 1 := Scalar.cmpi .ne v2 c15_i32_198
  let v332 : BitVec 32 := Scalar.extui v331
  let c0_i32_200 : BitVec 32 := 0#32
  let v333 : BitVec 1 := Scalar.cmpi .ne v332 c0_i32_200
  v333

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_dev32 : Nat :=
  let c0_i32_882 : BitVec 32 := 0#32
  let c15_i32_880 : BitVec 32 := 15#32
  let c1_i32_881 : BitVec 32 := 1#32
  let v1512 : BitVec 32 := Scalar.muli c15_i32_880 c1_i32_881
  let v1513 : BitVec 32 := Scalar.addi c0_i32_882 v1512
  v1513.toNat
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_201 : BitVec 32 := 16#32
  let v334 : BitVec 32 := Scalar.muli v2 c16_i32_201
  let v335 : Index := Scalar.indexCast v334
  let c0_202 : Index := 0#32
  ![v335.toNat, 0]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v337 : Index := Scalar.indexCast v2
  let c0_203 : Index := 0#32
  let c0_204 : Index := 0#32
  ![v337.toNat, 0, 0]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_242 : BitVec 32 := 0#32
  let v392 : BitVec 1 := Scalar.cmpi .sgt v2 c0_i32_242
  let v393 : BitVec 32 := Scalar.extui v392
  let c0_i32_243 : BitVec 32 := 0#32
  let v394 : BitVec 1 := Scalar.cmpi .slt v2 c0_i32_243
  let v395 : BitVec 32 := Scalar.extui v394
  let v396 : BitVec 32 := Scalar.subi v393 v395
  let c8_i32_241 : BitVec 32 := 8#32
  let c0_i32_244 : BitVec 32 := 0#32
  let v397 : BitVec 1 := Scalar.cmpi .sgt c8_i32_241 c0_i32_244
  let v398 : BitVec 32 := Scalar.extui v397
  let c0_i32_245 : BitVec 32 := 0#32
  let v399 : BitVec 1 := Scalar.cmpi .slt c8_i32_241 c0_i32_245
  let v400 : BitVec 32 := Scalar.extui v399
  let v401 : BitVec 32 := Scalar.subi v398 v400
  let v402 : BitVec 1 := Scalar.cmpi .ne v396 v401
  let v403 : BitVec 32 := Scalar.remsi v2 c8_i32_241
  let c0_i32_246 : BitVec 32 := 0#32
  let v404 : BitVec 1 := Scalar.cmpi .ne v403 c0_i32_246
  let v405 : BitVec 1 := Scalar.andi v402 v404
  let v391 : BitVec 32 := Scalar.divsi v2 c8_i32_241
  let c1_i32_247 : BitVec 32 := 1#32
  let v406 : BitVec 32 := Scalar.subi v391 c1_i32_247
  let v407 : BitVec 32 := Scalar.select v405 v406 v391
  let v419 : Index := Scalar.indexCast v407
  let c8_i32_248 : BitVec 32 := 8#32
  let c0_i32_249 : BitVec 32 := 0#32
  let v408 : BitVec 1 := Scalar.cmpi .eq c8_i32_248 c0_i32_249
  let c1_i32_250 : BitVec 32 := 1#32
  let v409 : BitVec 32 := Scalar.select v408 c1_i32_250 c8_i32_248
  let v410 : BitVec 32 := Scalar.remsi v2 v409
  let c0_i32_252 : BitVec 32 := 0#32
  let v412 : BitVec 1 := Scalar.cmpi .slt v410 c0_i32_252
  let c0_i32_253 : BitVec 32 := 0#32
  let v413 : BitVec 1 := Scalar.cmpi .slt v409 c0_i32_253
  let v414 : BitVec 1 := Scalar.xori v412 v413
  let c0_i32_251 : BitVec 32 := 0#32
  let v411 : BitVec 1 := Scalar.cmpi .ne v410 c0_i32_251
  let v415 : BitVec 1 := Scalar.andi v414 v411
  let v416 : BitVec 32 := Scalar.addi v410 v409
  let v417 : BitVec 32 := Scalar.select v415 v416 v410
  let c16_i32_254 : BitVec 32 := 16#32
  let v418 : BitVec 32 := Scalar.muli v417 c16_i32_254
  let v420 : Index := Scalar.indexCast v418
  let c0_255 : Index := 0#32
  ![v419.toNat, v420.toNat, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_284 : BitVec 32 := 0#32
  let v480 : BitVec 1 := Scalar.cmpi .ne v2 c0_i32_284
  let v481 : BitVec 32 := Scalar.extui v480
  let c0_i32_286 : BitVec 32 := 0#32
  let v482 : BitVec 1 := Scalar.cmpi .ne v481 c0_i32_286
  v482

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_271 : BitVec 32 := 0#32
  let v453 : BitVec 1 := Scalar.cmpi .sgt v2 c0_i32_271
  let v454 : BitVec 32 := Scalar.extui v453
  let c0_i32_272 : BitVec 32 := 0#32
  let v455 : BitVec 1 := Scalar.cmpi .slt v2 c0_i32_272
  let v456 : BitVec 32 := Scalar.extui v455
  let v457 : BitVec 32 := Scalar.subi v454 v456
  let c8_i32_270 : BitVec 32 := 8#32
  let c0_i32_273 : BitVec 32 := 0#32
  let v458 : BitVec 1 := Scalar.cmpi .sgt c8_i32_270 c0_i32_273
  let v459 : BitVec 32 := Scalar.extui v458
  let c0_i32_274 : BitVec 32 := 0#32
  let v460 : BitVec 1 := Scalar.cmpi .slt c8_i32_270 c0_i32_274
  let v461 : BitVec 32 := Scalar.extui v460
  let v462 : BitVec 32 := Scalar.subi v459 v461
  let v463 : BitVec 1 := Scalar.cmpi .ne v457 v462
  let v464 : BitVec 32 := Scalar.remsi v2 c8_i32_270
  let c0_i32_275 : BitVec 32 := 0#32
  let v465 : BitVec 1 := Scalar.cmpi .ne v464 c0_i32_275
  let v466 : BitVec 1 := Scalar.andi v463 v465
  let v452 : BitVec 32 := Scalar.divsi v2 c8_i32_270
  let c1_i32_276 : BitVec 32 := 1#32
  let v467 : BitVec 32 := Scalar.subi v452 c1_i32_276
  let v468 : BitVec 32 := Scalar.select v466 v467 v452
  let c8_i32_277 : BitVec 32 := 8#32
  let c0_i32_278 : BitVec 32 := 0#32
  let v469 : BitVec 1 := Scalar.cmpi .eq c8_i32_277 c0_i32_278
  let c1_i32_279 : BitVec 32 := 1#32
  let v470 : BitVec 32 := Scalar.select v469 c1_i32_279 c8_i32_277
  let v471 : BitVec 32 := Scalar.remsi v2 v470
  let c0_i32_281 : BitVec 32 := 0#32
  let v473 : BitVec 1 := Scalar.cmpi .slt v471 c0_i32_281
  let c0_i32_282 : BitVec 32 := 0#32
  let v474 : BitVec 1 := Scalar.cmpi .slt v470 c0_i32_282
  let v475 : BitVec 1 := Scalar.xori v473 v474
  let c0_i32_280 : BitVec 32 := 0#32
  let v472 : BitVec 1 := Scalar.cmpi .ne v471 c0_i32_280
  let v476 : BitVec 1 := Scalar.andi v475 v472
  let v477 : BitVec 32 := Scalar.addi v471 v470
  let v478 : BitVec 32 := Scalar.select v476 v477 v471
  let c16_i32_283 : BitVec 32 := 16#32
  let v479 : BitVec 32 := Scalar.muli v478 c16_i32_283
  let c0_i32_883 : BitVec 32 := 0#32
  ![v468.toNat, v479.toNat, 0]
def k0_dev33 : Nat :=
  let c0_i32_882 : BitVec 32 := 0#32
  let c0_i32_880 : BitVec 32 := 0#32
  let c1_i32_881 : BitVec 32 := 1#32
  let v1512 : BitVec 32 := Scalar.muli c0_i32_880 c1_i32_881
  let v1513 : BitVec 32 := Scalar.addi c0_i32_882 v1512
  v1513.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_315 : BitVec 32 := 1#32
  let v539 : BitVec 1 := Scalar.cmpi .ne v2 c1_i32_315
  let v540 : BitVec 32 := Scalar.extui v539
  let c0_i32_317 : BitVec 32 := 0#32
  let v541 : BitVec 1 := Scalar.cmpi .ne v540 c0_i32_317
  v541

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_302 : BitVec 32 := 0#32
  let v512 : BitVec 1 := Scalar.cmpi .sgt v2 c0_i32_302
  let v513 : BitVec 32 := Scalar.extui v512
  let c0_i32_303 : BitVec 32 := 0#32
  let v514 : BitVec 1 := Scalar.cmpi .slt v2 c0_i32_303
  let v515 : BitVec 32 := Scalar.extui v514
  let v516 : BitVec 32 := Scalar.subi v513 v515
  let c8_i32_301 : BitVec 32 := 8#32
  let c0_i32_304 : BitVec 32 := 0#32
  let v517 : BitVec 1 := Scalar.cmpi .sgt c8_i32_301 c0_i32_304
  let v518 : BitVec 32 := Scalar.extui v517
  let c0_i32_305 : BitVec 32 := 0#32
  let v519 : BitVec 1 := Scalar.cmpi .slt c8_i32_301 c0_i32_305
  let v520 : BitVec 32 := Scalar.extui v519
  let v521 : BitVec 32 := Scalar.subi v518 v520
  let v522 : BitVec 1 := Scalar.cmpi .ne v516 v521
  let v523 : BitVec 32 := Scalar.remsi v2 c8_i32_301
  let c0_i32_306 : BitVec 32 := 0#32
  let v524 : BitVec 1 := Scalar.cmpi .ne v523 c0_i32_306
  let v525 : BitVec 1 := Scalar.andi v522 v524
  let v511 : BitVec 32 := Scalar.divsi v2 c8_i32_301
  let c1_i32_307 : BitVec 32 := 1#32
  let v526 : BitVec 32 := Scalar.subi v511 c1_i32_307
  let v527 : BitVec 32 := Scalar.select v525 v526 v511
  let c8_i32_308 : BitVec 32 := 8#32
  let c0_i32_309 : BitVec 32 := 0#32
  let v528 : BitVec 1 := Scalar.cmpi .eq c8_i32_308 c0_i32_309
  let c1_i32_310 : BitVec 32 := 1#32
  let v529 : BitVec 32 := Scalar.select v528 c1_i32_310 c8_i32_308
  let v530 : BitVec 32 := Scalar.remsi v2 v529
  let c0_i32_312 : BitVec 32 := 0#32
  let v532 : BitVec 1 := Scalar.cmpi .slt v530 c0_i32_312
  let c0_i32_313 : BitVec 32 := 0#32
  let v533 : BitVec 1 := Scalar.cmpi .slt v529 c0_i32_313
  let v534 : BitVec 1 := Scalar.xori v532 v533
  let c0_i32_311 : BitVec 32 := 0#32
  let v531 : BitVec 1 := Scalar.cmpi .ne v530 c0_i32_311
  let v535 : BitVec 1 := Scalar.andi v534 v531
  let v536 : BitVec 32 := Scalar.addi v530 v529
  let v537 : BitVec 32 := Scalar.select v535 v536 v530
  let c16_i32_314 : BitVec 32 := 16#32
  let v538 : BitVec 32 := Scalar.muli v537 c16_i32_314
  let c0_i32_883 : BitVec 32 := 0#32
  ![v527.toNat, v538.toNat, 0]
def k0_dev34 : Nat :=
  let c0_i32_882 : BitVec 32 := 0#32
  let c1_i32_880 : BitVec 32 := 1#32
  let c1_i32_881 : BitVec 32 := 1#32
  let v1512 : BitVec 32 := Scalar.muli c1_i32_880 c1_i32_881
  let v1513 : BitVec 32 := Scalar.addi c0_i32_882 v1512
  v1513.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_346 : BitVec 32 := 2#32
  let v598 : BitVec 1 := Scalar.cmpi .ne v2 c2_i32_346
  let v599 : BitVec 32 := Scalar.extui v598
  let c0_i32_348 : BitVec 32 := 0#32
  let v600 : BitVec 1 := Scalar.cmpi .ne v599 c0_i32_348
  v600

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_333 : BitVec 32 := 0#32
  let v571 : BitVec 1 := Scalar.cmpi .sgt v2 c0_i32_333
  let v572 : BitVec 32 := Scalar.extui v571
  let c0_i32_334 : BitVec 32 := 0#32
  let v573 : BitVec 1 := Scalar.cmpi .slt v2 c0_i32_334
  let v574 : BitVec 32 := Scalar.extui v573
  let v575 : BitVec 32 := Scalar.subi v572 v574
  let c8_i32_332 : BitVec 32 := 8#32
  let c0_i32_335 : BitVec 32 := 0#32
  let v576 : BitVec 1 := Scalar.cmpi .sgt c8_i32_332 c0_i32_335
  let v577 : BitVec 32 := Scalar.extui v576
  let c0_i32_336 : BitVec 32 := 0#32
  let v578 : BitVec 1 := Scalar.cmpi .slt c8_i32_332 c0_i32_336
  let v579 : BitVec 32 := Scalar.extui v578
  let v580 : BitVec 32 := Scalar.subi v577 v579
  let v581 : BitVec 1 := Scalar.cmpi .ne v575 v580
  let v582 : BitVec 32 := Scalar.remsi v2 c8_i32_332
  let c0_i32_337 : BitVec 32 := 0#32
  let v583 : BitVec 1 := Scalar.cmpi .ne v582 c0_i32_337
  let v584 : BitVec 1 := Scalar.andi v581 v583
  let v570 : BitVec 32 := Scalar.divsi v2 c8_i32_332
  let c1_i32_338 : BitVec 32 := 1#32
  let v585 : BitVec 32 := Scalar.subi v570 c1_i32_338
  let v586 : BitVec 32 := Scalar.select v584 v585 v570
  let c8_i32_339 : BitVec 32 := 8#32
  let c0_i32_340 : BitVec 32 := 0#32
  let v587 : BitVec 1 := Scalar.cmpi .eq c8_i32_339 c0_i32_340
  let c1_i32_341 : BitVec 32 := 1#32
  let v588 : BitVec 32 := Scalar.select v587 c1_i32_341 c8_i32_339
  let v589 : BitVec 32 := Scalar.remsi v2 v588
  let c0_i32_343 : BitVec 32 := 0#32
  let v591 : BitVec 1 := Scalar.cmpi .slt v589 c0_i32_343
  let c0_i32_344 : BitVec 32 := 0#32
  let v592 : BitVec 1 := Scalar.cmpi .slt v588 c0_i32_344
  let v593 : BitVec 1 := Scalar.xori v591 v592
  let c0_i32_342 : BitVec 32 := 0#32
  let v590 : BitVec 1 := Scalar.cmpi .ne v589 c0_i32_342
  let v594 : BitVec 1 := Scalar.andi v593 v590
  let v595 : BitVec 32 := Scalar.addi v589 v588
  let v596 : BitVec 32 := Scalar.select v594 v595 v589
  let c16_i32_345 : BitVec 32 := 16#32
  let v597 : BitVec 32 := Scalar.muli v596 c16_i32_345
  let c0_i32_883 : BitVec 32 := 0#32
  ![v586.toNat, v597.toNat, 0]
def k0_dev35 : Nat :=
  let c0_i32_882 : BitVec 32 := 0#32
  let c2_i32_880 : BitVec 32 := 2#32
  let c1_i32_881 : BitVec 32 := 1#32
  let v1512 : BitVec 32 := Scalar.muli c2_i32_880 c1_i32_881
  let v1513 : BitVec 32 := Scalar.addi c0_i32_882 v1512
  v1513.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_377 : BitVec 32 := 3#32
  let v657 : BitVec 1 := Scalar.cmpi .ne v2 c3_i32_377
  let v658 : BitVec 32 := Scalar.extui v657
  let c0_i32_379 : BitVec 32 := 0#32
  let v659 : BitVec 1 := Scalar.cmpi .ne v658 c0_i32_379
  v659

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_364 : BitVec 32 := 0#32
  let v630 : BitVec 1 := Scalar.cmpi .sgt v2 c0_i32_364
  let v631 : BitVec 32 := Scalar.extui v630
  let c0_i32_365 : BitVec 32 := 0#32
  let v632 : BitVec 1 := Scalar.cmpi .slt v2 c0_i32_365
  let v633 : BitVec 32 := Scalar.extui v632
  let v634 : BitVec 32 := Scalar.subi v631 v633
  let c8_i32_363 : BitVec 32 := 8#32
  let c0_i32_366 : BitVec 32 := 0#32
  let v635 : BitVec 1 := Scalar.cmpi .sgt c8_i32_363 c0_i32_366
  let v636 : BitVec 32 := Scalar.extui v635
  let c0_i32_367 : BitVec 32 := 0#32
  let v637 : BitVec 1 := Scalar.cmpi .slt c8_i32_363 c0_i32_367
  let v638 : BitVec 32 := Scalar.extui v637
  let v639 : BitVec 32 := Scalar.subi v636 v638
  let v640 : BitVec 1 := Scalar.cmpi .ne v634 v639
  let v641 : BitVec 32 := Scalar.remsi v2 c8_i32_363
  let c0_i32_368 : BitVec 32 := 0#32
  let v642 : BitVec 1 := Scalar.cmpi .ne v641 c0_i32_368
  let v643 : BitVec 1 := Scalar.andi v640 v642
  let v629 : BitVec 32 := Scalar.divsi v2 c8_i32_363
  let c1_i32_369 : BitVec 32 := 1#32
  let v644 : BitVec 32 := Scalar.subi v629 c1_i32_369
  let v645 : BitVec 32 := Scalar.select v643 v644 v629
  let c8_i32_370 : BitVec 32 := 8#32
  let c0_i32_371 : BitVec 32 := 0#32
  let v646 : BitVec 1 := Scalar.cmpi .eq c8_i32_370 c0_i32_371
  let c1_i32_372 : BitVec 32 := 1#32
  let v647 : BitVec 32 := Scalar.select v646 c1_i32_372 c8_i32_370
  let v648 : BitVec 32 := Scalar.remsi v2 v647
  let c0_i32_374 : BitVec 32 := 0#32
  let v650 : BitVec 1 := Scalar.cmpi .slt v648 c0_i32_374
  let c0_i32_375 : BitVec 32 := 0#32
  let v651 : BitVec 1 := Scalar.cmpi .slt v647 c0_i32_375
  let v652 : BitVec 1 := Scalar.xori v650 v651
  let c0_i32_373 : BitVec 32 := 0#32
  let v649 : BitVec 1 := Scalar.cmpi .ne v648 c0_i32_373
  let v653 : BitVec 1 := Scalar.andi v652 v649
  let v654 : BitVec 32 := Scalar.addi v648 v647
  let v655 : BitVec 32 := Scalar.select v653 v654 v648
  let c16_i32_376 : BitVec 32 := 16#32
  let v656 : BitVec 32 := Scalar.muli v655 c16_i32_376
  let c0_i32_883 : BitVec 32 := 0#32
  ![v645.toNat, v656.toNat, 0]
def k0_dev36 : Nat :=
  let c0_i32_882 : BitVec 32 := 0#32
  let c3_i32_880 : BitVec 32 := 3#32
  let c1_i32_881 : BitVec 32 := 1#32
  let v1512 : BitVec 32 := Scalar.muli c3_i32_880 c1_i32_881
  let v1513 : BitVec 32 := Scalar.addi c0_i32_882 v1512
  v1513.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_408 : BitVec 32 := 4#32
  let v716 : BitVec 1 := Scalar.cmpi .ne v2 c4_i32_408
  let v717 : BitVec 32 := Scalar.extui v716
  let c0_i32_410 : BitVec 32 := 0#32
  let v718 : BitVec 1 := Scalar.cmpi .ne v717 c0_i32_410
  v718

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_395 : BitVec 32 := 0#32
  let v689 : BitVec 1 := Scalar.cmpi .sgt v2 c0_i32_395
  let v690 : BitVec 32 := Scalar.extui v689
  let c0_i32_396 : BitVec 32 := 0#32
  let v691 : BitVec 1 := Scalar.cmpi .slt v2 c0_i32_396
  let v692 : BitVec 32 := Scalar.extui v691
  let v693 : BitVec 32 := Scalar.subi v690 v692
  let c8_i32_394 : BitVec 32 := 8#32
  let c0_i32_397 : BitVec 32 := 0#32
  let v694 : BitVec 1 := Scalar.cmpi .sgt c8_i32_394 c0_i32_397
  let v695 : BitVec 32 := Scalar.extui v694
  let c0_i32_398 : BitVec 32 := 0#32
  let v696 : BitVec 1 := Scalar.cmpi .slt c8_i32_394 c0_i32_398
  let v697 : BitVec 32 := Scalar.extui v696
  let v698 : BitVec 32 := Scalar.subi v695 v697
  let v699 : BitVec 1 := Scalar.cmpi .ne v693 v698
  let v700 : BitVec 32 := Scalar.remsi v2 c8_i32_394
  let c0_i32_399 : BitVec 32 := 0#32
  let v701 : BitVec 1 := Scalar.cmpi .ne v700 c0_i32_399
  let v702 : BitVec 1 := Scalar.andi v699 v701
  let v688 : BitVec 32 := Scalar.divsi v2 c8_i32_394
  let c1_i32_400 : BitVec 32 := 1#32
  let v703 : BitVec 32 := Scalar.subi v688 c1_i32_400
  let v704 : BitVec 32 := Scalar.select v702 v703 v688
  let c8_i32_401 : BitVec 32 := 8#32
  let c0_i32_402 : BitVec 32 := 0#32
  let v705 : BitVec 1 := Scalar.cmpi .eq c8_i32_401 c0_i32_402
  let c1_i32_403 : BitVec 32 := 1#32
  let v706 : BitVec 32 := Scalar.select v705 c1_i32_403 c8_i32_401
  let v707 : BitVec 32 := Scalar.remsi v2 v706
  let c0_i32_405 : BitVec 32 := 0#32
  let v709 : BitVec 1 := Scalar.cmpi .slt v707 c0_i32_405
  let c0_i32_406 : BitVec 32 := 0#32
  let v710 : BitVec 1 := Scalar.cmpi .slt v706 c0_i32_406
  let v711 : BitVec 1 := Scalar.xori v709 v710
  let c0_i32_404 : BitVec 32 := 0#32
  let v708 : BitVec 1 := Scalar.cmpi .ne v707 c0_i32_404
  let v712 : BitVec 1 := Scalar.andi v711 v708
  let v713 : BitVec 32 := Scalar.addi v707 v706
  let v714 : BitVec 32 := Scalar.select v712 v713 v707
  let c16_i32_407 : BitVec 32 := 16#32
  let v715 : BitVec 32 := Scalar.muli v714 c16_i32_407
  let c0_i32_883 : BitVec 32 := 0#32
  ![v704.toNat, v715.toNat, 0]
def k0_dev37 : Nat :=
  let c0_i32_882 : BitVec 32 := 0#32
  let c4_i32_880 : BitVec 32 := 4#32
  let c1_i32_881 : BitVec 32 := 1#32
  let v1512 : BitVec 32 := Scalar.muli c4_i32_880 c1_i32_881
  let v1513 : BitVec 32 := Scalar.addi c0_i32_882 v1512
  v1513.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_439 : BitVec 32 := 5#32
  let v775 : BitVec 1 := Scalar.cmpi .ne v2 c5_i32_439
  let v776 : BitVec 32 := Scalar.extui v775
  let c0_i32_441 : BitVec 32 := 0#32
  let v777 : BitVec 1 := Scalar.cmpi .ne v776 c0_i32_441
  v777

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_426 : BitVec 32 := 0#32
  let v748 : BitVec 1 := Scalar.cmpi .sgt v2 c0_i32_426
  let v749 : BitVec 32 := Scalar.extui v748
  let c0_i32_427 : BitVec 32 := 0#32
  let v750 : BitVec 1 := Scalar.cmpi .slt v2 c0_i32_427
  let v751 : BitVec 32 := Scalar.extui v750
  let v752 : BitVec 32 := Scalar.subi v749 v751
  let c8_i32_425 : BitVec 32 := 8#32
  let c0_i32_428 : BitVec 32 := 0#32
  let v753 : BitVec 1 := Scalar.cmpi .sgt c8_i32_425 c0_i32_428
  let v754 : BitVec 32 := Scalar.extui v753
  let c0_i32_429 : BitVec 32 := 0#32
  let v755 : BitVec 1 := Scalar.cmpi .slt c8_i32_425 c0_i32_429
  let v756 : BitVec 32 := Scalar.extui v755
  let v757 : BitVec 32 := Scalar.subi v754 v756
  let v758 : BitVec 1 := Scalar.cmpi .ne v752 v757
  let v759 : BitVec 32 := Scalar.remsi v2 c8_i32_425
  let c0_i32_430 : BitVec 32 := 0#32
  let v760 : BitVec 1 := Scalar.cmpi .ne v759 c0_i32_430
  let v761 : BitVec 1 := Scalar.andi v758 v760
  let v747 : BitVec 32 := Scalar.divsi v2 c8_i32_425
  let c1_i32_431 : BitVec 32 := 1#32
  let v762 : BitVec 32 := Scalar.subi v747 c1_i32_431
  let v763 : BitVec 32 := Scalar.select v761 v762 v747
  let c8_i32_432 : BitVec 32 := 8#32
  let c0_i32_433 : BitVec 32 := 0#32
  let v764 : BitVec 1 := Scalar.cmpi .eq c8_i32_432 c0_i32_433
  let c1_i32_434 : BitVec 32 := 1#32
  let v765 : BitVec 32 := Scalar.select v764 c1_i32_434 c8_i32_432
  let v766 : BitVec 32 := Scalar.remsi v2 v765
  let c0_i32_436 : BitVec 32 := 0#32
  let v768 : BitVec 1 := Scalar.cmpi .slt v766 c0_i32_436
  let c0_i32_437 : BitVec 32 := 0#32
  let v769 : BitVec 1 := Scalar.cmpi .slt v765 c0_i32_437
  let v770 : BitVec 1 := Scalar.xori v768 v769
  let c0_i32_435 : BitVec 32 := 0#32
  let v767 : BitVec 1 := Scalar.cmpi .ne v766 c0_i32_435
  let v771 : BitVec 1 := Scalar.andi v770 v767
  let v772 : BitVec 32 := Scalar.addi v766 v765
  let v773 : BitVec 32 := Scalar.select v771 v772 v766
  let c16_i32_438 : BitVec 32 := 16#32
  let v774 : BitVec 32 := Scalar.muli v773 c16_i32_438
  let c0_i32_883 : BitVec 32 := 0#32
  ![v763.toNat, v774.toNat, 0]
def k0_dev38 : Nat :=
  let c0_i32_882 : BitVec 32 := 0#32
  let c5_i32_880 : BitVec 32 := 5#32
  let c1_i32_881 : BitVec 32 := 1#32
  let v1512 : BitVec 32 := Scalar.muli c5_i32_880 c1_i32_881
  let v1513 : BitVec 32 := Scalar.addi c0_i32_882 v1512
  v1513.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_470 : BitVec 32 := 6#32
  let v834 : BitVec 1 := Scalar.cmpi .ne v2 c6_i32_470
  let v835 : BitVec 32 := Scalar.extui v834
  let c0_i32_472 : BitVec 32 := 0#32
  let v836 : BitVec 1 := Scalar.cmpi .ne v835 c0_i32_472
  v836

def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_457 : BitVec 32 := 0#32
  let v807 : BitVec 1 := Scalar.cmpi .sgt v2 c0_i32_457
  let v808 : BitVec 32 := Scalar.extui v807
  let c0_i32_458 : BitVec 32 := 0#32
  let v809 : BitVec 1 := Scalar.cmpi .slt v2 c0_i32_458
  let v810 : BitVec 32 := Scalar.extui v809
  let v811 : BitVec 32 := Scalar.subi v808 v810
  let c8_i32_456 : BitVec 32 := 8#32
  let c0_i32_459 : BitVec 32 := 0#32
  let v812 : BitVec 1 := Scalar.cmpi .sgt c8_i32_456 c0_i32_459
  let v813 : BitVec 32 := Scalar.extui v812
  let c0_i32_460 : BitVec 32 := 0#32
  let v814 : BitVec 1 := Scalar.cmpi .slt c8_i32_456 c0_i32_460
  let v815 : BitVec 32 := Scalar.extui v814
  let v816 : BitVec 32 := Scalar.subi v813 v815
  let v817 : BitVec 1 := Scalar.cmpi .ne v811 v816
  let v818 : BitVec 32 := Scalar.remsi v2 c8_i32_456
  let c0_i32_461 : BitVec 32 := 0#32
  let v819 : BitVec 1 := Scalar.cmpi .ne v818 c0_i32_461
  let v820 : BitVec 1 := Scalar.andi v817 v819
  let v806 : BitVec 32 := Scalar.divsi v2 c8_i32_456
  let c1_i32_462 : BitVec 32 := 1#32
  let v821 : BitVec 32 := Scalar.subi v806 c1_i32_462
  let v822 : BitVec 32 := Scalar.select v820 v821 v806
  let c8_i32_463 : BitVec 32 := 8#32
  let c0_i32_464 : BitVec 32 := 0#32
  let v823 : BitVec 1 := Scalar.cmpi .eq c8_i32_463 c0_i32_464
  let c1_i32_465 : BitVec 32 := 1#32
  let v824 : BitVec 32 := Scalar.select v823 c1_i32_465 c8_i32_463
  let v825 : BitVec 32 := Scalar.remsi v2 v824
  let c0_i32_467 : BitVec 32 := 0#32
  let v827 : BitVec 1 := Scalar.cmpi .slt v825 c0_i32_467
  let c0_i32_468 : BitVec 32 := 0#32
  let v828 : BitVec 1 := Scalar.cmpi .slt v824 c0_i32_468
  let v829 : BitVec 1 := Scalar.xori v827 v828
  let c0_i32_466 : BitVec 32 := 0#32
  let v826 : BitVec 1 := Scalar.cmpi .ne v825 c0_i32_466
  let v830 : BitVec 1 := Scalar.andi v829 v826
  let v831 : BitVec 32 := Scalar.addi v825 v824
  let v832 : BitVec 32 := Scalar.select v830 v831 v825
  let c16_i32_469 : BitVec 32 := 16#32
  let v833 : BitVec 32 := Scalar.muli v832 c16_i32_469
  let c0_i32_883 : BitVec 32 := 0#32
  ![v822.toNat, v833.toNat, 0]
def k0_dev39 : Nat :=
  let c0_i32_882 : BitVec 32 := 0#32
  let c6_i32_880 : BitVec 32 := 6#32
  let c1_i32_881 : BitVec 32 := 1#32
  let v1512 : BitVec 32 := Scalar.muli c6_i32_880 c1_i32_881
  let v1513 : BitVec 32 := Scalar.addi c0_i32_882 v1512
  v1513.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_501 : BitVec 32 := 7#32
  let v893 : BitVec 1 := Scalar.cmpi .ne v2 c7_i32_501
  let v894 : BitVec 32 := Scalar.extui v893
  let c0_i32_503 : BitVec 32 := 0#32
  let v895 : BitVec 1 := Scalar.cmpi .ne v894 c0_i32_503
  v895

def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_488 : BitVec 32 := 0#32
  let v866 : BitVec 1 := Scalar.cmpi .sgt v2 c0_i32_488
  let v867 : BitVec 32 := Scalar.extui v866
  let c0_i32_489 : BitVec 32 := 0#32
  let v868 : BitVec 1 := Scalar.cmpi .slt v2 c0_i32_489
  let v869 : BitVec 32 := Scalar.extui v868
  let v870 : BitVec 32 := Scalar.subi v867 v869
  let c8_i32_487 : BitVec 32 := 8#32
  let c0_i32_490 : BitVec 32 := 0#32
  let v871 : BitVec 1 := Scalar.cmpi .sgt c8_i32_487 c0_i32_490
  let v872 : BitVec 32 := Scalar.extui v871
  let c0_i32_491 : BitVec 32 := 0#32
  let v873 : BitVec 1 := Scalar.cmpi .slt c8_i32_487 c0_i32_491
  let v874 : BitVec 32 := Scalar.extui v873
  let v875 : BitVec 32 := Scalar.subi v872 v874
  let v876 : BitVec 1 := Scalar.cmpi .ne v870 v875
  let v877 : BitVec 32 := Scalar.remsi v2 c8_i32_487
  let c0_i32_492 : BitVec 32 := 0#32
  let v878 : BitVec 1 := Scalar.cmpi .ne v877 c0_i32_492
  let v879 : BitVec 1 := Scalar.andi v876 v878
  let v865 : BitVec 32 := Scalar.divsi v2 c8_i32_487
  let c1_i32_493 : BitVec 32 := 1#32
  let v880 : BitVec 32 := Scalar.subi v865 c1_i32_493
  let v881 : BitVec 32 := Scalar.select v879 v880 v865
  let c8_i32_494 : BitVec 32 := 8#32
  let c0_i32_495 : BitVec 32 := 0#32
  let v882 : BitVec 1 := Scalar.cmpi .eq c8_i32_494 c0_i32_495
  let c1_i32_496 : BitVec 32 := 1#32
  let v883 : BitVec 32 := Scalar.select v882 c1_i32_496 c8_i32_494
  let v884 : BitVec 32 := Scalar.remsi v2 v883
  let c0_i32_498 : BitVec 32 := 0#32
  let v886 : BitVec 1 := Scalar.cmpi .slt v884 c0_i32_498
  let c0_i32_499 : BitVec 32 := 0#32
  let v887 : BitVec 1 := Scalar.cmpi .slt v883 c0_i32_499
  let v888 : BitVec 1 := Scalar.xori v886 v887
  let c0_i32_497 : BitVec 32 := 0#32
  let v885 : BitVec 1 := Scalar.cmpi .ne v884 c0_i32_497
  let v889 : BitVec 1 := Scalar.andi v888 v885
  let v890 : BitVec 32 := Scalar.addi v884 v883
  let v891 : BitVec 32 := Scalar.select v889 v890 v884
  let c16_i32_500 : BitVec 32 := 16#32
  let v892 : BitVec 32 := Scalar.muli v891 c16_i32_500
  let c0_i32_883 : BitVec 32 := 0#32
  ![v881.toNat, v892.toNat, 0]
def k0_dev40 : Nat :=
  let c0_i32_882 : BitVec 32 := 0#32
  let c7_i32_880 : BitVec 32 := 7#32
  let c1_i32_881 : BitVec 32 := 1#32
  let v1512 : BitVec 32 := Scalar.muli c7_i32_880 c1_i32_881
  let v1513 : BitVec 32 := Scalar.addi c0_i32_882 v1512
  v1513.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_532 : BitVec 32 := 8#32
  let v952 : BitVec 1 := Scalar.cmpi .ne v2 c8_i32_532
  let v953 : BitVec 32 := Scalar.extui v952
  let c0_i32_534 : BitVec 32 := 0#32
  let v954 : BitVec 1 := Scalar.cmpi .ne v953 c0_i32_534
  v954

def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_519 : BitVec 32 := 0#32
  let v925 : BitVec 1 := Scalar.cmpi .sgt v2 c0_i32_519
  let v926 : BitVec 32 := Scalar.extui v925
  let c0_i32_520 : BitVec 32 := 0#32
  let v927 : BitVec 1 := Scalar.cmpi .slt v2 c0_i32_520
  let v928 : BitVec 32 := Scalar.extui v927
  let v929 : BitVec 32 := Scalar.subi v926 v928
  let c8_i32_518 : BitVec 32 := 8#32
  let c0_i32_521 : BitVec 32 := 0#32
  let v930 : BitVec 1 := Scalar.cmpi .sgt c8_i32_518 c0_i32_521
  let v931 : BitVec 32 := Scalar.extui v930
  let c0_i32_522 : BitVec 32 := 0#32
  let v932 : BitVec 1 := Scalar.cmpi .slt c8_i32_518 c0_i32_522
  let v933 : BitVec 32 := Scalar.extui v932
  let v934 : BitVec 32 := Scalar.subi v931 v933
  let v935 : BitVec 1 := Scalar.cmpi .ne v929 v934
  let v936 : BitVec 32 := Scalar.remsi v2 c8_i32_518
  let c0_i32_523 : BitVec 32 := 0#32
  let v937 : BitVec 1 := Scalar.cmpi .ne v936 c0_i32_523
  let v938 : BitVec 1 := Scalar.andi v935 v937
  let v924 : BitVec 32 := Scalar.divsi v2 c8_i32_518
  let c1_i32_524 : BitVec 32 := 1#32
  let v939 : BitVec 32 := Scalar.subi v924 c1_i32_524
  let v940 : BitVec 32 := Scalar.select v938 v939 v924
  let c8_i32_525 : BitVec 32 := 8#32
  let c0_i32_526 : BitVec 32 := 0#32
  let v941 : BitVec 1 := Scalar.cmpi .eq c8_i32_525 c0_i32_526
  let c1_i32_527 : BitVec 32 := 1#32
  let v942 : BitVec 32 := Scalar.select v941 c1_i32_527 c8_i32_525
  let v943 : BitVec 32 := Scalar.remsi v2 v942
  let c0_i32_529 : BitVec 32 := 0#32
  let v945 : BitVec 1 := Scalar.cmpi .slt v943 c0_i32_529
  let c0_i32_530 : BitVec 32 := 0#32
  let v946 : BitVec 1 := Scalar.cmpi .slt v942 c0_i32_530
  let v947 : BitVec 1 := Scalar.xori v945 v946
  let c0_i32_528 : BitVec 32 := 0#32
  let v944 : BitVec 1 := Scalar.cmpi .ne v943 c0_i32_528
  let v948 : BitVec 1 := Scalar.andi v947 v944
  let v949 : BitVec 32 := Scalar.addi v943 v942
  let v950 : BitVec 32 := Scalar.select v948 v949 v943
  let c16_i32_531 : BitVec 32 := 16#32
  let v951 : BitVec 32 := Scalar.muli v950 c16_i32_531
  let c0_i32_883 : BitVec 32 := 0#32
  ![v940.toNat, v951.toNat, 0]
def k0_dev41 : Nat :=
  let c0_i32_882 : BitVec 32 := 0#32
  let c8_i32_880 : BitVec 32 := 8#32
  let c1_i32_881 : BitVec 32 := 1#32
  let v1512 : BitVec 32 := Scalar.muli c8_i32_880 c1_i32_881
  let v1513 : BitVec 32 := Scalar.addi c0_i32_882 v1512
  v1513.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_563 : BitVec 32 := 9#32
  let v1011 : BitVec 1 := Scalar.cmpi .ne v2 c9_i32_563
  let v1012 : BitVec 32 := Scalar.extui v1011
  let c0_i32_565 : BitVec 32 := 0#32
  let v1013 : BitVec 1 := Scalar.cmpi .ne v1012 c0_i32_565
  v1013

def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_550 : BitVec 32 := 0#32
  let v984 : BitVec 1 := Scalar.cmpi .sgt v2 c0_i32_550
  let v985 : BitVec 32 := Scalar.extui v984
  let c0_i32_551 : BitVec 32 := 0#32
  let v986 : BitVec 1 := Scalar.cmpi .slt v2 c0_i32_551
  let v987 : BitVec 32 := Scalar.extui v986
  let v988 : BitVec 32 := Scalar.subi v985 v987
  let c8_i32_549 : BitVec 32 := 8#32
  let c0_i32_552 : BitVec 32 := 0#32
  let v989 : BitVec 1 := Scalar.cmpi .sgt c8_i32_549 c0_i32_552
  let v990 : BitVec 32 := Scalar.extui v989
  let c0_i32_553 : BitVec 32 := 0#32
  let v991 : BitVec 1 := Scalar.cmpi .slt c8_i32_549 c0_i32_553
  let v992 : BitVec 32 := Scalar.extui v991
  let v993 : BitVec 32 := Scalar.subi v990 v992
  let v994 : BitVec 1 := Scalar.cmpi .ne v988 v993
  let v995 : BitVec 32 := Scalar.remsi v2 c8_i32_549
  let c0_i32_554 : BitVec 32 := 0#32
  let v996 : BitVec 1 := Scalar.cmpi .ne v995 c0_i32_554
  let v997 : BitVec 1 := Scalar.andi v994 v996
  let v983 : BitVec 32 := Scalar.divsi v2 c8_i32_549
  let c1_i32_555 : BitVec 32 := 1#32
  let v998 : BitVec 32 := Scalar.subi v983 c1_i32_555
  let v999 : BitVec 32 := Scalar.select v997 v998 v983
  let c8_i32_556 : BitVec 32 := 8#32
  let c0_i32_557 : BitVec 32 := 0#32
  let v1000 : BitVec 1 := Scalar.cmpi .eq c8_i32_556 c0_i32_557
  let c1_i32_558 : BitVec 32 := 1#32
  let v1001 : BitVec 32 := Scalar.select v1000 c1_i32_558 c8_i32_556
  let v1002 : BitVec 32 := Scalar.remsi v2 v1001
  let c0_i32_560 : BitVec 32 := 0#32
  let v1004 : BitVec 1 := Scalar.cmpi .slt v1002 c0_i32_560
  let c0_i32_561 : BitVec 32 := 0#32
  let v1005 : BitVec 1 := Scalar.cmpi .slt v1001 c0_i32_561
  let v1006 : BitVec 1 := Scalar.xori v1004 v1005
  let c0_i32_559 : BitVec 32 := 0#32
  let v1003 : BitVec 1 := Scalar.cmpi .ne v1002 c0_i32_559
  let v1007 : BitVec 1 := Scalar.andi v1006 v1003
  let v1008 : BitVec 32 := Scalar.addi v1002 v1001
  let v1009 : BitVec 32 := Scalar.select v1007 v1008 v1002
  let c16_i32_562 : BitVec 32 := 16#32
  let v1010 : BitVec 32 := Scalar.muli v1009 c16_i32_562
  let c0_i32_883 : BitVec 32 := 0#32
  ![v999.toNat, v1010.toNat, 0]
def k0_dev42 : Nat :=
  let c0_i32_882 : BitVec 32 := 0#32
  let c9_i32_880 : BitVec 32 := 9#32
  let c1_i32_881 : BitVec 32 := 1#32
  let v1512 : BitVec 32 := Scalar.muli c9_i32_880 c1_i32_881
  let v1513 : BitVec 32 := Scalar.addi c0_i32_882 v1512
  v1513.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_594 : BitVec 32 := 10#32
  let v1070 : BitVec 1 := Scalar.cmpi .ne v2 c10_i32_594
  let v1071 : BitVec 32 := Scalar.extui v1070
  let c0_i32_596 : BitVec 32 := 0#32
  let v1072 : BitVec 1 := Scalar.cmpi .ne v1071 c0_i32_596
  v1072

def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_581 : BitVec 32 := 0#32
  let v1043 : BitVec 1 := Scalar.cmpi .sgt v2 c0_i32_581
  let v1044 : BitVec 32 := Scalar.extui v1043
  let c0_i32_582 : BitVec 32 := 0#32
  let v1045 : BitVec 1 := Scalar.cmpi .slt v2 c0_i32_582
  let v1046 : BitVec 32 := Scalar.extui v1045
  let v1047 : BitVec 32 := Scalar.subi v1044 v1046
  let c8_i32_580 : BitVec 32 := 8#32
  let c0_i32_583 : BitVec 32 := 0#32
  let v1048 : BitVec 1 := Scalar.cmpi .sgt c8_i32_580 c0_i32_583
  let v1049 : BitVec 32 := Scalar.extui v1048
  let c0_i32_584 : BitVec 32 := 0#32
  let v1050 : BitVec 1 := Scalar.cmpi .slt c8_i32_580 c0_i32_584
  let v1051 : BitVec 32 := Scalar.extui v1050
  let v1052 : BitVec 32 := Scalar.subi v1049 v1051
  let v1053 : BitVec 1 := Scalar.cmpi .ne v1047 v1052
  let v1054 : BitVec 32 := Scalar.remsi v2 c8_i32_580
  let c0_i32_585 : BitVec 32 := 0#32
  let v1055 : BitVec 1 := Scalar.cmpi .ne v1054 c0_i32_585
  let v1056 : BitVec 1 := Scalar.andi v1053 v1055
  let v1042 : BitVec 32 := Scalar.divsi v2 c8_i32_580
  let c1_i32_586 : BitVec 32 := 1#32
  let v1057 : BitVec 32 := Scalar.subi v1042 c1_i32_586
  let v1058 : BitVec 32 := Scalar.select v1056 v1057 v1042
  let c8_i32_587 : BitVec 32 := 8#32
  let c0_i32_588 : BitVec 32 := 0#32
  let v1059 : BitVec 1 := Scalar.cmpi .eq c8_i32_587 c0_i32_588
  let c1_i32_589 : BitVec 32 := 1#32
  let v1060 : BitVec 32 := Scalar.select v1059 c1_i32_589 c8_i32_587
  let v1061 : BitVec 32 := Scalar.remsi v2 v1060
  let c0_i32_591 : BitVec 32 := 0#32
  let v1063 : BitVec 1 := Scalar.cmpi .slt v1061 c0_i32_591
  let c0_i32_592 : BitVec 32 := 0#32
  let v1064 : BitVec 1 := Scalar.cmpi .slt v1060 c0_i32_592
  let v1065 : BitVec 1 := Scalar.xori v1063 v1064
  let c0_i32_590 : BitVec 32 := 0#32
  let v1062 : BitVec 1 := Scalar.cmpi .ne v1061 c0_i32_590
  let v1066 : BitVec 1 := Scalar.andi v1065 v1062
  let v1067 : BitVec 32 := Scalar.addi v1061 v1060
  let v1068 : BitVec 32 := Scalar.select v1066 v1067 v1061
  let c16_i32_593 : BitVec 32 := 16#32
  let v1069 : BitVec 32 := Scalar.muli v1068 c16_i32_593
  let c0_i32_883 : BitVec 32 := 0#32
  ![v1058.toNat, v1069.toNat, 0]
def k0_dev43 : Nat :=
  let c0_i32_882 : BitVec 32 := 0#32
  let c10_i32_880 : BitVec 32 := 10#32
  let c1_i32_881 : BitVec 32 := 1#32
  let v1512 : BitVec 32 := Scalar.muli c10_i32_880 c1_i32_881
  let v1513 : BitVec 32 := Scalar.addi c0_i32_882 v1512
  v1513.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_625 : BitVec 32 := 11#32
  let v1129 : BitVec 1 := Scalar.cmpi .ne v2 c11_i32_625
  let v1130 : BitVec 32 := Scalar.extui v1129
  let c0_i32_627 : BitVec 32 := 0#32
  let v1131 : BitVec 1 := Scalar.cmpi .ne v1130 c0_i32_627
  v1131

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_612 : BitVec 32 := 0#32
  let v1102 : BitVec 1 := Scalar.cmpi .sgt v2 c0_i32_612
  let v1103 : BitVec 32 := Scalar.extui v1102
  let c0_i32_613 : BitVec 32 := 0#32
  let v1104 : BitVec 1 := Scalar.cmpi .slt v2 c0_i32_613
  let v1105 : BitVec 32 := Scalar.extui v1104
  let v1106 : BitVec 32 := Scalar.subi v1103 v1105
  let c8_i32_611 : BitVec 32 := 8#32
  let c0_i32_614 : BitVec 32 := 0#32
  let v1107 : BitVec 1 := Scalar.cmpi .sgt c8_i32_611 c0_i32_614
  let v1108 : BitVec 32 := Scalar.extui v1107
  let c0_i32_615 : BitVec 32 := 0#32
  let v1109 : BitVec 1 := Scalar.cmpi .slt c8_i32_611 c0_i32_615
  let v1110 : BitVec 32 := Scalar.extui v1109
  let v1111 : BitVec 32 := Scalar.subi v1108 v1110
  let v1112 : BitVec 1 := Scalar.cmpi .ne v1106 v1111
  let v1113 : BitVec 32 := Scalar.remsi v2 c8_i32_611
  let c0_i32_616 : BitVec 32 := 0#32
  let v1114 : BitVec 1 := Scalar.cmpi .ne v1113 c0_i32_616
  let v1115 : BitVec 1 := Scalar.andi v1112 v1114
  let v1101 : BitVec 32 := Scalar.divsi v2 c8_i32_611
  let c1_i32_617 : BitVec 32 := 1#32
  let v1116 : BitVec 32 := Scalar.subi v1101 c1_i32_617
  let v1117 : BitVec 32 := Scalar.select v1115 v1116 v1101
  let c8_i32_618 : BitVec 32 := 8#32
  let c0_i32_619 : BitVec 32 := 0#32
  let v1118 : BitVec 1 := Scalar.cmpi .eq c8_i32_618 c0_i32_619
  let c1_i32_620 : BitVec 32 := 1#32
  let v1119 : BitVec 32 := Scalar.select v1118 c1_i32_620 c8_i32_618
  let v1120 : BitVec 32 := Scalar.remsi v2 v1119
  let c0_i32_622 : BitVec 32 := 0#32
  let v1122 : BitVec 1 := Scalar.cmpi .slt v1120 c0_i32_622
  let c0_i32_623 : BitVec 32 := 0#32
  let v1123 : BitVec 1 := Scalar.cmpi .slt v1119 c0_i32_623
  let v1124 : BitVec 1 := Scalar.xori v1122 v1123
  let c0_i32_621 : BitVec 32 := 0#32
  let v1121 : BitVec 1 := Scalar.cmpi .ne v1120 c0_i32_621
  let v1125 : BitVec 1 := Scalar.andi v1124 v1121
  let v1126 : BitVec 32 := Scalar.addi v1120 v1119
  let v1127 : BitVec 32 := Scalar.select v1125 v1126 v1120
  let c16_i32_624 : BitVec 32 := 16#32
  let v1128 : BitVec 32 := Scalar.muli v1127 c16_i32_624
  let c0_i32_883 : BitVec 32 := 0#32
  ![v1117.toNat, v1128.toNat, 0]
def k0_dev44 : Nat :=
  let c0_i32_882 : BitVec 32 := 0#32
  let c11_i32_880 : BitVec 32 := 11#32
  let c1_i32_881 : BitVec 32 := 1#32
  let v1512 : BitVec 32 := Scalar.muli c11_i32_880 c1_i32_881
  let v1513 : BitVec 32 := Scalar.addi c0_i32_882 v1512
  v1513.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_656 : BitVec 32 := 12#32
  let v1188 : BitVec 1 := Scalar.cmpi .ne v2 c12_i32_656
  let v1189 : BitVec 32 := Scalar.extui v1188
  let c0_i32_658 : BitVec 32 := 0#32
  let v1190 : BitVec 1 := Scalar.cmpi .ne v1189 c0_i32_658
  v1190

def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_643 : BitVec 32 := 0#32
  let v1161 : BitVec 1 := Scalar.cmpi .sgt v2 c0_i32_643
  let v1162 : BitVec 32 := Scalar.extui v1161
  let c0_i32_644 : BitVec 32 := 0#32
  let v1163 : BitVec 1 := Scalar.cmpi .slt v2 c0_i32_644
  let v1164 : BitVec 32 := Scalar.extui v1163
  let v1165 : BitVec 32 := Scalar.subi v1162 v1164
  let c8_i32_642 : BitVec 32 := 8#32
  let c0_i32_645 : BitVec 32 := 0#32
  let v1166 : BitVec 1 := Scalar.cmpi .sgt c8_i32_642 c0_i32_645
  let v1167 : BitVec 32 := Scalar.extui v1166
  let c0_i32_646 : BitVec 32 := 0#32
  let v1168 : BitVec 1 := Scalar.cmpi .slt c8_i32_642 c0_i32_646
  let v1169 : BitVec 32 := Scalar.extui v1168
  let v1170 : BitVec 32 := Scalar.subi v1167 v1169
  let v1171 : BitVec 1 := Scalar.cmpi .ne v1165 v1170
  let v1172 : BitVec 32 := Scalar.remsi v2 c8_i32_642
  let c0_i32_647 : BitVec 32 := 0#32
  let v1173 : BitVec 1 := Scalar.cmpi .ne v1172 c0_i32_647
  let v1174 : BitVec 1 := Scalar.andi v1171 v1173
  let v1160 : BitVec 32 := Scalar.divsi v2 c8_i32_642
  let c1_i32_648 : BitVec 32 := 1#32
  let v1175 : BitVec 32 := Scalar.subi v1160 c1_i32_648
  let v1176 : BitVec 32 := Scalar.select v1174 v1175 v1160
  let c8_i32_649 : BitVec 32 := 8#32
  let c0_i32_650 : BitVec 32 := 0#32
  let v1177 : BitVec 1 := Scalar.cmpi .eq c8_i32_649 c0_i32_650
  let c1_i32_651 : BitVec 32 := 1#32
  let v1178 : BitVec 32 := Scalar.select v1177 c1_i32_651 c8_i32_649
  let v1179 : BitVec 32 := Scalar.remsi v2 v1178
  let c0_i32_653 : BitVec 32 := 0#32
  let v1181 : BitVec 1 := Scalar.cmpi .slt v1179 c0_i32_653
  let c0_i32_654 : BitVec 32 := 0#32
  let v1182 : BitVec 1 := Scalar.cmpi .slt v1178 c0_i32_654
  let v1183 : BitVec 1 := Scalar.xori v1181 v1182
  let c0_i32_652 : BitVec 32 := 0#32
  let v1180 : BitVec 1 := Scalar.cmpi .ne v1179 c0_i32_652
  let v1184 : BitVec 1 := Scalar.andi v1183 v1180
  let v1185 : BitVec 32 := Scalar.addi v1179 v1178
  let v1186 : BitVec 32 := Scalar.select v1184 v1185 v1179
  let c16_i32_655 : BitVec 32 := 16#32
  let v1187 : BitVec 32 := Scalar.muli v1186 c16_i32_655
  let c0_i32_883 : BitVec 32 := 0#32
  ![v1176.toNat, v1187.toNat, 0]
def k0_dev45 : Nat :=
  let c0_i32_882 : BitVec 32 := 0#32
  let c12_i32_880 : BitVec 32 := 12#32
  let c1_i32_881 : BitVec 32 := 1#32
  let v1512 : BitVec 32 := Scalar.muli c12_i32_880 c1_i32_881
  let v1513 : BitVec 32 := Scalar.addi c0_i32_882 v1512
  v1513.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_687 : BitVec 32 := 13#32
  let v1247 : BitVec 1 := Scalar.cmpi .ne v2 c13_i32_687
  let v1248 : BitVec 32 := Scalar.extui v1247
  let c0_i32_689 : BitVec 32 := 0#32
  let v1249 : BitVec 1 := Scalar.cmpi .ne v1248 c0_i32_689
  v1249

def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_674 : BitVec 32 := 0#32
  let v1220 : BitVec 1 := Scalar.cmpi .sgt v2 c0_i32_674
  let v1221 : BitVec 32 := Scalar.extui v1220
  let c0_i32_675 : BitVec 32 := 0#32
  let v1222 : BitVec 1 := Scalar.cmpi .slt v2 c0_i32_675
  let v1223 : BitVec 32 := Scalar.extui v1222
  let v1224 : BitVec 32 := Scalar.subi v1221 v1223
  let c8_i32_673 : BitVec 32 := 8#32
  let c0_i32_676 : BitVec 32 := 0#32
  let v1225 : BitVec 1 := Scalar.cmpi .sgt c8_i32_673 c0_i32_676
  let v1226 : BitVec 32 := Scalar.extui v1225
  let c0_i32_677 : BitVec 32 := 0#32
  let v1227 : BitVec 1 := Scalar.cmpi .slt c8_i32_673 c0_i32_677
  let v1228 : BitVec 32 := Scalar.extui v1227
  let v1229 : BitVec 32 := Scalar.subi v1226 v1228
  let v1230 : BitVec 1 := Scalar.cmpi .ne v1224 v1229
  let v1231 : BitVec 32 := Scalar.remsi v2 c8_i32_673
  let c0_i32_678 : BitVec 32 := 0#32
  let v1232 : BitVec 1 := Scalar.cmpi .ne v1231 c0_i32_678
  let v1233 : BitVec 1 := Scalar.andi v1230 v1232
  let v1219 : BitVec 32 := Scalar.divsi v2 c8_i32_673
  let c1_i32_679 : BitVec 32 := 1#32
  let v1234 : BitVec 32 := Scalar.subi v1219 c1_i32_679
  let v1235 : BitVec 32 := Scalar.select v1233 v1234 v1219
  let c8_i32_680 : BitVec 32 := 8#32
  let c0_i32_681 : BitVec 32 := 0#32
  let v1236 : BitVec 1 := Scalar.cmpi .eq c8_i32_680 c0_i32_681
  let c1_i32_682 : BitVec 32 := 1#32
  let v1237 : BitVec 32 := Scalar.select v1236 c1_i32_682 c8_i32_680
  let v1238 : BitVec 32 := Scalar.remsi v2 v1237
  let c0_i32_684 : BitVec 32 := 0#32
  let v1240 : BitVec 1 := Scalar.cmpi .slt v1238 c0_i32_684
  let c0_i32_685 : BitVec 32 := 0#32
  let v1241 : BitVec 1 := Scalar.cmpi .slt v1237 c0_i32_685
  let v1242 : BitVec 1 := Scalar.xori v1240 v1241
  let c0_i32_683 : BitVec 32 := 0#32
  let v1239 : BitVec 1 := Scalar.cmpi .ne v1238 c0_i32_683
  let v1243 : BitVec 1 := Scalar.andi v1242 v1239
  let v1244 : BitVec 32 := Scalar.addi v1238 v1237
  let v1245 : BitVec 32 := Scalar.select v1243 v1244 v1238
  let c16_i32_686 : BitVec 32 := 16#32
  let v1246 : BitVec 32 := Scalar.muli v1245 c16_i32_686
  let c0_i32_883 : BitVec 32 := 0#32
  ![v1235.toNat, v1246.toNat, 0]
def k0_dev46 : Nat :=
  let c0_i32_882 : BitVec 32 := 0#32
  let c13_i32_880 : BitVec 32 := 13#32
  let c1_i32_881 : BitVec 32 := 1#32
  let v1512 : BitVec 32 := Scalar.muli c13_i32_880 c1_i32_881
  let v1513 : BitVec 32 := Scalar.addi c0_i32_882 v1512
  v1513.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_718 : BitVec 32 := 14#32
  let v1306 : BitVec 1 := Scalar.cmpi .ne v2 c14_i32_718
  let v1307 : BitVec 32 := Scalar.extui v1306
  let c0_i32_720 : BitVec 32 := 0#32
  let v1308 : BitVec 1 := Scalar.cmpi .ne v1307 c0_i32_720
  v1308

def k0_off66 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_705 : BitVec 32 := 0#32
  let v1279 : BitVec 1 := Scalar.cmpi .sgt v2 c0_i32_705
  let v1280 : BitVec 32 := Scalar.extui v1279
  let c0_i32_706 : BitVec 32 := 0#32
  let v1281 : BitVec 1 := Scalar.cmpi .slt v2 c0_i32_706
  let v1282 : BitVec 32 := Scalar.extui v1281
  let v1283 : BitVec 32 := Scalar.subi v1280 v1282
  let c8_i32_704 : BitVec 32 := 8#32
  let c0_i32_707 : BitVec 32 := 0#32
  let v1284 : BitVec 1 := Scalar.cmpi .sgt c8_i32_704 c0_i32_707
  let v1285 : BitVec 32 := Scalar.extui v1284
  let c0_i32_708 : BitVec 32 := 0#32
  let v1286 : BitVec 1 := Scalar.cmpi .slt c8_i32_704 c0_i32_708
  let v1287 : BitVec 32 := Scalar.extui v1286
  let v1288 : BitVec 32 := Scalar.subi v1285 v1287
  let v1289 : BitVec 1 := Scalar.cmpi .ne v1283 v1288
  let v1290 : BitVec 32 := Scalar.remsi v2 c8_i32_704
  let c0_i32_709 : BitVec 32 := 0#32
  let v1291 : BitVec 1 := Scalar.cmpi .ne v1290 c0_i32_709
  let v1292 : BitVec 1 := Scalar.andi v1289 v1291
  let v1278 : BitVec 32 := Scalar.divsi v2 c8_i32_704
  let c1_i32_710 : BitVec 32 := 1#32
  let v1293 : BitVec 32 := Scalar.subi v1278 c1_i32_710
  let v1294 : BitVec 32 := Scalar.select v1292 v1293 v1278
  let c8_i32_711 : BitVec 32 := 8#32
  let c0_i32_712 : BitVec 32 := 0#32
  let v1295 : BitVec 1 := Scalar.cmpi .eq c8_i32_711 c0_i32_712
  let c1_i32_713 : BitVec 32 := 1#32
  let v1296 : BitVec 32 := Scalar.select v1295 c1_i32_713 c8_i32_711
  let v1297 : BitVec 32 := Scalar.remsi v2 v1296
  let c0_i32_715 : BitVec 32 := 0#32
  let v1299 : BitVec 1 := Scalar.cmpi .slt v1297 c0_i32_715
  let c0_i32_716 : BitVec 32 := 0#32
  let v1300 : BitVec 1 := Scalar.cmpi .slt v1296 c0_i32_716
  let v1301 : BitVec 1 := Scalar.xori v1299 v1300
  let c0_i32_714 : BitVec 32 := 0#32
  let v1298 : BitVec 1 := Scalar.cmpi .ne v1297 c0_i32_714
  let v1302 : BitVec 1 := Scalar.andi v1301 v1298
  let v1303 : BitVec 32 := Scalar.addi v1297 v1296
  let v1304 : BitVec 32 := Scalar.select v1302 v1303 v1297
  let c16_i32_717 : BitVec 32 := 16#32
  let v1305 : BitVec 32 := Scalar.muli v1304 c16_i32_717
  let c0_i32_883 : BitVec 32 := 0#32
  ![v1294.toNat, v1305.toNat, 0]
def k0_dev47 : Nat :=
  let c0_i32_882 : BitVec 32 := 0#32
  let c14_i32_880 : BitVec 32 := 14#32
  let c1_i32_881 : BitVec 32 := 1#32
  let v1512 : BitVec 32 := Scalar.muli c14_i32_880 c1_i32_881
  let v1513 : BitVec 32 := Scalar.addi c0_i32_882 v1512
  v1513.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_749 : BitVec 32 := 15#32
  let v1365 : BitVec 1 := Scalar.cmpi .ne v2 c15_i32_749
  let v1366 : BitVec 32 := Scalar.extui v1365
  let c0_i32_751 : BitVec 32 := 0#32
  let v1367 : BitVec 1 := Scalar.cmpi .ne v1366 c0_i32_751
  v1367

def k0_off68 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_736 : BitVec 32 := 0#32
  let v1338 : BitVec 1 := Scalar.cmpi .sgt v2 c0_i32_736
  let v1339 : BitVec 32 := Scalar.extui v1338
  let c0_i32_737 : BitVec 32 := 0#32
  let v1340 : BitVec 1 := Scalar.cmpi .slt v2 c0_i32_737
  let v1341 : BitVec 32 := Scalar.extui v1340
  let v1342 : BitVec 32 := Scalar.subi v1339 v1341
  let c8_i32_735 : BitVec 32 := 8#32
  let c0_i32_738 : BitVec 32 := 0#32
  let v1343 : BitVec 1 := Scalar.cmpi .sgt c8_i32_735 c0_i32_738
  let v1344 : BitVec 32 := Scalar.extui v1343
  let c0_i32_739 : BitVec 32 := 0#32
  let v1345 : BitVec 1 := Scalar.cmpi .slt c8_i32_735 c0_i32_739
  let v1346 : BitVec 32 := Scalar.extui v1345
  let v1347 : BitVec 32 := Scalar.subi v1344 v1346
  let v1348 : BitVec 1 := Scalar.cmpi .ne v1342 v1347
  let v1349 : BitVec 32 := Scalar.remsi v2 c8_i32_735
  let c0_i32_740 : BitVec 32 := 0#32
  let v1350 : BitVec 1 := Scalar.cmpi .ne v1349 c0_i32_740
  let v1351 : BitVec 1 := Scalar.andi v1348 v1350
  let v1337 : BitVec 32 := Scalar.divsi v2 c8_i32_735
  let c1_i32_741 : BitVec 32 := 1#32
  let v1352 : BitVec 32 := Scalar.subi v1337 c1_i32_741
  let v1353 : BitVec 32 := Scalar.select v1351 v1352 v1337
  let c8_i32_742 : BitVec 32 := 8#32
  let c0_i32_743 : BitVec 32 := 0#32
  let v1354 : BitVec 1 := Scalar.cmpi .eq c8_i32_742 c0_i32_743
  let c1_i32_744 : BitVec 32 := 1#32
  let v1355 : BitVec 32 := Scalar.select v1354 c1_i32_744 c8_i32_742
  let v1356 : BitVec 32 := Scalar.remsi v2 v1355
  let c0_i32_746 : BitVec 32 := 0#32
  let v1358 : BitVec 1 := Scalar.cmpi .slt v1356 c0_i32_746
  let c0_i32_747 : BitVec 32 := 0#32
  let v1359 : BitVec 1 := Scalar.cmpi .slt v1355 c0_i32_747
  let v1360 : BitVec 1 := Scalar.xori v1358 v1359
  let c0_i32_745 : BitVec 32 := 0#32
  let v1357 : BitVec 1 := Scalar.cmpi .ne v1356 c0_i32_745
  let v1361 : BitVec 1 := Scalar.andi v1360 v1357
  let v1362 : BitVec 32 := Scalar.addi v1356 v1355
  let v1363 : BitVec 32 := Scalar.select v1361 v1362 v1356
  let c16_i32_748 : BitVec 32 := 16#32
  let v1364 : BitVec 32 := Scalar.muli v1363 c16_i32_748
  let c0_i32_883 : BitVec 32 := 0#32
  ![v1353.toNat, v1364.toNat, 0]
def k0_dev48 : Nat :=
  let c0_i32_882 : BitVec 32 := 0#32
  let c15_i32_880 : BitVec 32 := 15#32
  let c1_i32_881 : BitVec 32 := 1#32
  let v1512 : BitVec 32 := Scalar.muli c15_i32_880 c1_i32_881
  let v1513 : BitVec 32 := Scalar.addi c0_i32_882 v1512
  v1513.toNat
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_752 : BitVec 32 := 0#32
  let v1368 : BitVec 1 := Scalar.cmpi .ne v2 c0_i32_752
  let v1369 : BitVec 32 := Scalar.extui v1368
  let c0_i32_753 : BitVec 32 := 0#32
  let v1370 : BitVec 1 := Scalar.cmpi .ne v1369 c0_i32_753
  v1370

def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_902 : BitVec 32 := 0#32
  ![v1528.toNat, v1539.toNat, 0]
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_754 : BitVec 32 := 1#32
  let v1371 : BitVec 1 := Scalar.cmpi .ne v2 c1_i32_754
  let v1372 : BitVec 32 := Scalar.extui v1371
  let c0_i32_755 : BitVec 32 := 0#32
  let v1373 : BitVec 1 := Scalar.cmpi .ne v1372 c0_i32_755
  v1373

def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_902 : BitVec 32 := 0#32
  ![v1528.toNat, v1539.toNat, 0]
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_756 : BitVec 32 := 2#32
  let v1374 : BitVec 1 := Scalar.cmpi .ne v2 c2_i32_756
  let v1375 : BitVec 32 := Scalar.extui v1374
  let c0_i32_757 : BitVec 32 := 0#32
  let v1376 : BitVec 1 := Scalar.cmpi .ne v1375 c0_i32_757
  v1376

def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_901 : BitVec 32 := 0#32
  ![v1528.toNat, v1539.toNat, 0]
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_758 : BitVec 32 := 3#32
  let v1377 : BitVec 1 := Scalar.cmpi .ne v2 c3_i32_758
  let v1378 : BitVec 32 := Scalar.extui v1377
  let c0_i32_759 : BitVec 32 := 0#32
  let v1379 : BitVec 1 := Scalar.cmpi .ne v1378 c0_i32_759
  v1379

def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_901 : BitVec 32 := 0#32
  ![v1528.toNat, v1539.toNat, 0]
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_760 : BitVec 32 := 4#32
  let v1380 : BitVec 1 := Scalar.cmpi .ne v2 c4_i32_760
  let v1381 : BitVec 32 := Scalar.extui v1380
  let c0_i32_761 : BitVec 32 := 0#32
  let v1382 : BitVec 1 := Scalar.cmpi .ne v1381 c0_i32_761
  v1382

def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_902 : BitVec 32 := 0#32
  ![v1528.toNat, v1539.toNat, 0]
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_762 : BitVec 32 := 5#32
  let v1383 : BitVec 1 := Scalar.cmpi .ne v2 c5_i32_762
  let v1384 : BitVec 32 := Scalar.extui v1383
  let c0_i32_763 : BitVec 32 := 0#32
  let v1385 : BitVec 1 := Scalar.cmpi .ne v1384 c0_i32_763
  v1385

def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_901 : BitVec 32 := 0#32
  ![v1528.toNat, v1539.toNat, 0]
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_764 : BitVec 32 := 6#32
  let v1386 : BitVec 1 := Scalar.cmpi .ne v2 c6_i32_764
  let v1387 : BitVec 32 := Scalar.extui v1386
  let c0_i32_765 : BitVec 32 := 0#32
  let v1388 : BitVec 1 := Scalar.cmpi .ne v1387 c0_i32_765
  v1388

def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_901 : BitVec 32 := 0#32
  ![v1528.toNat, v1539.toNat, 0]
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_766 : BitVec 32 := 7#32
  let v1389 : BitVec 1 := Scalar.cmpi .ne v2 c7_i32_766
  let v1390 : BitVec 32 := Scalar.extui v1389
  let c0_i32_767 : BitVec 32 := 0#32
  let v1391 : BitVec 1 := Scalar.cmpi .ne v1390 c0_i32_767
  v1391

def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_901 : BitVec 32 := 0#32
  ![v1528.toNat, v1539.toNat, 0]
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_768 : BitVec 32 := 8#32
  let v1392 : BitVec 1 := Scalar.cmpi .ne v2 c8_i32_768
  let v1393 : BitVec 32 := Scalar.extui v1392
  let c0_i32_769 : BitVec 32 := 0#32
  let v1394 : BitVec 1 := Scalar.cmpi .ne v1393 c0_i32_769
  v1394

def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_902 : BitVec 32 := 0#32
  ![v1528.toNat, v1539.toNat, 0]
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_770 : BitVec 32 := 9#32
  let v1395 : BitVec 1 := Scalar.cmpi .ne v2 c9_i32_770
  let v1396 : BitVec 32 := Scalar.extui v1395
  let c0_i32_771 : BitVec 32 := 0#32
  let v1397 : BitVec 1 := Scalar.cmpi .ne v1396 c0_i32_771
  v1397

def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_902 : BitVec 32 := 0#32
  ![v1528.toNat, v1539.toNat, 0]
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_772 : BitVec 32 := 10#32
  let v1398 : BitVec 1 := Scalar.cmpi .ne v2 c10_i32_772
  let v1399 : BitVec 32 := Scalar.extui v1398
  let c0_i32_773 : BitVec 32 := 0#32
  let v1400 : BitVec 1 := Scalar.cmpi .ne v1399 c0_i32_773
  v1400

def k0_off80 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_901 : BitVec 32 := 0#32
  ![v1528.toNat, v1539.toNat, 0]
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_774 : BitVec 32 := 11#32
  let v1401 : BitVec 1 := Scalar.cmpi .ne v2 c11_i32_774
  let v1402 : BitVec 32 := Scalar.extui v1401
  let c0_i32_775 : BitVec 32 := 0#32
  let v1403 : BitVec 1 := Scalar.cmpi .ne v1402 c0_i32_775
  v1403

def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_901 : BitVec 32 := 0#32
  ![v1528.toNat, v1539.toNat, 0]
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_776 : BitVec 32 := 12#32
  let v1404 : BitVec 1 := Scalar.cmpi .ne v2 c12_i32_776
  let v1405 : BitVec 32 := Scalar.extui v1404
  let c0_i32_777 : BitVec 32 := 0#32
  let v1406 : BitVec 1 := Scalar.cmpi .ne v1405 c0_i32_777
  v1406

def k0_off82 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_902 : BitVec 32 := 0#32
  ![v1528.toNat, v1539.toNat, 0]
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_778 : BitVec 32 := 13#32
  let v1407 : BitVec 1 := Scalar.cmpi .ne v2 c13_i32_778
  let v1408 : BitVec 32 := Scalar.extui v1407
  let c0_i32_779 : BitVec 32 := 0#32
  let v1409 : BitVec 1 := Scalar.cmpi .ne v1408 c0_i32_779
  v1409

def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_901 : BitVec 32 := 0#32
  ![v1528.toNat, v1539.toNat, 0]
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_780 : BitVec 32 := 14#32
  let v1410 : BitVec 1 := Scalar.cmpi .ne v2 c14_i32_780
  let v1411 : BitVec 32 := Scalar.extui v1410
  let c0_i32_781 : BitVec 32 := 0#32
  let v1412 : BitVec 1 := Scalar.cmpi .ne v1411 c0_i32_781
  v1412

def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_901 : BitVec 32 := 0#32
  ![v1528.toNat, v1539.toNat, 0]
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_782 : BitVec 32 := 15#32
  let v1413 : BitVec 1 := Scalar.cmpi .ne v2 c15_i32_782
  let v1414 : BitVec 32 := Scalar.extui v1413
  let c0_i32_783 : BitVec 32 := 0#32
  let v1415 : BitVec 1 := Scalar.cmpi .ne v1414 c0_i32_783
  v1415

def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_881 : BitVec 32 := 0#32
  let v1513 : BitVec 1 := Scalar.cmpi .sgt v2 c0_i32_881
  let v1514 : BitVec 32 := Scalar.extui v1513
  let c0_i32_882 : BitVec 32 := 0#32
  let v1515 : BitVec 1 := Scalar.cmpi .slt v2 c0_i32_882
  let v1516 : BitVec 32 := Scalar.extui v1515
  let v1517 : BitVec 32 := Scalar.subi v1514 v1516
  let c8_i32_880 : BitVec 32 := 8#32
  let c0_i32_883 : BitVec 32 := 0#32
  let v1518 : BitVec 1 := Scalar.cmpi .sgt c8_i32_880 c0_i32_883
  let v1519 : BitVec 32 := Scalar.extui v1518
  let c0_i32_884 : BitVec 32 := 0#32
  let v1520 : BitVec 1 := Scalar.cmpi .slt c8_i32_880 c0_i32_884
  let v1521 : BitVec 32 := Scalar.extui v1520
  let v1522 : BitVec 32 := Scalar.subi v1519 v1521
  let v1523 : BitVec 1 := Scalar.cmpi .ne v1517 v1522
  let v1524 : BitVec 32 := Scalar.remsi v2 c8_i32_880
  let c0_i32_885 : BitVec 32 := 0#32
  let v1525 : BitVec 1 := Scalar.cmpi .ne v1524 c0_i32_885
  let v1526 : BitVec 1 := Scalar.andi v1523 v1525
  let v1512 : BitVec 32 := Scalar.divsi v2 c8_i32_880
  let c1_i32_886 : BitVec 32 := 1#32
  let v1527 : BitVec 32 := Scalar.subi v1512 c1_i32_886
  let v1528 : BitVec 32 := Scalar.select v1526 v1527 v1512
  let c8_i32_887 : BitVec 32 := 8#32
  let c0_i32_888 : BitVec 32 := 0#32
  let v1529 : BitVec 1 := Scalar.cmpi .eq c8_i32_887 c0_i32_888
  let c1_i32_889 : BitVec 32 := 1#32
  let v1530 : BitVec 32 := Scalar.select v1529 c1_i32_889 c8_i32_887
  let v1531 : BitVec 32 := Scalar.remsi v2 v1530
  let c0_i32_891 : BitVec 32 := 0#32
  let v1533 : BitVec 1 := Scalar.cmpi .slt v1531 c0_i32_891
  let c0_i32_892 : BitVec 32 := 0#32
  let v1534 : BitVec 1 := Scalar.cmpi .slt v1530 c0_i32_892
  let v1535 : BitVec 1 := Scalar.xori v1533 v1534
  let c0_i32_890 : BitVec 32 := 0#32
  let v1532 : BitVec 1 := Scalar.cmpi .ne v1531 c0_i32_890
  let v1536 : BitVec 1 := Scalar.andi v1535 v1532
  let v1537 : BitVec 32 := Scalar.addi v1531 v1530
  let v1538 : BitVec 32 := Scalar.select v1536 v1537 v1531
  let c16_i32_893 : BitVec 32 := 16#32
  let v1539 : BitVec 32 := Scalar.muli v1538 c16_i32_893
  let c0_i32_901 : BitVec 32 := 0#32
  ![v1528.toNat, v1539.toNat, 0]
def k0_cond81 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_784 : BitVec 32 := 0#32
  let v1416 : BitVec 1 := Scalar.cmpi .ne v2 c0_i32_784
  let v1417 : BitVec 32 := Scalar.extui v1416
  let c0_i32_786 : BitVec 32 := 0#32
  let v1418 : BitVec 1 := Scalar.cmpi .ne v1417 c0_i32_786
  v1418

def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_884 : BitVec 32 := 0#32
  let c0_i32_885 : BitVec 32 := 0#32
  ![v2.toNat, 0, 0]
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_787 : BitVec 32 := 1#32
  let v1419 : BitVec 1 := Scalar.cmpi .ne v2 c1_i32_787
  let v1420 : BitVec 32 := Scalar.extui v1419
  let c0_i32_789 : BitVec 32 := 0#32
  let v1421 : BitVec 1 := Scalar.cmpi .ne v1420 c0_i32_789
  v1421

def k0_off87 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_884 : BitVec 32 := 0#32
  let c0_i32_885 : BitVec 32 := 0#32
  ![v2.toNat, 0, 0]
def k0_cond83 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_790 : BitVec 32 := 2#32
  let v1422 : BitVec 1 := Scalar.cmpi .ne v2 c2_i32_790
  let v1423 : BitVec 32 := Scalar.extui v1422
  let c0_i32_792 : BitVec 32 := 0#32
  let v1424 : BitVec 1 := Scalar.cmpi .ne v1423 c0_i32_792
  v1424

def k0_off88 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_793 : BitVec 32 := 3#32
  let v1425 : BitVec 1 := Scalar.cmpi .ne v2 c3_i32_793
  let v1426 : BitVec 32 := Scalar.extui v1425
  let c0_i32_795 : BitVec 32 := 0#32
  let v1427 : BitVec 1 := Scalar.cmpi .ne v1426 c0_i32_795
  v1427

def k0_off89 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_796 : BitVec 32 := 4#32
  let v1428 : BitVec 1 := Scalar.cmpi .ne v2 c4_i32_796
  let v1429 : BitVec 32 := Scalar.extui v1428
  let c0_i32_798 : BitVec 32 := 0#32
  let v1430 : BitVec 1 := Scalar.cmpi .ne v1429 c0_i32_798
  v1430

def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_884 : BitVec 32 := 0#32
  let c0_i32_885 : BitVec 32 := 0#32
  ![v2.toNat, 0, 0]
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_799 : BitVec 32 := 5#32
  let v1431 : BitVec 1 := Scalar.cmpi .ne v2 c5_i32_799
  let v1432 : BitVec 32 := Scalar.extui v1431
  let c0_i32_801 : BitVec 32 := 0#32
  let v1433 : BitVec 1 := Scalar.cmpi .ne v1432 c0_i32_801
  v1433

def k0_off91 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_802 : BitVec 32 := 6#32
  let v1434 : BitVec 1 := Scalar.cmpi .ne v2 c6_i32_802
  let v1435 : BitVec 32 := Scalar.extui v1434
  let c0_i32_804 : BitVec 32 := 0#32
  let v1436 : BitVec 1 := Scalar.cmpi .ne v1435 c0_i32_804
  v1436

def k0_off92 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_805 : BitVec 32 := 7#32
  let v1437 : BitVec 1 := Scalar.cmpi .ne v2 c7_i32_805
  let v1438 : BitVec 32 := Scalar.extui v1437
  let c0_i32_807 : BitVec 32 := 0#32
  let v1439 : BitVec 1 := Scalar.cmpi .ne v1438 c0_i32_807
  v1439

def k0_off93 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_cond89 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_808 : BitVec 32 := 8#32
  let v1440 : BitVec 1 := Scalar.cmpi .ne v2 c8_i32_808
  let v1441 : BitVec 32 := Scalar.extui v1440
  let c0_i32_810 : BitVec 32 := 0#32
  let v1442 : BitVec 1 := Scalar.cmpi .ne v1441 c0_i32_810
  v1442

def k0_off94 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_cond90 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_811 : BitVec 32 := 9#32
  let v1443 : BitVec 1 := Scalar.cmpi .ne v2 c9_i32_811
  let v1444 : BitVec 32 := Scalar.extui v1443
  let c0_i32_813 : BitVec 32 := 0#32
  let v1445 : BitVec 1 := Scalar.cmpi .ne v1444 c0_i32_813
  v1445

def k0_off95 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_cond91 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_814 : BitVec 32 := 10#32
  let v1446 : BitVec 1 := Scalar.cmpi .ne v2 c10_i32_814
  let v1447 : BitVec 32 := Scalar.extui v1446
  let c0_i32_816 : BitVec 32 := 0#32
  let v1448 : BitVec 1 := Scalar.cmpi .ne v1447 c0_i32_816
  v1448

def k0_off96 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_cond92 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_817 : BitVec 32 := 11#32
  let v1449 : BitVec 1 := Scalar.cmpi .ne v2 c11_i32_817
  let v1450 : BitVec 32 := Scalar.extui v1449
  let c0_i32_819 : BitVec 32 := 0#32
  let v1451 : BitVec 1 := Scalar.cmpi .ne v1450 c0_i32_819
  v1451

def k0_off97 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_820 : BitVec 32 := 12#32
  let v1452 : BitVec 1 := Scalar.cmpi .ne v2 c12_i32_820
  let v1453 : BitVec 32 := Scalar.extui v1452
  let c0_i32_822 : BitVec 32 := 0#32
  let v1454 : BitVec 1 := Scalar.cmpi .ne v1453 c0_i32_822
  v1454

def k0_off98 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_823 : BitVec 32 := 13#32
  let v1455 : BitVec 1 := Scalar.cmpi .ne v2 c13_i32_823
  let v1456 : BitVec 32 := Scalar.extui v1455
  let c0_i32_825 : BitVec 32 := 0#32
  let v1457 : BitVec 1 := Scalar.cmpi .ne v1456 c0_i32_825
  v1457

def k0_off99 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_826 : BitVec 32 := 14#32
  let v1458 : BitVec 1 := Scalar.cmpi .ne v2 c14_i32_826
  let v1459 : BitVec 32 := Scalar.extui v1458
  let c0_i32_828 : BitVec 32 := 0#32
  let v1460 : BitVec 1 := Scalar.cmpi .ne v1459 c0_i32_828
  v1460

def k0_off100 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_829 : BitVec 32 := 15#32
  let v1461 : BitVec 1 := Scalar.cmpi .ne v2 c15_i32_829
  let v1462 : BitVec 32 := Scalar.extui v1461
  let c0_i32_831 : BitVec 32 := 0#32
  let v1463 : BitVec 1 := Scalar.cmpi .ne v1462 c0_i32_831
  v1463

def k0_off101 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_883 : BitVec 32 := 0#32
  let c0_i32_884 : BitVec 32 := 0#32
  ![v2.toNat, 0, 0]
def k0_cond97 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_832 : BitVec 32 := 0#32
  let v1464 : BitVec 1 := Scalar.cmpi .ne v2 c0_i32_832
  let v1465 : BitVec 32 := Scalar.extui v1464
  let c0_i32_834 : BitVec 32 := 0#32
  let v1466 : BitVec 1 := Scalar.cmpi .ne v1465 c0_i32_834
  v1466

def k0_off102 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_257 : BitVec 32 := 0#32
  let v425 : BitVec 1 := Scalar.cmpi .sgt v2 c0_i32_257
  let v426 : BitVec 32 := Scalar.extui v425
  let c0_i32_258 : BitVec 32 := 0#32
  let v427 : BitVec 1 := Scalar.cmpi .slt v2 c0_i32_258
  let v428 : BitVec 32 := Scalar.extui v427
  let v429 : BitVec 32 := Scalar.subi v426 v428
  let c8_i32_256 : BitVec 32 := 8#32
  let c0_i32_259 : BitVec 32 := 0#32
  let v430 : BitVec 1 := Scalar.cmpi .sgt c8_i32_256 c0_i32_259
  let v431 : BitVec 32 := Scalar.extui v430
  let c0_i32_260 : BitVec 32 := 0#32
  let v432 : BitVec 1 := Scalar.cmpi .slt c8_i32_256 c0_i32_260
  let v433 : BitVec 32 := Scalar.extui v432
  let v434 : BitVec 32 := Scalar.subi v431 v433
  let v435 : BitVec 1 := Scalar.cmpi .ne v429 v434
  let v436 : BitVec 32 := Scalar.remsi v2 c8_i32_256
  let c0_i32_261 : BitVec 32 := 0#32
  let v437 : BitVec 1 := Scalar.cmpi .ne v436 c0_i32_261
  let v438 : BitVec 1 := Scalar.andi v435 v437
  let v424 : BitVec 32 := Scalar.divsi v2 c8_i32_256
  let c1_i32_262 : BitVec 32 := 1#32
  let v439 : BitVec 32 := Scalar.subi v424 c1_i32_262
  let v440 : BitVec 32 := Scalar.select v438 v439 v424
  let c8_i32_263 : BitVec 32 := 8#32
  let c0_i32_264 : BitVec 32 := 0#32
  let v441 : BitVec 1 := Scalar.cmpi .eq c8_i32_263 c0_i32_264
  let c1_i32_265 : BitVec 32 := 1#32
  let v442 : BitVec 32 := Scalar.select v441 c1_i32_265 c8_i32_263
  let v443 : BitVec 32 := Scalar.remsi v2 v442
  let c0_i32_267 : BitVec 32 := 0#32
  let v445 : BitVec 1 := Scalar.cmpi .slt v443 c0_i32_267
  let c0_i32_268 : BitVec 32 := 0#32
  let v446 : BitVec 1 := Scalar.cmpi .slt v442 c0_i32_268
  let v447 : BitVec 1 := Scalar.xori v445 v446
  let c0_i32_266 : BitVec 32 := 0#32
  let v444 : BitVec 1 := Scalar.cmpi .ne v443 c0_i32_266
  let v448 : BitVec 1 := Scalar.andi v447 v444
  let v449 : BitVec 32 := Scalar.addi v443 v442
  let v450 : BitVec 32 := Scalar.select v448 v449 v443
  let c16_i32_269 : BitVec 32 := 16#32
  let v451 : BitVec 32 := Scalar.muli v450 c16_i32_269
  let c0_i32_882 : BitVec 32 := 0#32
  ![v440.toNat, v451.toNat, 0]
def k0_cond98 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_835 : BitVec 32 := 1#32
  let v1467 : BitVec 1 := Scalar.cmpi .ne v2 c1_i32_835
  let v1468 : BitVec 32 := Scalar.extui v1467
  let c0_i32_837 : BitVec 32 := 0#32
  let v1469 : BitVec 1 := Scalar.cmpi .ne v1468 c0_i32_837
  v1469

def k0_off103 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_288 : BitVec 32 := 0#32
  let v484 : BitVec 1 := Scalar.cmpi .sgt v2 c0_i32_288
  let v485 : BitVec 32 := Scalar.extui v484
  let c0_i32_289 : BitVec 32 := 0#32
  let v486 : BitVec 1 := Scalar.cmpi .slt v2 c0_i32_289
  let v487 : BitVec 32 := Scalar.extui v486
  let v488 : BitVec 32 := Scalar.subi v485 v487
  let c8_i32_287 : BitVec 32 := 8#32
  let c0_i32_290 : BitVec 32 := 0#32
  let v489 : BitVec 1 := Scalar.cmpi .sgt c8_i32_287 c0_i32_290
  let v490 : BitVec 32 := Scalar.extui v489
  let c0_i32_291 : BitVec 32 := 0#32
  let v491 : BitVec 1 := Scalar.cmpi .slt c8_i32_287 c0_i32_291
  let v492 : BitVec 32 := Scalar.extui v491
  let v493 : BitVec 32 := Scalar.subi v490 v492
  let v494 : BitVec 1 := Scalar.cmpi .ne v488 v493
  let v495 : BitVec 32 := Scalar.remsi v2 c8_i32_287
  let c0_i32_292 : BitVec 32 := 0#32
  let v496 : BitVec 1 := Scalar.cmpi .ne v495 c0_i32_292
  let v497 : BitVec 1 := Scalar.andi v494 v496
  let v483 : BitVec 32 := Scalar.divsi v2 c8_i32_287
  let c1_i32_293 : BitVec 32 := 1#32
  let v498 : BitVec 32 := Scalar.subi v483 c1_i32_293
  let v499 : BitVec 32 := Scalar.select v497 v498 v483
  let c8_i32_294 : BitVec 32 := 8#32
  let c0_i32_295 : BitVec 32 := 0#32
  let v500 : BitVec 1 := Scalar.cmpi .eq c8_i32_294 c0_i32_295
  let c1_i32_296 : BitVec 32 := 1#32
  let v501 : BitVec 32 := Scalar.select v500 c1_i32_296 c8_i32_294
  let v502 : BitVec 32 := Scalar.remsi v2 v501
  let c0_i32_298 : BitVec 32 := 0#32
  let v504 : BitVec 1 := Scalar.cmpi .slt v502 c0_i32_298
  let c0_i32_299 : BitVec 32 := 0#32
  let v505 : BitVec 1 := Scalar.cmpi .slt v501 c0_i32_299
  let v506 : BitVec 1 := Scalar.xori v504 v505
  let c0_i32_297 : BitVec 32 := 0#32
  let v503 : BitVec 1 := Scalar.cmpi .ne v502 c0_i32_297
  let v507 : BitVec 1 := Scalar.andi v506 v503
  let v508 : BitVec 32 := Scalar.addi v502 v501
  let v509 : BitVec 32 := Scalar.select v507 v508 v502
  let c16_i32_300 : BitVec 32 := 16#32
  let v510 : BitVec 32 := Scalar.muli v509 c16_i32_300
  let c0_i32_882 : BitVec 32 := 0#32
  ![v499.toNat, v510.toNat, 0]
def k0_cond99 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_838 : BitVec 32 := 2#32
  let v1470 : BitVec 1 := Scalar.cmpi .ne v2 c2_i32_838
  let v1471 : BitVec 32 := Scalar.extui v1470
  let c0_i32_840 : BitVec 32 := 0#32
  let v1472 : BitVec 1 := Scalar.cmpi .ne v1471 c0_i32_840
  v1472

def k0_off104 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_319 : BitVec 32 := 0#32
  let v543 : BitVec 1 := Scalar.cmpi .sgt v2 c0_i32_319
  let v544 : BitVec 32 := Scalar.extui v543
  let c0_i32_320 : BitVec 32 := 0#32
  let v545 : BitVec 1 := Scalar.cmpi .slt v2 c0_i32_320
  let v546 : BitVec 32 := Scalar.extui v545
  let v547 : BitVec 32 := Scalar.subi v544 v546
  let c8_i32_318 : BitVec 32 := 8#32
  let c0_i32_321 : BitVec 32 := 0#32
  let v548 : BitVec 1 := Scalar.cmpi .sgt c8_i32_318 c0_i32_321
  let v549 : BitVec 32 := Scalar.extui v548
  let c0_i32_322 : BitVec 32 := 0#32
  let v550 : BitVec 1 := Scalar.cmpi .slt c8_i32_318 c0_i32_322
  let v551 : BitVec 32 := Scalar.extui v550
  let v552 : BitVec 32 := Scalar.subi v549 v551
  let v553 : BitVec 1 := Scalar.cmpi .ne v547 v552
  let v554 : BitVec 32 := Scalar.remsi v2 c8_i32_318
  let c0_i32_323 : BitVec 32 := 0#32
  let v555 : BitVec 1 := Scalar.cmpi .ne v554 c0_i32_323
  let v556 : BitVec 1 := Scalar.andi v553 v555
  let v542 : BitVec 32 := Scalar.divsi v2 c8_i32_318
  let c1_i32_324 : BitVec 32 := 1#32
  let v557 : BitVec 32 := Scalar.subi v542 c1_i32_324
  let v558 : BitVec 32 := Scalar.select v556 v557 v542
  let c8_i32_325 : BitVec 32 := 8#32
  let c0_i32_326 : BitVec 32 := 0#32
  let v559 : BitVec 1 := Scalar.cmpi .eq c8_i32_325 c0_i32_326
  let c1_i32_327 : BitVec 32 := 1#32
  let v560 : BitVec 32 := Scalar.select v559 c1_i32_327 c8_i32_325
  let v561 : BitVec 32 := Scalar.remsi v2 v560
  let c0_i32_329 : BitVec 32 := 0#32
  let v563 : BitVec 1 := Scalar.cmpi .slt v561 c0_i32_329
  let c0_i32_330 : BitVec 32 := 0#32
  let v564 : BitVec 1 := Scalar.cmpi .slt v560 c0_i32_330
  let v565 : BitVec 1 := Scalar.xori v563 v564
  let c0_i32_328 : BitVec 32 := 0#32
  let v562 : BitVec 1 := Scalar.cmpi .ne v561 c0_i32_328
  let v566 : BitVec 1 := Scalar.andi v565 v562
  let v567 : BitVec 32 := Scalar.addi v561 v560
  let v568 : BitVec 32 := Scalar.select v566 v567 v561
  let c16_i32_331 : BitVec 32 := 16#32
  let v569 : BitVec 32 := Scalar.muli v568 c16_i32_331
  let c0_i32_882 : BitVec 32 := 0#32
  ![v558.toNat, v569.toNat, 0]
def k0_cond100 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_841 : BitVec 32 := 3#32
  let v1473 : BitVec 1 := Scalar.cmpi .ne v2 c3_i32_841
  let v1474 : BitVec 32 := Scalar.extui v1473
  let c0_i32_843 : BitVec 32 := 0#32
  let v1475 : BitVec 1 := Scalar.cmpi .ne v1474 c0_i32_843
  v1475

def k0_off105 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_350 : BitVec 32 := 0#32
  let v602 : BitVec 1 := Scalar.cmpi .sgt v2 c0_i32_350
  let v603 : BitVec 32 := Scalar.extui v602
  let c0_i32_351 : BitVec 32 := 0#32
  let v604 : BitVec 1 := Scalar.cmpi .slt v2 c0_i32_351
  let v605 : BitVec 32 := Scalar.extui v604
  let v606 : BitVec 32 := Scalar.subi v603 v605
  let c8_i32_349 : BitVec 32 := 8#32
  let c0_i32_352 : BitVec 32 := 0#32
  let v607 : BitVec 1 := Scalar.cmpi .sgt c8_i32_349 c0_i32_352
  let v608 : BitVec 32 := Scalar.extui v607
  let c0_i32_353 : BitVec 32 := 0#32
  let v609 : BitVec 1 := Scalar.cmpi .slt c8_i32_349 c0_i32_353
  let v610 : BitVec 32 := Scalar.extui v609
  let v611 : BitVec 32 := Scalar.subi v608 v610
  let v612 : BitVec 1 := Scalar.cmpi .ne v606 v611
  let v613 : BitVec 32 := Scalar.remsi v2 c8_i32_349
  let c0_i32_354 : BitVec 32 := 0#32
  let v614 : BitVec 1 := Scalar.cmpi .ne v613 c0_i32_354
  let v615 : BitVec 1 := Scalar.andi v612 v614
  let v601 : BitVec 32 := Scalar.divsi v2 c8_i32_349
  let c1_i32_355 : BitVec 32 := 1#32
  let v616 : BitVec 32 := Scalar.subi v601 c1_i32_355
  let v617 : BitVec 32 := Scalar.select v615 v616 v601
  let c8_i32_356 : BitVec 32 := 8#32
  let c0_i32_357 : BitVec 32 := 0#32
  let v618 : BitVec 1 := Scalar.cmpi .eq c8_i32_356 c0_i32_357
  let c1_i32_358 : BitVec 32 := 1#32
  let v619 : BitVec 32 := Scalar.select v618 c1_i32_358 c8_i32_356
  let v620 : BitVec 32 := Scalar.remsi v2 v619
  let c0_i32_360 : BitVec 32 := 0#32
  let v622 : BitVec 1 := Scalar.cmpi .slt v620 c0_i32_360
  let c0_i32_361 : BitVec 32 := 0#32
  let v623 : BitVec 1 := Scalar.cmpi .slt v619 c0_i32_361
  let v624 : BitVec 1 := Scalar.xori v622 v623
  let c0_i32_359 : BitVec 32 := 0#32
  let v621 : BitVec 1 := Scalar.cmpi .ne v620 c0_i32_359
  let v625 : BitVec 1 := Scalar.andi v624 v621
  let v626 : BitVec 32 := Scalar.addi v620 v619
  let v627 : BitVec 32 := Scalar.select v625 v626 v620
  let c16_i32_362 : BitVec 32 := 16#32
  let v628 : BitVec 32 := Scalar.muli v627 c16_i32_362
  let c0_i32_882 : BitVec 32 := 0#32
  ![v617.toNat, v628.toNat, 0]
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_844 : BitVec 32 := 4#32
  let v1476 : BitVec 1 := Scalar.cmpi .ne v2 c4_i32_844
  let v1477 : BitVec 32 := Scalar.extui v1476
  let c0_i32_846 : BitVec 32 := 0#32
  let v1478 : BitVec 1 := Scalar.cmpi .ne v1477 c0_i32_846
  v1478

def k0_off106 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_381 : BitVec 32 := 0#32
  let v661 : BitVec 1 := Scalar.cmpi .sgt v2 c0_i32_381
  let v662 : BitVec 32 := Scalar.extui v661
  let c0_i32_382 : BitVec 32 := 0#32
  let v663 : BitVec 1 := Scalar.cmpi .slt v2 c0_i32_382
  let v664 : BitVec 32 := Scalar.extui v663
  let v665 : BitVec 32 := Scalar.subi v662 v664
  let c8_i32_380 : BitVec 32 := 8#32
  let c0_i32_383 : BitVec 32 := 0#32
  let v666 : BitVec 1 := Scalar.cmpi .sgt c8_i32_380 c0_i32_383
  let v667 : BitVec 32 := Scalar.extui v666
  let c0_i32_384 : BitVec 32 := 0#32
  let v668 : BitVec 1 := Scalar.cmpi .slt c8_i32_380 c0_i32_384
  let v669 : BitVec 32 := Scalar.extui v668
  let v670 : BitVec 32 := Scalar.subi v667 v669
  let v671 : BitVec 1 := Scalar.cmpi .ne v665 v670
  let v672 : BitVec 32 := Scalar.remsi v2 c8_i32_380
  let c0_i32_385 : BitVec 32 := 0#32
  let v673 : BitVec 1 := Scalar.cmpi .ne v672 c0_i32_385
  let v674 : BitVec 1 := Scalar.andi v671 v673
  let v660 : BitVec 32 := Scalar.divsi v2 c8_i32_380
  let c1_i32_386 : BitVec 32 := 1#32
  let v675 : BitVec 32 := Scalar.subi v660 c1_i32_386
  let v676 : BitVec 32 := Scalar.select v674 v675 v660
  let c8_i32_387 : BitVec 32 := 8#32
  let c0_i32_388 : BitVec 32 := 0#32
  let v677 : BitVec 1 := Scalar.cmpi .eq c8_i32_387 c0_i32_388
  let c1_i32_389 : BitVec 32 := 1#32
  let v678 : BitVec 32 := Scalar.select v677 c1_i32_389 c8_i32_387
  let v679 : BitVec 32 := Scalar.remsi v2 v678
  let c0_i32_391 : BitVec 32 := 0#32
  let v681 : BitVec 1 := Scalar.cmpi .slt v679 c0_i32_391
  let c0_i32_392 : BitVec 32 := 0#32
  let v682 : BitVec 1 := Scalar.cmpi .slt v678 c0_i32_392
  let v683 : BitVec 1 := Scalar.xori v681 v682
  let c0_i32_390 : BitVec 32 := 0#32
  let v680 : BitVec 1 := Scalar.cmpi .ne v679 c0_i32_390
  let v684 : BitVec 1 := Scalar.andi v683 v680
  let v685 : BitVec 32 := Scalar.addi v679 v678
  let v686 : BitVec 32 := Scalar.select v684 v685 v679
  let c16_i32_393 : BitVec 32 := 16#32
  let v687 : BitVec 32 := Scalar.muli v686 c16_i32_393
  let c0_i32_882 : BitVec 32 := 0#32
  ![v676.toNat, v687.toNat, 0]
def k0_cond102 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_847 : BitVec 32 := 5#32
  let v1479 : BitVec 1 := Scalar.cmpi .ne v2 c5_i32_847
  let v1480 : BitVec 32 := Scalar.extui v1479
  let c0_i32_849 : BitVec 32 := 0#32
  let v1481 : BitVec 1 := Scalar.cmpi .ne v1480 c0_i32_849
  v1481

def k0_off107 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_412 : BitVec 32 := 0#32
  let v720 : BitVec 1 := Scalar.cmpi .sgt v2 c0_i32_412
  let v721 : BitVec 32 := Scalar.extui v720
  let c0_i32_413 : BitVec 32 := 0#32
  let v722 : BitVec 1 := Scalar.cmpi .slt v2 c0_i32_413
  let v723 : BitVec 32 := Scalar.extui v722
  let v724 : BitVec 32 := Scalar.subi v721 v723
  let c8_i32_411 : BitVec 32 := 8#32
  let c0_i32_414 : BitVec 32 := 0#32
  let v725 : BitVec 1 := Scalar.cmpi .sgt c8_i32_411 c0_i32_414
  let v726 : BitVec 32 := Scalar.extui v725
  let c0_i32_415 : BitVec 32 := 0#32
  let v727 : BitVec 1 := Scalar.cmpi .slt c8_i32_411 c0_i32_415
  let v728 : BitVec 32 := Scalar.extui v727
  let v729 : BitVec 32 := Scalar.subi v726 v728
  let v730 : BitVec 1 := Scalar.cmpi .ne v724 v729
  let v731 : BitVec 32 := Scalar.remsi v2 c8_i32_411
  let c0_i32_416 : BitVec 32 := 0#32
  let v732 : BitVec 1 := Scalar.cmpi .ne v731 c0_i32_416
  let v733 : BitVec 1 := Scalar.andi v730 v732
  let v719 : BitVec 32 := Scalar.divsi v2 c8_i32_411
  let c1_i32_417 : BitVec 32 := 1#32
  let v734 : BitVec 32 := Scalar.subi v719 c1_i32_417
  let v735 : BitVec 32 := Scalar.select v733 v734 v719
  let c8_i32_418 : BitVec 32 := 8#32
  let c0_i32_419 : BitVec 32 := 0#32
  let v736 : BitVec 1 := Scalar.cmpi .eq c8_i32_418 c0_i32_419
  let c1_i32_420 : BitVec 32 := 1#32
  let v737 : BitVec 32 := Scalar.select v736 c1_i32_420 c8_i32_418
  let v738 : BitVec 32 := Scalar.remsi v2 v737
  let c0_i32_422 : BitVec 32 := 0#32
  let v740 : BitVec 1 := Scalar.cmpi .slt v738 c0_i32_422
  let c0_i32_423 : BitVec 32 := 0#32
  let v741 : BitVec 1 := Scalar.cmpi .slt v737 c0_i32_423
  let v742 : BitVec 1 := Scalar.xori v740 v741
  let c0_i32_421 : BitVec 32 := 0#32
  let v739 : BitVec 1 := Scalar.cmpi .ne v738 c0_i32_421
  let v743 : BitVec 1 := Scalar.andi v742 v739
  let v744 : BitVec 32 := Scalar.addi v738 v737
  let v745 : BitVec 32 := Scalar.select v743 v744 v738
  let c16_i32_424 : BitVec 32 := 16#32
  let v746 : BitVec 32 := Scalar.muli v745 c16_i32_424
  let c0_i32_882 : BitVec 32 := 0#32
  ![v735.toNat, v746.toNat, 0]
def k0_cond103 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_850 : BitVec 32 := 6#32
  let v1482 : BitVec 1 := Scalar.cmpi .ne v2 c6_i32_850
  let v1483 : BitVec 32 := Scalar.extui v1482
  let c0_i32_852 : BitVec 32 := 0#32
  let v1484 : BitVec 1 := Scalar.cmpi .ne v1483 c0_i32_852
  v1484

def k0_off108 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_443 : BitVec 32 := 0#32
  let v779 : BitVec 1 := Scalar.cmpi .sgt v2 c0_i32_443
  let v780 : BitVec 32 := Scalar.extui v779
  let c0_i32_444 : BitVec 32 := 0#32
  let v781 : BitVec 1 := Scalar.cmpi .slt v2 c0_i32_444
  let v782 : BitVec 32 := Scalar.extui v781
  let v783 : BitVec 32 := Scalar.subi v780 v782
  let c8_i32_442 : BitVec 32 := 8#32
  let c0_i32_445 : BitVec 32 := 0#32
  let v784 : BitVec 1 := Scalar.cmpi .sgt c8_i32_442 c0_i32_445
  let v785 : BitVec 32 := Scalar.extui v784
  let c0_i32_446 : BitVec 32 := 0#32
  let v786 : BitVec 1 := Scalar.cmpi .slt c8_i32_442 c0_i32_446
  let v787 : BitVec 32 := Scalar.extui v786
  let v788 : BitVec 32 := Scalar.subi v785 v787
  let v789 : BitVec 1 := Scalar.cmpi .ne v783 v788
  let v790 : BitVec 32 := Scalar.remsi v2 c8_i32_442
  let c0_i32_447 : BitVec 32 := 0#32
  let v791 : BitVec 1 := Scalar.cmpi .ne v790 c0_i32_447
  let v792 : BitVec 1 := Scalar.andi v789 v791
  let v778 : BitVec 32 := Scalar.divsi v2 c8_i32_442
  let c1_i32_448 : BitVec 32 := 1#32
  let v793 : BitVec 32 := Scalar.subi v778 c1_i32_448
  let v794 : BitVec 32 := Scalar.select v792 v793 v778
  let c8_i32_449 : BitVec 32 := 8#32
  let c0_i32_450 : BitVec 32 := 0#32
  let v795 : BitVec 1 := Scalar.cmpi .eq c8_i32_449 c0_i32_450
  let c1_i32_451 : BitVec 32 := 1#32
  let v796 : BitVec 32 := Scalar.select v795 c1_i32_451 c8_i32_449
  let v797 : BitVec 32 := Scalar.remsi v2 v796
  let c0_i32_453 : BitVec 32 := 0#32
  let v799 : BitVec 1 := Scalar.cmpi .slt v797 c0_i32_453
  let c0_i32_454 : BitVec 32 := 0#32
  let v800 : BitVec 1 := Scalar.cmpi .slt v796 c0_i32_454
  let v801 : BitVec 1 := Scalar.xori v799 v800
  let c0_i32_452 : BitVec 32 := 0#32
  let v798 : BitVec 1 := Scalar.cmpi .ne v797 c0_i32_452
  let v802 : BitVec 1 := Scalar.andi v801 v798
  let v803 : BitVec 32 := Scalar.addi v797 v796
  let v804 : BitVec 32 := Scalar.select v802 v803 v797
  let c16_i32_455 : BitVec 32 := 16#32
  let v805 : BitVec 32 := Scalar.muli v804 c16_i32_455
  let c0_i32_882 : BitVec 32 := 0#32
  ![v794.toNat, v805.toNat, 0]
def k0_cond104 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_853 : BitVec 32 := 7#32
  let v1485 : BitVec 1 := Scalar.cmpi .ne v2 c7_i32_853
  let v1486 : BitVec 32 := Scalar.extui v1485
  let c0_i32_855 : BitVec 32 := 0#32
  let v1487 : BitVec 1 := Scalar.cmpi .ne v1486 c0_i32_855
  v1487

def k0_off109 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_474 : BitVec 32 := 0#32
  let v838 : BitVec 1 := Scalar.cmpi .sgt v2 c0_i32_474
  let v839 : BitVec 32 := Scalar.extui v838
  let c0_i32_475 : BitVec 32 := 0#32
  let v840 : BitVec 1 := Scalar.cmpi .slt v2 c0_i32_475
  let v841 : BitVec 32 := Scalar.extui v840
  let v842 : BitVec 32 := Scalar.subi v839 v841
  let c8_i32_473 : BitVec 32 := 8#32
  let c0_i32_476 : BitVec 32 := 0#32
  let v843 : BitVec 1 := Scalar.cmpi .sgt c8_i32_473 c0_i32_476
  let v844 : BitVec 32 := Scalar.extui v843
  let c0_i32_477 : BitVec 32 := 0#32
  let v845 : BitVec 1 := Scalar.cmpi .slt c8_i32_473 c0_i32_477
  let v846 : BitVec 32 := Scalar.extui v845
  let v847 : BitVec 32 := Scalar.subi v844 v846
  let v848 : BitVec 1 := Scalar.cmpi .ne v842 v847
  let v849 : BitVec 32 := Scalar.remsi v2 c8_i32_473
  let c0_i32_478 : BitVec 32 := 0#32
  let v850 : BitVec 1 := Scalar.cmpi .ne v849 c0_i32_478
  let v851 : BitVec 1 := Scalar.andi v848 v850
  let v837 : BitVec 32 := Scalar.divsi v2 c8_i32_473
  let c1_i32_479 : BitVec 32 := 1#32
  let v852 : BitVec 32 := Scalar.subi v837 c1_i32_479
  let v853 : BitVec 32 := Scalar.select v851 v852 v837
  let c8_i32_480 : BitVec 32 := 8#32
  let c0_i32_481 : BitVec 32 := 0#32
  let v854 : BitVec 1 := Scalar.cmpi .eq c8_i32_480 c0_i32_481
  let c1_i32_482 : BitVec 32 := 1#32
  let v855 : BitVec 32 := Scalar.select v854 c1_i32_482 c8_i32_480
  let v856 : BitVec 32 := Scalar.remsi v2 v855
  let c0_i32_484 : BitVec 32 := 0#32
  let v858 : BitVec 1 := Scalar.cmpi .slt v856 c0_i32_484
  let c0_i32_485 : BitVec 32 := 0#32
  let v859 : BitVec 1 := Scalar.cmpi .slt v855 c0_i32_485
  let v860 : BitVec 1 := Scalar.xori v858 v859
  let c0_i32_483 : BitVec 32 := 0#32
  let v857 : BitVec 1 := Scalar.cmpi .ne v856 c0_i32_483
  let v861 : BitVec 1 := Scalar.andi v860 v857
  let v862 : BitVec 32 := Scalar.addi v856 v855
  let v863 : BitVec 32 := Scalar.select v861 v862 v856
  let c16_i32_486 : BitVec 32 := 16#32
  let v864 : BitVec 32 := Scalar.muli v863 c16_i32_486
  let c0_i32_882 : BitVec 32 := 0#32
  ![v853.toNat, v864.toNat, 0]
def k0_cond105 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_856 : BitVec 32 := 8#32
  let v1488 : BitVec 1 := Scalar.cmpi .ne v2 c8_i32_856
  let v1489 : BitVec 32 := Scalar.extui v1488
  let c0_i32_858 : BitVec 32 := 0#32
  let v1490 : BitVec 1 := Scalar.cmpi .ne v1489 c0_i32_858
  v1490

def k0_off110 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_505 : BitVec 32 := 0#32
  let v897 : BitVec 1 := Scalar.cmpi .sgt v2 c0_i32_505
  let v898 : BitVec 32 := Scalar.extui v897
  let c0_i32_506 : BitVec 32 := 0#32
  let v899 : BitVec 1 := Scalar.cmpi .slt v2 c0_i32_506
  let v900 : BitVec 32 := Scalar.extui v899
  let v901 : BitVec 32 := Scalar.subi v898 v900
  let c8_i32_504 : BitVec 32 := 8#32
  let c0_i32_507 : BitVec 32 := 0#32
  let v902 : BitVec 1 := Scalar.cmpi .sgt c8_i32_504 c0_i32_507
  let v903 : BitVec 32 := Scalar.extui v902
  let c0_i32_508 : BitVec 32 := 0#32
  let v904 : BitVec 1 := Scalar.cmpi .slt c8_i32_504 c0_i32_508
  let v905 : BitVec 32 := Scalar.extui v904
  let v906 : BitVec 32 := Scalar.subi v903 v905
  let v907 : BitVec 1 := Scalar.cmpi .ne v901 v906
  let v908 : BitVec 32 := Scalar.remsi v2 c8_i32_504
  let c0_i32_509 : BitVec 32 := 0#32
  let v909 : BitVec 1 := Scalar.cmpi .ne v908 c0_i32_509
  let v910 : BitVec 1 := Scalar.andi v907 v909
  let v896 : BitVec 32 := Scalar.divsi v2 c8_i32_504
  let c1_i32_510 : BitVec 32 := 1#32
  let v911 : BitVec 32 := Scalar.subi v896 c1_i32_510
  let v912 : BitVec 32 := Scalar.select v910 v911 v896
  let c8_i32_511 : BitVec 32 := 8#32
  let c0_i32_512 : BitVec 32 := 0#32
  let v913 : BitVec 1 := Scalar.cmpi .eq c8_i32_511 c0_i32_512
  let c1_i32_513 : BitVec 32 := 1#32
  let v914 : BitVec 32 := Scalar.select v913 c1_i32_513 c8_i32_511
  let v915 : BitVec 32 := Scalar.remsi v2 v914
  let c0_i32_515 : BitVec 32 := 0#32
  let v917 : BitVec 1 := Scalar.cmpi .slt v915 c0_i32_515
  let c0_i32_516 : BitVec 32 := 0#32
  let v918 : BitVec 1 := Scalar.cmpi .slt v914 c0_i32_516
  let v919 : BitVec 1 := Scalar.xori v917 v918
  let c0_i32_514 : BitVec 32 := 0#32
  let v916 : BitVec 1 := Scalar.cmpi .ne v915 c0_i32_514
  let v920 : BitVec 1 := Scalar.andi v919 v916
  let v921 : BitVec 32 := Scalar.addi v915 v914
  let v922 : BitVec 32 := Scalar.select v920 v921 v915
  let c16_i32_517 : BitVec 32 := 16#32
  let v923 : BitVec 32 := Scalar.muli v922 c16_i32_517
  let c0_i32_882 : BitVec 32 := 0#32
  ![v912.toNat, v923.toNat, 0]
def k0_cond106 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_859 : BitVec 32 := 9#32
  let v1491 : BitVec 1 := Scalar.cmpi .ne v2 c9_i32_859
  let v1492 : BitVec 32 := Scalar.extui v1491
  let c0_i32_861 : BitVec 32 := 0#32
  let v1493 : BitVec 1 := Scalar.cmpi .ne v1492 c0_i32_861
  v1493

def k0_off111 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_536 : BitVec 32 := 0#32
  let v956 : BitVec 1 := Scalar.cmpi .sgt v2 c0_i32_536
  let v957 : BitVec 32 := Scalar.extui v956
  let c0_i32_537 : BitVec 32 := 0#32
  let v958 : BitVec 1 := Scalar.cmpi .slt v2 c0_i32_537
  let v959 : BitVec 32 := Scalar.extui v958
  let v960 : BitVec 32 := Scalar.subi v957 v959
  let c8_i32_535 : BitVec 32 := 8#32
  let c0_i32_538 : BitVec 32 := 0#32
  let v961 : BitVec 1 := Scalar.cmpi .sgt c8_i32_535 c0_i32_538
  let v962 : BitVec 32 := Scalar.extui v961
  let c0_i32_539 : BitVec 32 := 0#32
  let v963 : BitVec 1 := Scalar.cmpi .slt c8_i32_535 c0_i32_539
  let v964 : BitVec 32 := Scalar.extui v963
  let v965 : BitVec 32 := Scalar.subi v962 v964
  let v966 : BitVec 1 := Scalar.cmpi .ne v960 v965
  let v967 : BitVec 32 := Scalar.remsi v2 c8_i32_535
  let c0_i32_540 : BitVec 32 := 0#32
  let v968 : BitVec 1 := Scalar.cmpi .ne v967 c0_i32_540
  let v969 : BitVec 1 := Scalar.andi v966 v968
  let v955 : BitVec 32 := Scalar.divsi v2 c8_i32_535
  let c1_i32_541 : BitVec 32 := 1#32
  let v970 : BitVec 32 := Scalar.subi v955 c1_i32_541
  let v971 : BitVec 32 := Scalar.select v969 v970 v955
  let c8_i32_542 : BitVec 32 := 8#32
  let c0_i32_543 : BitVec 32 := 0#32
  let v972 : BitVec 1 := Scalar.cmpi .eq c8_i32_542 c0_i32_543
  let c1_i32_544 : BitVec 32 := 1#32
  let v973 : BitVec 32 := Scalar.select v972 c1_i32_544 c8_i32_542
  let v974 : BitVec 32 := Scalar.remsi v2 v973
  let c0_i32_546 : BitVec 32 := 0#32
  let v976 : BitVec 1 := Scalar.cmpi .slt v974 c0_i32_546
  let c0_i32_547 : BitVec 32 := 0#32
  let v977 : BitVec 1 := Scalar.cmpi .slt v973 c0_i32_547
  let v978 : BitVec 1 := Scalar.xori v976 v977
  let c0_i32_545 : BitVec 32 := 0#32
  let v975 : BitVec 1 := Scalar.cmpi .ne v974 c0_i32_545
  let v979 : BitVec 1 := Scalar.andi v978 v975
  let v980 : BitVec 32 := Scalar.addi v974 v973
  let v981 : BitVec 32 := Scalar.select v979 v980 v974
  let c16_i32_548 : BitVec 32 := 16#32
  let v982 : BitVec 32 := Scalar.muli v981 c16_i32_548
  let c0_i32_882 : BitVec 32 := 0#32
  ![v971.toNat, v982.toNat, 0]
def k0_cond107 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_862 : BitVec 32 := 10#32
  let v1494 : BitVec 1 := Scalar.cmpi .ne v2 c10_i32_862
  let v1495 : BitVec 32 := Scalar.extui v1494
  let c0_i32_864 : BitVec 32 := 0#32
  let v1496 : BitVec 1 := Scalar.cmpi .ne v1495 c0_i32_864
  v1496

def k0_off112 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_567 : BitVec 32 := 0#32
  let v1015 : BitVec 1 := Scalar.cmpi .sgt v2 c0_i32_567
  let v1016 : BitVec 32 := Scalar.extui v1015
  let c0_i32_568 : BitVec 32 := 0#32
  let v1017 : BitVec 1 := Scalar.cmpi .slt v2 c0_i32_568
  let v1018 : BitVec 32 := Scalar.extui v1017
  let v1019 : BitVec 32 := Scalar.subi v1016 v1018
  let c8_i32_566 : BitVec 32 := 8#32
  let c0_i32_569 : BitVec 32 := 0#32
  let v1020 : BitVec 1 := Scalar.cmpi .sgt c8_i32_566 c0_i32_569
  let v1021 : BitVec 32 := Scalar.extui v1020
  let c0_i32_570 : BitVec 32 := 0#32
  let v1022 : BitVec 1 := Scalar.cmpi .slt c8_i32_566 c0_i32_570
  let v1023 : BitVec 32 := Scalar.extui v1022
  let v1024 : BitVec 32 := Scalar.subi v1021 v1023
  let v1025 : BitVec 1 := Scalar.cmpi .ne v1019 v1024
  let v1026 : BitVec 32 := Scalar.remsi v2 c8_i32_566
  let c0_i32_571 : BitVec 32 := 0#32
  let v1027 : BitVec 1 := Scalar.cmpi .ne v1026 c0_i32_571
  let v1028 : BitVec 1 := Scalar.andi v1025 v1027
  let v1014 : BitVec 32 := Scalar.divsi v2 c8_i32_566
  let c1_i32_572 : BitVec 32 := 1#32
  let v1029 : BitVec 32 := Scalar.subi v1014 c1_i32_572
  let v1030 : BitVec 32 := Scalar.select v1028 v1029 v1014
  let c8_i32_573 : BitVec 32 := 8#32
  let c0_i32_574 : BitVec 32 := 0#32
  let v1031 : BitVec 1 := Scalar.cmpi .eq c8_i32_573 c0_i32_574
  let c1_i32_575 : BitVec 32 := 1#32
  let v1032 : BitVec 32 := Scalar.select v1031 c1_i32_575 c8_i32_573
  let v1033 : BitVec 32 := Scalar.remsi v2 v1032
  let c0_i32_577 : BitVec 32 := 0#32
  let v1035 : BitVec 1 := Scalar.cmpi .slt v1033 c0_i32_577
  let c0_i32_578 : BitVec 32 := 0#32
  let v1036 : BitVec 1 := Scalar.cmpi .slt v1032 c0_i32_578
  let v1037 : BitVec 1 := Scalar.xori v1035 v1036
  let c0_i32_576 : BitVec 32 := 0#32
  let v1034 : BitVec 1 := Scalar.cmpi .ne v1033 c0_i32_576
  let v1038 : BitVec 1 := Scalar.andi v1037 v1034
  let v1039 : BitVec 32 := Scalar.addi v1033 v1032
  let v1040 : BitVec 32 := Scalar.select v1038 v1039 v1033
  let c16_i32_579 : BitVec 32 := 16#32
  let v1041 : BitVec 32 := Scalar.muli v1040 c16_i32_579
  let c0_i32_882 : BitVec 32 := 0#32
  ![v1030.toNat, v1041.toNat, 0]
def k0_cond108 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_865 : BitVec 32 := 11#32
  let v1497 : BitVec 1 := Scalar.cmpi .ne v2 c11_i32_865
  let v1498 : BitVec 32 := Scalar.extui v1497
  let c0_i32_867 : BitVec 32 := 0#32
  let v1499 : BitVec 1 := Scalar.cmpi .ne v1498 c0_i32_867
  v1499

def k0_off113 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_598 : BitVec 32 := 0#32
  let v1074 : BitVec 1 := Scalar.cmpi .sgt v2 c0_i32_598
  let v1075 : BitVec 32 := Scalar.extui v1074
  let c0_i32_599 : BitVec 32 := 0#32
  let v1076 : BitVec 1 := Scalar.cmpi .slt v2 c0_i32_599
  let v1077 : BitVec 32 := Scalar.extui v1076
  let v1078 : BitVec 32 := Scalar.subi v1075 v1077
  let c8_i32_597 : BitVec 32 := 8#32
  let c0_i32_600 : BitVec 32 := 0#32
  let v1079 : BitVec 1 := Scalar.cmpi .sgt c8_i32_597 c0_i32_600
  let v1080 : BitVec 32 := Scalar.extui v1079
  let c0_i32_601 : BitVec 32 := 0#32
  let v1081 : BitVec 1 := Scalar.cmpi .slt c8_i32_597 c0_i32_601
  let v1082 : BitVec 32 := Scalar.extui v1081
  let v1083 : BitVec 32 := Scalar.subi v1080 v1082
  let v1084 : BitVec 1 := Scalar.cmpi .ne v1078 v1083
  let v1085 : BitVec 32 := Scalar.remsi v2 c8_i32_597
  let c0_i32_602 : BitVec 32 := 0#32
  let v1086 : BitVec 1 := Scalar.cmpi .ne v1085 c0_i32_602
  let v1087 : BitVec 1 := Scalar.andi v1084 v1086
  let v1073 : BitVec 32 := Scalar.divsi v2 c8_i32_597
  let c1_i32_603 : BitVec 32 := 1#32
  let v1088 : BitVec 32 := Scalar.subi v1073 c1_i32_603
  let v1089 : BitVec 32 := Scalar.select v1087 v1088 v1073
  let c8_i32_604 : BitVec 32 := 8#32
  let c0_i32_605 : BitVec 32 := 0#32
  let v1090 : BitVec 1 := Scalar.cmpi .eq c8_i32_604 c0_i32_605
  let c1_i32_606 : BitVec 32 := 1#32
  let v1091 : BitVec 32 := Scalar.select v1090 c1_i32_606 c8_i32_604
  let v1092 : BitVec 32 := Scalar.remsi v2 v1091
  let c0_i32_608 : BitVec 32 := 0#32
  let v1094 : BitVec 1 := Scalar.cmpi .slt v1092 c0_i32_608
  let c0_i32_609 : BitVec 32 := 0#32
  let v1095 : BitVec 1 := Scalar.cmpi .slt v1091 c0_i32_609
  let v1096 : BitVec 1 := Scalar.xori v1094 v1095
  let c0_i32_607 : BitVec 32 := 0#32
  let v1093 : BitVec 1 := Scalar.cmpi .ne v1092 c0_i32_607
  let v1097 : BitVec 1 := Scalar.andi v1096 v1093
  let v1098 : BitVec 32 := Scalar.addi v1092 v1091
  let v1099 : BitVec 32 := Scalar.select v1097 v1098 v1092
  let c16_i32_610 : BitVec 32 := 16#32
  let v1100 : BitVec 32 := Scalar.muli v1099 c16_i32_610
  let c0_i32_882 : BitVec 32 := 0#32
  ![v1089.toNat, v1100.toNat, 0]
def k0_cond109 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_868 : BitVec 32 := 12#32
  let v1500 : BitVec 1 := Scalar.cmpi .ne v2 c12_i32_868
  let v1501 : BitVec 32 := Scalar.extui v1500
  let c0_i32_870 : BitVec 32 := 0#32
  let v1502 : BitVec 1 := Scalar.cmpi .ne v1501 c0_i32_870
  v1502

def k0_off114 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_629 : BitVec 32 := 0#32
  let v1133 : BitVec 1 := Scalar.cmpi .sgt v2 c0_i32_629
  let v1134 : BitVec 32 := Scalar.extui v1133
  let c0_i32_630 : BitVec 32 := 0#32
  let v1135 : BitVec 1 := Scalar.cmpi .slt v2 c0_i32_630
  let v1136 : BitVec 32 := Scalar.extui v1135
  let v1137 : BitVec 32 := Scalar.subi v1134 v1136
  let c8_i32_628 : BitVec 32 := 8#32
  let c0_i32_631 : BitVec 32 := 0#32
  let v1138 : BitVec 1 := Scalar.cmpi .sgt c8_i32_628 c0_i32_631
  let v1139 : BitVec 32 := Scalar.extui v1138
  let c0_i32_632 : BitVec 32 := 0#32
  let v1140 : BitVec 1 := Scalar.cmpi .slt c8_i32_628 c0_i32_632
  let v1141 : BitVec 32 := Scalar.extui v1140
  let v1142 : BitVec 32 := Scalar.subi v1139 v1141
  let v1143 : BitVec 1 := Scalar.cmpi .ne v1137 v1142
  let v1144 : BitVec 32 := Scalar.remsi v2 c8_i32_628
  let c0_i32_633 : BitVec 32 := 0#32
  let v1145 : BitVec 1 := Scalar.cmpi .ne v1144 c0_i32_633
  let v1146 : BitVec 1 := Scalar.andi v1143 v1145
  let v1132 : BitVec 32 := Scalar.divsi v2 c8_i32_628
  let c1_i32_634 : BitVec 32 := 1#32
  let v1147 : BitVec 32 := Scalar.subi v1132 c1_i32_634
  let v1148 : BitVec 32 := Scalar.select v1146 v1147 v1132
  let c8_i32_635 : BitVec 32 := 8#32
  let c0_i32_636 : BitVec 32 := 0#32
  let v1149 : BitVec 1 := Scalar.cmpi .eq c8_i32_635 c0_i32_636
  let c1_i32_637 : BitVec 32 := 1#32
  let v1150 : BitVec 32 := Scalar.select v1149 c1_i32_637 c8_i32_635
  let v1151 : BitVec 32 := Scalar.remsi v2 v1150
  let c0_i32_639 : BitVec 32 := 0#32
  let v1153 : BitVec 1 := Scalar.cmpi .slt v1151 c0_i32_639
  let c0_i32_640 : BitVec 32 := 0#32
  let v1154 : BitVec 1 := Scalar.cmpi .slt v1150 c0_i32_640
  let v1155 : BitVec 1 := Scalar.xori v1153 v1154
  let c0_i32_638 : BitVec 32 := 0#32
  let v1152 : BitVec 1 := Scalar.cmpi .ne v1151 c0_i32_638
  let v1156 : BitVec 1 := Scalar.andi v1155 v1152
  let v1157 : BitVec 32 := Scalar.addi v1151 v1150
  let v1158 : BitVec 32 := Scalar.select v1156 v1157 v1151
  let c16_i32_641 : BitVec 32 := 16#32
  let v1159 : BitVec 32 := Scalar.muli v1158 c16_i32_641
  let c0_i32_882 : BitVec 32 := 0#32
  ![v1148.toNat, v1159.toNat, 0]
def k0_cond110 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_871 : BitVec 32 := 13#32
  let v1503 : BitVec 1 := Scalar.cmpi .ne v2 c13_i32_871
  let v1504 : BitVec 32 := Scalar.extui v1503
  let c0_i32_873 : BitVec 32 := 0#32
  let v1505 : BitVec 1 := Scalar.cmpi .ne v1504 c0_i32_873
  v1505

def k0_off115 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_660 : BitVec 32 := 0#32
  let v1192 : BitVec 1 := Scalar.cmpi .sgt v2 c0_i32_660
  let v1193 : BitVec 32 := Scalar.extui v1192
  let c0_i32_661 : BitVec 32 := 0#32
  let v1194 : BitVec 1 := Scalar.cmpi .slt v2 c0_i32_661
  let v1195 : BitVec 32 := Scalar.extui v1194
  let v1196 : BitVec 32 := Scalar.subi v1193 v1195
  let c8_i32_659 : BitVec 32 := 8#32
  let c0_i32_662 : BitVec 32 := 0#32
  let v1197 : BitVec 1 := Scalar.cmpi .sgt c8_i32_659 c0_i32_662
  let v1198 : BitVec 32 := Scalar.extui v1197
  let c0_i32_663 : BitVec 32 := 0#32
  let v1199 : BitVec 1 := Scalar.cmpi .slt c8_i32_659 c0_i32_663
  let v1200 : BitVec 32 := Scalar.extui v1199
  let v1201 : BitVec 32 := Scalar.subi v1198 v1200
  let v1202 : BitVec 1 := Scalar.cmpi .ne v1196 v1201
  let v1203 : BitVec 32 := Scalar.remsi v2 c8_i32_659
  let c0_i32_664 : BitVec 32 := 0#32
  let v1204 : BitVec 1 := Scalar.cmpi .ne v1203 c0_i32_664
  let v1205 : BitVec 1 := Scalar.andi v1202 v1204
  let v1191 : BitVec 32 := Scalar.divsi v2 c8_i32_659
  let c1_i32_665 : BitVec 32 := 1#32
  let v1206 : BitVec 32 := Scalar.subi v1191 c1_i32_665
  let v1207 : BitVec 32 := Scalar.select v1205 v1206 v1191
  let c8_i32_666 : BitVec 32 := 8#32
  let c0_i32_667 : BitVec 32 := 0#32
  let v1208 : BitVec 1 := Scalar.cmpi .eq c8_i32_666 c0_i32_667
  let c1_i32_668 : BitVec 32 := 1#32
  let v1209 : BitVec 32 := Scalar.select v1208 c1_i32_668 c8_i32_666
  let v1210 : BitVec 32 := Scalar.remsi v2 v1209
  let c0_i32_670 : BitVec 32 := 0#32
  let v1212 : BitVec 1 := Scalar.cmpi .slt v1210 c0_i32_670
  let c0_i32_671 : BitVec 32 := 0#32
  let v1213 : BitVec 1 := Scalar.cmpi .slt v1209 c0_i32_671
  let v1214 : BitVec 1 := Scalar.xori v1212 v1213
  let c0_i32_669 : BitVec 32 := 0#32
  let v1211 : BitVec 1 := Scalar.cmpi .ne v1210 c0_i32_669
  let v1215 : BitVec 1 := Scalar.andi v1214 v1211
  let v1216 : BitVec 32 := Scalar.addi v1210 v1209
  let v1217 : BitVec 32 := Scalar.select v1215 v1216 v1210
  let c16_i32_672 : BitVec 32 := 16#32
  let v1218 : BitVec 32 := Scalar.muli v1217 c16_i32_672
  let c0_i32_882 : BitVec 32 := 0#32
  ![v1207.toNat, v1218.toNat, 0]
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_874 : BitVec 32 := 14#32
  let v1506 : BitVec 1 := Scalar.cmpi .ne v2 c14_i32_874
  let v1507 : BitVec 32 := Scalar.extui v1506
  let c0_i32_876 : BitVec 32 := 0#32
  let v1508 : BitVec 1 := Scalar.cmpi .ne v1507 c0_i32_876
  v1508

def k0_off116 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_691 : BitVec 32 := 0#32
  let v1251 : BitVec 1 := Scalar.cmpi .sgt v2 c0_i32_691
  let v1252 : BitVec 32 := Scalar.extui v1251
  let c0_i32_692 : BitVec 32 := 0#32
  let v1253 : BitVec 1 := Scalar.cmpi .slt v2 c0_i32_692
  let v1254 : BitVec 32 := Scalar.extui v1253
  let v1255 : BitVec 32 := Scalar.subi v1252 v1254
  let c8_i32_690 : BitVec 32 := 8#32
  let c0_i32_693 : BitVec 32 := 0#32
  let v1256 : BitVec 1 := Scalar.cmpi .sgt c8_i32_690 c0_i32_693
  let v1257 : BitVec 32 := Scalar.extui v1256
  let c0_i32_694 : BitVec 32 := 0#32
  let v1258 : BitVec 1 := Scalar.cmpi .slt c8_i32_690 c0_i32_694
  let v1259 : BitVec 32 := Scalar.extui v1258
  let v1260 : BitVec 32 := Scalar.subi v1257 v1259
  let v1261 : BitVec 1 := Scalar.cmpi .ne v1255 v1260
  let v1262 : BitVec 32 := Scalar.remsi v2 c8_i32_690
  let c0_i32_695 : BitVec 32 := 0#32
  let v1263 : BitVec 1 := Scalar.cmpi .ne v1262 c0_i32_695
  let v1264 : BitVec 1 := Scalar.andi v1261 v1263
  let v1250 : BitVec 32 := Scalar.divsi v2 c8_i32_690
  let c1_i32_696 : BitVec 32 := 1#32
  let v1265 : BitVec 32 := Scalar.subi v1250 c1_i32_696
  let v1266 : BitVec 32 := Scalar.select v1264 v1265 v1250
  let c8_i32_697 : BitVec 32 := 8#32
  let c0_i32_698 : BitVec 32 := 0#32
  let v1267 : BitVec 1 := Scalar.cmpi .eq c8_i32_697 c0_i32_698
  let c1_i32_699 : BitVec 32 := 1#32
  let v1268 : BitVec 32 := Scalar.select v1267 c1_i32_699 c8_i32_697
  let v1269 : BitVec 32 := Scalar.remsi v2 v1268
  let c0_i32_701 : BitVec 32 := 0#32
  let v1271 : BitVec 1 := Scalar.cmpi .slt v1269 c0_i32_701
  let c0_i32_702 : BitVec 32 := 0#32
  let v1272 : BitVec 1 := Scalar.cmpi .slt v1268 c0_i32_702
  let v1273 : BitVec 1 := Scalar.xori v1271 v1272
  let c0_i32_700 : BitVec 32 := 0#32
  let v1270 : BitVec 1 := Scalar.cmpi .ne v1269 c0_i32_700
  let v1274 : BitVec 1 := Scalar.andi v1273 v1270
  let v1275 : BitVec 32 := Scalar.addi v1269 v1268
  let v1276 : BitVec 32 := Scalar.select v1274 v1275 v1269
  let c16_i32_703 : BitVec 32 := 16#32
  let v1277 : BitVec 32 := Scalar.muli v1276 c16_i32_703
  let c0_i32_882 : BitVec 32 := 0#32
  ![v1266.toNat, v1277.toNat, 0]
def k0_cond112 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_877 : BitVec 32 := 15#32
  let v1509 : BitVec 1 := Scalar.cmpi .ne v2 c15_i32_877
  let v1510 : BitVec 32 := Scalar.extui v1509
  let c0_i32_879 : BitVec 32 := 0#32
  let v1511 : BitVec 1 := Scalar.cmpi .ne v1510 c0_i32_879
  v1511

def k0_off117 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_722 : BitVec 32 := 0#32
  let v1310 : BitVec 1 := Scalar.cmpi .sgt v2 c0_i32_722
  let v1311 : BitVec 32 := Scalar.extui v1310
  let c0_i32_723 : BitVec 32 := 0#32
  let v1312 : BitVec 1 := Scalar.cmpi .slt v2 c0_i32_723
  let v1313 : BitVec 32 := Scalar.extui v1312
  let v1314 : BitVec 32 := Scalar.subi v1311 v1313
  let c8_i32_721 : BitVec 32 := 8#32
  let c0_i32_724 : BitVec 32 := 0#32
  let v1315 : BitVec 1 := Scalar.cmpi .sgt c8_i32_721 c0_i32_724
  let v1316 : BitVec 32 := Scalar.extui v1315
  let c0_i32_725 : BitVec 32 := 0#32
  let v1317 : BitVec 1 := Scalar.cmpi .slt c8_i32_721 c0_i32_725
  let v1318 : BitVec 32 := Scalar.extui v1317
  let v1319 : BitVec 32 := Scalar.subi v1316 v1318
  let v1320 : BitVec 1 := Scalar.cmpi .ne v1314 v1319
  let v1321 : BitVec 32 := Scalar.remsi v2 c8_i32_721
  let c0_i32_726 : BitVec 32 := 0#32
  let v1322 : BitVec 1 := Scalar.cmpi .ne v1321 c0_i32_726
  let v1323 : BitVec 1 := Scalar.andi v1320 v1322
  let v1309 : BitVec 32 := Scalar.divsi v2 c8_i32_721
  let c1_i32_727 : BitVec 32 := 1#32
  let v1324 : BitVec 32 := Scalar.subi v1309 c1_i32_727
  let v1325 : BitVec 32 := Scalar.select v1323 v1324 v1309
  let c8_i32_728 : BitVec 32 := 8#32
  let c0_i32_729 : BitVec 32 := 0#32
  let v1326 : BitVec 1 := Scalar.cmpi .eq c8_i32_728 c0_i32_729
  let c1_i32_730 : BitVec 32 := 1#32
  let v1327 : BitVec 32 := Scalar.select v1326 c1_i32_730 c8_i32_728
  let v1328 : BitVec 32 := Scalar.remsi v2 v1327
  let c0_i32_732 : BitVec 32 := 0#32
  let v1330 : BitVec 1 := Scalar.cmpi .slt v1328 c0_i32_732
  let c0_i32_733 : BitVec 32 := 0#32
  let v1331 : BitVec 1 := Scalar.cmpi .slt v1327 c0_i32_733
  let v1332 : BitVec 1 := Scalar.xori v1330 v1331
  let c0_i32_731 : BitVec 32 := 0#32
  let v1329 : BitVec 1 := Scalar.cmpi .ne v1328 c0_i32_731
  let v1333 : BitVec 1 := Scalar.andi v1332 v1329
  let v1334 : BitVec 32 := Scalar.addi v1328 v1327
  let v1335 : BitVec 32 := Scalar.select v1333 v1334 v1328
  let c16_i32_734 : BitVec 32 := 16#32
  let v1336 : BitVec 32 := Scalar.muli v1335 c16_i32_734
  let c0_i32_882 : BitVec 32 := 0#32
  ![v1325.toNat, v1336.toNat, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x4096 : Shape := ⟨2, ![512, 4096]⟩
abbrev S2x128x64x64 : Shape := ⟨4, ![2, 128, 64, 64]⟩
abbrev S4096x512 : Shape := ⟨2, ![4096, 512]⟩
abbrev S2x128x4096 : Shape := ⟨3, ![2, 128, 4096]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x64x128x128 : Shape := ⟨4, ![2, 64, 128, 128]⟩
abbrev S1x1x128x128 : Shape := ⟨4, ![1, 1, 128, 128]⟩
abbrev S2x64x128 : Shape := ⟨3, ![2, 64, 128]⟩
abbrev S2x64x128x1 : Shape := ⟨4, ![2, 64, 128, 1]⟩
abbrev S1x1x128x1 : Shape := ⟨4, ![1, 1, 128, 1]⟩
abbrev S2x64x64x128 : Shape := ⟨4, ![2, 64, 64, 128]⟩

abbrev nBuf : Space → Nat
  | .hbm => 89
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x4096, .f32⟩
  | .hbm, ⟨2, _⟩ => ⟨S2x128x64x64, .f32⟩
  | .hbm, ⟨3, _⟩ => ⟨S2x128x64x64, .f32⟩
  | .hbm, ⟨4, _⟩ => ⟨S4096x512, .f32⟩
  | .hbm, ⟨5, _⟩ => ⟨S2x128x4096, .f32⟩
  | .hbm, ⟨6, _⟩ => ⟨S2x128x64x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S2x64x128x128, .f32⟩
  | .hbm, ⟨51, _⟩ => ⟨S_, .f32⟩
  | .hbm, ⟨52, _⟩ => ⟨S2x64x128x128, .f32⟩
  | .hbm, ⟨53, _⟩ => ⟨S2x64x128x128, .f32⟩
  | .hbm, ⟨54, _⟩ => ⟨S1x1x128x128, .i1⟩
  | .hbm, ⟨55, _⟩ => ⟨S_, .f32⟩
  | .hbm, ⟨56, _⟩ => ⟨S_, .f32⟩
  | .hbm, ⟨57, _⟩ => ⟨S2x64x128x128, .i1⟩
  | .hbm, ⟨58, _⟩ => ⟨S2x64x128x128, .f32⟩
  | .hbm, ⟨59, _⟩ => ⟨S2x64x128x128, .f32⟩
  | .hbm, ⟨60, _⟩ => ⟨S_, .f32⟩
  | .hbm, ⟨61, _⟩ => ⟨S2x64x128, .f32⟩
  | .hbm, ⟨62, _⟩ => ⟨S2x64x128x1, .f32⟩
  | .hbm, ⟨63, _⟩ => ⟨S2x64x128x128, .f32⟩
  | .hbm, ⟨64, _⟩ => ⟨S2x64x128x128, .f32⟩
  | .hbm, ⟨65, _⟩ => ⟨S2x64x128x128, .f32⟩
  | .hbm, ⟨66, _⟩ => ⟨S_, .i1⟩
  | .hbm, ⟨67, _⟩ => ⟨S128, .i1⟩
  | .hbm, ⟨68, _⟩ => ⟨S1x1x128x1, .i1⟩
  | .hbm, ⟨69, _⟩ => ⟨S_, .f32⟩
  | .hbm, ⟨70, _⟩ => ⟨S2x64x128, .f32⟩
  | .hbm, ⟨71, _⟩ => ⟨S2x64x128x1, .f32⟩
  | .hbm, ⟨72, _⟩ => ⟨S_, .f32⟩
  | .hbm, ⟨73, _⟩ => ⟨S_, .f32⟩
  | .hbm, ⟨74, _⟩ => ⟨S2x64x128x1, .i1⟩
  | .hbm, ⟨75, _⟩ => ⟨S2x64x128x1, .f32⟩
  | .hbm, ⟨76, _⟩ => ⟨S2x64x128x1, .f32⟩
  | .hbm, ⟨77, _⟩ => ⟨S2x64x128x128, .f32⟩
  | .hbm, ⟨78, _⟩ => ⟨S2x64x128x128, .f32⟩
  | .hbm, ⟨79, _⟩ => ⟨S1x1x128x1, .i1⟩
  | .hbm, ⟨80, _⟩ => ⟨S_, .f32⟩
  | .hbm, ⟨81, _⟩ => ⟨S_, .f32⟩
  | .hbm, ⟨82, _⟩ => ⟨S2x64x128x128, .i1⟩
  | .hbm, ⟨83, _⟩ => ⟨S2x64x128x128, .f32⟩
  | .hbm, ⟨84, _⟩ => ⟨S2x64x128x128, .f32⟩
  | .hbm, ⟨85, _⟩ => ⟨S2x64x64x128, .f32⟩
  | .hbm, ⟨86, _⟩ => ⟨S2x128x64x64, .f32⟩
  | .hbm, ⟨87, _⟩ => ⟨S2x128x4096, .f32⟩
  | .hbm, ⟨88, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.KernelIdealViews.lean ====
/-
# The chunks of the three communicated buffers

The partial result (`256 × 512`) is sent in sixteen row chunks of 16 rows, the receive buffer (`16 × 16 × 512`) has one
slot per sender, and the result (`2 × 128 × 512`, 256 rows) is gathered in sixteen row chunks of 16 rows. Each chunk is a
view of its buffer; this module names the views, says which elements they hold, that they tile their buffer, and what a
copy from one to another leaves.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The buffers -/

abbrev accM : Memref sig .tc .vmem S256x512 .f32 := Memref.whole cc0_scratch0
abbrev rcvM : Memref sig .tc .vmem S16x16x512 .f32 := Memref.whole cc0_scratch1
abbrev outM : Memref sig .tc .vmem S2x128x512 .f32 := Memref.whole cc0_stg5_0

/-- Contents of the partial result, of the receive buffer and of the result. -/
abbrev AccC (F : FTy → Type) : Type := (cc0_scratch0 : Ref sig .tc).ty.Contents (Elt F)
abbrev RcvC (F : FTy → Type) : Type := (cc0_scratch1 : Ref sig .tc).ty.Contents (Elt F)
abbrev OutC (F : FTy → Type) : Type := (cc0_stg5_0 : Ref sig .tc).ty.Contents (Elt F)

theorem accInb (p : Dev nD) : ∀ a, (![16 * p.val, 0] : Fin 2 → ℕ) a + S16x512.size a ≤ S256x512.size a := by
  revert p; decide
theorem rcvInb (s : Dev nD) : ∀ a, (![s.val, 0, 0] : Fin 3 → ℕ) a + S1x16x512.size a ≤ S16x16x512.size a := by
  revert s; decide
theorem outInb (s : Dev nD) : ∀ a, (![s.val / 8, s.val % 8 * 16, 0] : Fin 3 → ℕ) a + S1x16x512.size a ≤ S2x128x512.size a := by
  revert s; decide

/-- Row chunk `p` of the partial result. -/
abbrev accV (p : Dev nD) : Memref sig .tc .vmem S16x512 .f32 :=
  accM.slice (Rect.unit (s := S256x512) ![16 * p.val, 0] S16x512.size (accInb p)) (fun _ => rfl)
/-- Slot `s` of the receive buffer. -/
abbrev rcvV (s : Dev nD) : Memref sig .tc .vmem S16x512 .f32 :=
  (rcvM.slice (Rect.unit (s := S16x16x512) ![s.val, 0, 0] S1x16x512.size (rcvInb s)) (fun _ => rfl)).squeeze S16x512 squeezes_S1x16x512_S16x512
/-- Row chunk `s` of the result. -/
abbrev outV (s : Dev nD) : Memref sig .tc .vmem S16x512 .f32 :=
  (outM.slice (Rect.unit (s := S2x128x512) ![s.val / 8, s.val % 8 * 16, 0] S1x16x512.size (outInb s)) (fun _ => rfl)).squeeze S16x512 squeezes_S1x16x512_S16x512

/-- The elements of each. -/
def accSet (p : Dev nD) : Finset S256x512.Idx := Finset.univ.filter fun i => (i 0).val / 16 = p.val
def rcvSet (s : Dev nD) : Finset S16x16x512.Idx := Finset.univ.filter fun i => (i 0).val = s.val
def outSet (s : Dev nD) : Finset S2x128x512.Idx := Finset.univ.filter fun i => (i 0).val = s.val / 8 ∧ (i 1).val / 16 = s.val % 8

theorem accV_set (p : Dev nD) : (accV p).view.set = accSet p := by
  show ((View.whole cc0_scratch0).slice (Rect.unit (s := S256x512) ![16 * p.val, 0] S16x512.size (accInb p))).set = accSet p
  rw [View.set_slice_whole]
  ext i
  rw [Rect.mem_set_unit, accSet, Finset.mem_filter]
  have h1 := (i 1).isLt
  refine ⟨fun h => ⟨Finset.mem_univ _, ?_⟩, fun h a => ?_⟩
  · have := h 0
    change 16 * p.val ≤ (i 0).val ∧ (i 0).val < 16 * p.val + 16 at this
    omega
  · have h2 := h.2
    fin_cases a
    · change 16 * p.val ≤ (i 0).val ∧ (i 0).val < 16 * p.val + 16; omega
    · change 0 ≤ (i 1).val ∧ (i 1).val < 0 + 512; change (i 1).val < 512 at h1; omega

theorem rcvV_set (s : Dev nD) : (rcvV s).view.set = rcvSet s := by
  refine (View.set_reshape ((View.whole cc0_scratch1).slice (Rect.unit (s := S16x16x512) ![s.val, 0, 0] S1x16x512.size (rcvInb s))) _).trans ?_
  rw [View.set_slice_whole]
  ext i
  rw [Rect.mem_set_unit, rcvSet, Finset.mem_filter]
  have h1 := (i 1).isLt
  have h3 := (i 2).isLt
  refine ⟨fun h => ⟨Finset.mem_univ _, ?_⟩, fun h a => ?_⟩
  · have := h 0
    change s.val ≤ (i 0).val ∧ (i 0).val < s.val + 1 at this
    omega
  · have h2 := h.2
    fin_cases a
    · change s.val ≤ (i 0).val ∧ (i 0).val < s.val + 1; omega
    · change 0 ≤ (i 1).val ∧ (i 1).val < 0 + 16; change (i 1).val < 16 at h1; omega
    · change 0 ≤ (i 2).val ∧ (i 2).val < 0 + 512; change (i 2).val < 512 at h3; omega

theorem outV_set (s : Dev nD) : (outV s).view.set = outSet s := by
  refine (View.set_reshape ((View.whole cc0_stg5_0).slice (Rect.unit (s := S2x128x512) ![s.val / 8, s.val % 8 * 16, 0] S1x16x512.size (outInb s))) _).trans ?_
  rw [View.set_slice_whole]
  ext i
  rw [Rect.mem_set_unit, outSet, Finset.mem_filter]
  have h3 := (i 2).isLt
  refine ⟨fun h => ⟨Finset.mem_univ _, ?_⟩, fun h a => ?_⟩
  · have h0 := h 0
    have h1 := h 1
    change s.val / 8 ≤ (i 0).val ∧ (i 0).val < s.val / 8 + 1 at h0
    change s.val % 8 * 16 ≤ (i 1).val ∧ (i 1).val < s.val % 8 * 16 + 16 at h1
    omega
  · have h2 := h.2
    fin_cases a
    · change s.val / 8 ≤ (i 0).val ∧ (i 0).val < s.val / 8 + 1; omega
    · change s.val % 8 * 16 ≤ (i 1).val ∧ (i 1).val < s.val % 8 * 16 + 16; omega
    · change 0 ≤ (i 2).val ∧ (i 2).val < 0 + 512; change (i 2).val < 512 at h3; omega

/-! ## What each reads -/

theorem accV_emb (p : Dev nD) (r : Fin 16) (c : Fin 512) :
    (accV p).view.emb (ix2 r c) = ix2 (⟨16 * p.val + r.val, by have := p.isLt; have := r.isLt; change p.val < 16 at *; omega⟩ : Fin 256) c := by
  funext a
  apply Fin.ext
  fin_cases a
  · change 16 * p.val + 1 * r.val = 16 * p.val + r.val; omega
  · change 0 + 1 * c.val = c.val; omega

theorem rcvV_emb (s : Dev nD) (r : Fin 16) (c : Fin 512) :
    (rcvV s).view.emb (ix2 r c) = ix3 (s : Fin 16) r c := by
  show (Rect.unit (s := S16x16x512) ![s.val, 0, 0] S1x16x512.size (rcvInb s)).emb (Shape.reshapeEquiv _ (ix2 r c)) = _
  rw [reshapeEquiv_ix2_1ab]
  funext a
  apply Fin.ext
  fin_cases a
  · change s.val + 0 * 1 = s.val; omega
  · change 0 + 1 * r.val = r.val; omega
  · change 0 + 1 * c.val = c.val; omega

/-- Row `r` of chunk `s` of the result. -/
abbrev outIx (s : Dev nD) (r : Fin 16) (c : Fin 512) : S2x128x512.Idx :=
  ix3 (⟨s.val / 8, by have := s.isLt; change s.val < 16 at this; omega⟩ : Fin 2)
    (⟨s.val % 8 * 16 + r.val, by have := r.isLt; omega⟩ : Fin 128) c

theorem outV_emb (s : Dev nD) (r : Fin 16) (c : Fin 512) : (outV s).view.emb (ix2 r c) = outIx s r c := by
  show (Rect.unit (s := S2x128x512) ![s.val / 8, s.val % 8 * 16, 0] S1x16x512.size (outInb s)).emb (Shape.reshapeEquiv _ (ix2 r c)) = _
  rw [reshapeEquiv_ix2_1ab]
  funext a
  apply Fin.ext
  fin_cases a
  · change s.val / 8 + 0 * 1 = s.val / 8; omega
  · change s.val % 8 * 16 + 1 * r.val = s.val % 8 * 16 + r.val; omega
  · change 0 + 1 * c.val = c.val; omega

/-! ## What the copies leave -/

/-- The receive buffer of device `d` when every sender's chunk has landed: slot `s` holds row chunk `d` of device `s`'s partial. -/
def rcvAll (P : Dev nD → AccC F) (d : Dev nD) : RcvC F := fun i =>
  P (i 0 : Fin 16) (ix2 (⟨16 * d.val + (i 1).val, by have h := d.isLt; have h' := (i 1).isLt; change d.val < 16 at h; change (i 1).val < 16 at h'; omega⟩ : Fin 256) (i 2 : Fin 512))

/-- Sender `s`'s chunk `d`, copied into slot `s` of device `d`. -/
theorem rcv_landed (P : Dev nD → AccC F) (s d : Dev nD) (f : RcvC F) :
    ∀ i ∈ rcvSet s, (rcvV s).view.write (Elt F) f ((accV d).view.read (Elt F) (P s)) Finset.univ i = rcvAll P d i := by
  intro i hi
  rw [← rcvV_set, View.set, Finset.mem_map] at hi
  obtain ⟨x, -, rfl⟩ := hi
  rw [View.write_emb_of_mem _ _ (Finset.mem_univ x), View.read_apply]
  obtain ⟨r, c, rfl⟩ : ∃ (r : Fin 16) (c : Fin 512), x = ix2 r c := ⟨x 0, x 1, eq_ix2 x⟩
  have e1 := accV_emb d r c
  have e2 := rcvV_emb s r c
  refine (congrArg (P s) e1).trans ?_
  exact (congrArg (rcvAll P d) e2).symm

/-- A chunk of the result copied onto the same chunk of another device's result. -/
theorem out_landed (O f : OutC F) (s : Dev nD) :
    ∀ i ∈ outSet s, (outV s).view.write (Elt F) f ((outV s).view.read (Elt F) O) Finset.univ i = O i := by
  intro i hi
  rw [← outV_set, View.set, Finset.mem_map] at hi
  obtain ⟨x, -, rfl⟩ := hi
  rw [View.write_emb_of_mem _ _ (Finset.mem_univ x), View.read_apply]
  rfl

/-! ## The chunks tile their buffers -/

theorem accSet_disj : ∀ p ∈ (Finset.univ : Finset (Dev nD)), ∀ q ∈ (Finset.univ : Finset (Dev nD)), p ≠ q → Disjoint (accSet p) (accSet q) :=
  fun p _ q _ h => Finset.disjoint_filter.mpr fun i _ h1 h2 => h (Fin.ext (h1.symm.trans h2))
theorem rcvSet_disj : ∀ p ∈ (Finset.univ : Finset (Dev nD)), ∀ q ∈ (Finset.univ : Finset (Dev nD)), p ≠ q → Disjoint (rcvSet p) (rcvSet q) :=
  fun p _ q _ h => Finset.disjoint_filter.mpr fun i _ h1 h2 => h (Fin.ext (h1.symm.trans h2))
theorem outSet_disj : ∀ p ∈ (Finset.univ : Finset (Dev nD)), ∀ q ∈ (Finset.univ : Finset (Dev nD)), p ≠ q → Disjoint (outSet p) (outSet q) :=
  fun p _ q _ h => Finset.disjoint_filter.mpr fun i _ h1 h2 => h (Fin.ext (by omega))

theorem accSet_univ : (Finset.univ : Finset (Dev nD)).biUnion accSet = Finset.univ := by
  ext i
  have h := (i 0).isLt; change (i 0).val < 256 at h
  simp only [Finset.mem_biUnion, Finset.mem_univ, true_and, iff_true]
  exact ⟨⟨(i 0).val / 16, by change _ < 16; omega⟩, Finset.mem_filter.mpr ⟨Finset.mem_univ _, rfl⟩⟩
theorem rcvSet_univ : (Finset.univ : Finset (Dev nD)).biUnion rcvSet = Finset.univ := by
  ext i
  simp only [Finset.mem_biUnion, Finset.mem_univ, true_and, iff_true]
  exact ⟨(i 0 : Fin 16), Finset.mem_filter.mpr ⟨Finset.mem_univ _, rfl⟩⟩
theorem outSet_univ : (Finset.univ : Finset (Dev nD)).biUnion outSet = Finset.univ := by
  ext i
  have h := (i 0).isLt; change (i 0).val < 2 at h
  have h' := (i 1).isLt; change (i 1).val < 128 at h'
  simp only [Finset.mem_biUnion, Finset.mem_univ, true_and, iff_true]
  exact ⟨⟨8 * (i 0).val + (i 1).val / 16, by change _ < 16; omega⟩, Finset.mem_filter.mpr ⟨Finset.mem_univ _, by
    constructor
    · show (i 0).val = (8 * (i 0).val + (i 1).val / 16) / 8; omega
    · show (i 1).val / 16 = (8 * (i 0).val + (i 1).val / 16) % 8; omega⟩⟩

/-! ## The semaphores -/

/-- The kernel's DMA semaphores: `j = 0` chunks of the partial sent, `1` received, `2` chunks of the result sent, `3` received. -/
def dsem (j : Fin 4) (i : Dev nD) : DmaSem sig := ⟨6 + 16 * j.val + i.val, by have h := i.isLt; have h' := j.isLt; change i.val < 16 at h; change _ < 70; omega⟩
/-- The barrier semaphore. -/
abbrev barS : Sem sig := (SemArray.scalar (sig.barrier 0 rfl) : Sems sig S_).sem

theorem sem_rsSend (k : Dev nD) (o : Fin 1 → ℕ) (ho : o = ![k.val]) (inb : ∀ a, o a + S1.size a ≤ S16.size a) :
    ((cc0_scratch2.slice (Rect.unit (s := S16) o S1.size inb)).squeeze S_ squeezes_S1_S_).sem = dsem 0 k := by
  subst ho; revert k; decide
theorem sem_rsRecv (k : Dev nD) (o : Fin 1 → ℕ) (ho : o = ![k.val]) (inb : ∀ a, o a + S1.size a ≤ S16.size a) :
    ((cc0_scratch3.slice (Rect.unit (s := S16) o S1.size inb)).squeeze S_ squeezes_S1_S_).sem = dsem 1 k := by
  subst ho; revert k; decide
theorem sem_agSend (k : Dev nD) (o : Fin 1 → ℕ) (ho : o = ![k.val]) (inb : ∀ a, o a + S1.size a ≤ S16.size a) :
    ((cc0_scratch4.slice (Rect.unit (s := S16) o S1.size inb)).squeeze S_ squeezes_S1_S_).sem = dsem 2 k := by
  subst ho; revert k; decide
theorem sem_agRecv (k : Dev nD) (o : Fin 1 → ℕ) (ho : o = ![k.val]) (inb : ∀ a, o a + S1.size a ≤ S16.size a) :
    ((cc0_scratch5.slice (Rect.unit (s := S16) o S1.size inb)).squeeze S_ squeezes_S1_S_).sem = dsem 3 k := by
  subst ho; revert k; decide

/-- The credit of one chunk's copy. -/
abbrev N : ℕ := (rcvV 0).view.dmaCredit
theorem N_pos : 0 < N := View.dmaCredit_pos _ (by decide)

theorem credit_rcv (s : Dev nD) : (rcvV s).view.dmaCredit = N := rfl
theorem credit_out (s : Dev nD) : (outV s).view.dmaCredit = N := rfl
theorem credit_acc (s : Dev nD) : (accV s).view.dmaCredit = N := rfl

end Cert.KernelIdealProof
-- ==== Proof.KernelIdealSched.lean ====
/-
# The protocol of the exchange

Every device first tells the fifteen others, through their barrier semaphores, that its receive slots and its result
chunks may be written; then it sends row chunk `p` of its partial result to device `p`, sums the sixteen chunks it has
received, and sends the sum to every other device. Each of the 65 semaphores a device waits on is used for one round:

* the barrier semaphore of device `c` takes one unit from every other device `p`, which hands over `p`'s receive slot
  `c` and `p`'s result chunk `c`;
* the semaphore of an arriving chunk hands over the destination, written; the semaphore of a departing chunk hands the
  source back.

The contents are a parameter: `P c` the partial result of device `c`, `O` the gathered result (the same on all devices).
-/
module

public import proofs.«01_k».proof.Proof.KernelIdealViews
public import Idealize.ShloMosaic.Lib.ShareLeaves

@[expose] public section

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's resource algebra: duties are named by devices. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The cells -/

abbrev barCell (c : Dev nD) : GSem nD τ sig := ((c : Thread nD τ), .reg barS)
abbrev dCell (j : Fin 4) (i c : Dev nD) : GSem nD τ sig := ((c : Thread nD τ), .dma (dsem j i))

/-- The kernel's own (scoped) semaphores: the 64 DMA semaphores. -/
abbrev osem (ji : Fin 4 × Dev nD) : SemLoc sig := .dma (dsem ji.1 ji.2)

/-- One device's cells: the barrier cell (`none`) and the DMA cells. -/
abbrev KI : Type := Option (Fin 4 × Dev nD)
abbrev csem : KI → SemLoc sig
  | none => .reg barS
  | some ji => osem ji
abbrev kcell (ck : Dev nD × KI) : GSem nD τ sig := ((ck.1 : Thread nD τ), csem ck.2)

theorem dsem_val (j : Fin 4) (i : Dev nD) : (dsem j i).val = 6 + 16 * j.val + i.val := rfl

theorem dsem_inj {j j' : Fin 4} {i i' : Dev nD} (h : dsem j i = dsem j' i') : j = j' ∧ i = i' := by
  have h1 := congrArg Fin.val h
  rw [dsem_val, dsem_val] at h1
  have hi := i.isLt; have hi' := i'.isLt
  change i.val < 16 at hi; change i'.val < 16 at hi'
  exact ⟨Fin.ext (by omega), Fin.ext (by omega)⟩

/-! ## Points-to assertions of the chunks -/

def accPts (d p : Dev nD) (f : AccC F) : sProp 𝕄 :=
  (accV p).view.loc (d : Thread nD τ) ↦[(accV p).view.set]{fullShare} f
def rcvPts (d s : Dev nD) (f : RcvC F) : sProp 𝕄 :=
  (rcvV s).view.loc (d : Thread nD τ) ↦[(rcvV s).view.set]{fullShare} f
def outPts (d s : Dev nD) (q : PosShare TreeShare) (f : OutC F) : sProp 𝕄 :=
  (outV s).view.loc (d : Thread nD τ) ↦[(outV s).view.set]{q} f

omit [FloatOps F] in
theorem accPts_eq (d p : Dev nD) (f : AccC F) : accPts d p f = (((d : Thread nD τ).loc cc0_scratch0) ↦[accSet p]{fullShare} f : sProp 𝕄) := by
  unfold accPts; rw [accV_set]
omit [FloatOps F] in
theorem rcvPts_eq (d s : Dev nD) (f : RcvC F) : rcvPts d s f = (((d : Thread nD τ).loc cc0_scratch1) ↦[rcvSet s]{fullShare} f : sProp 𝕄) := by
  unfold rcvPts; rw [rcvV_set]
omit [FloatOps F] in
theorem outPts_eq (d s : Dev nD) (q) (f : OutC F) : outPts d s q f = (((d : Thread nD τ).loc cc0_stg5_0) ↦[outSet s]{q} f : sProp 𝕄) := by
  unfold outPts; rw [outV_set]

omit [FloatOps F] in
instance accPts_storable (d p : Dev nD) (f) : BI.Storable (upEmb : UEmb _ 𝕄) (accPts (F := F) d p f) := by unfold accPts; infer_instance
omit [FloatOps F] in
instance rcvPts_storable (d s : Dev nD) (f) : BI.Storable (upEmb : UEmb _ 𝕄) (rcvPts (F := F) d s f) := by unfold rcvPts; infer_instance
omit [FloatOps F] in
instance outPts_storable (d s : Dev nD) (q) (f) : BI.Storable (upEmb : UEmb _ 𝕄) (outPts (F := F) d s q f) := by unfold outPts; infer_instance

/-- The share of a device's own result chunk that its copy to device `p` reads. -/
abbrev lfShare (p : Dev nD) : PosShare TreeShare := ShareLeaves.leaf 4 fullShare p

/-! ## The schedule -/

variable (P : Dev nD → AccC F) (O : OutC F)

/-- What device `p`'s signal hands device `c`: `p`'s receive slot `c` and `p`'s result chunk `c`. -/
def barPay (c p : Dev nD) : sProp 𝕄 := iprop((∃ f, rcvPts p c f) ∗ (∃ f, outPts p c fullShare f))

/-- What the round of DMA semaphore `j, i` hands device `c`. -/
def xferPay (j : Fin 4) (i c : Dev nD) : sProp 𝕄 :=
  match j with
  | 0 => accPts c i (P c)
  | 1 => rcvPts c i (rcvAll P c)
  | 2 => outPts c c (lfShare i) O
  | 3 => outPts c i fullShare O

omit [FloatOps F] in
instance barPay_storable (c p : Dev nD) : BI.Storable (upEmb : UEmb _ 𝕄) (barPay (F := F) c p) := by unfold barPay; infer_instance
omit [FloatOps F] in
instance xferPay_storable (j : Fin 4) (i c : Dev nD) : BI.Storable (upEmb : UEmb _ 𝕄) (xferPay (F := F) P O j i c) := by
  unfold xferPay; fin_cases j <;> infer_instance

/-- The array and the position of a DMA semaphore. -/
def dj (q : DmaSem sig) : Fin 4 := ⟨(q.val - 6) / 16 % 4, Nat.mod_lt _ (by decide)⟩
def di (q : DmaSem sig) : Dev nD := ⟨(q.val - 6) % 16, Nat.mod_lt _ (by decide)⟩
theorem dj_dsem (j : Fin 4) (i : Dev nD) : dj (dsem j i) = j := by
  have hi := i.isLt; change i.val < 16 at hi
  exact Fin.ext (by show (6 + 16 * j.val + i.val - 6) / 16 % 4 = j.val; omega)
theorem di_dsem (j : Fin 4) (i : Dev nD) : di (dsem j i) = i := by
  have hi := i.isLt; change i.val < 16 at hi
  exact Fin.ext (by show (6 + 16 * j.val + i.val - 6) % 16 = i.val; omega)

/-- The duties of device `c`'s semaphore `sm`. -/
def dutiesOf (c : Dev nD) : SemLoc sig → Finset (Dev nD)
  | .reg _ => Finset.univ.erase c
  | .dma q => if 6 ≤ q.val ∧ di q ≠ c then {0} else ∅

def ringRd : Rounds.Schedule (GSem nD τ sig) (Dev nD) 𝕄 where
  duties g r := if r = 0 ∧ g.1.2 = .tc then dutiesOf g.1.1 g.2 else ∅
  unitless _ := False
  amount g _ _ := match g.2 with | .reg _ => 1 | .dma _ => N
  payload g _ d := match g.2 with | .reg _ => barPay g.1.1 d | .dma q => xferPay P O (dj q) (di q) g.1.1
  amount_pos g _ _ _ := by
    rcases g with ⟨t, _ | q⟩
    · exact Nat.one_pos
    · exact N_pos

instance ringRd_payload_storable (g : GSem nD τ sig) (r : ℕ) (d : Dev nD) :
    BI.Storable (upEmb : UEmb _ 𝕄) ((ringRd (F := F) P O).payload g r d) := by
  rcases g with ⟨t, _ | q⟩
  · exact barPay_storable _ _
  · exact xferPay_storable _ _ _ _ _

section Sched
variable (c : Dev nD)

omit [FloatOps F] in
theorem duties_bar : (ringRd (F := F) P O).duties (barCell c) 0 = Finset.univ.erase c := by
  dsimp only [ringRd]; exact if_pos ⟨rfl, rfl⟩
omit [FloatOps F] in
theorem duties_d (j : Fin 4) {i : Dev nD} (h : i ≠ c) : (ringRd (F := F) P O).duties (dCell j i c) 0 = {0} := by
  dsimp only [ringRd]; rw [if_pos ⟨rfl, rfl⟩]
  show (if 6 ≤ (dsem j i).val ∧ di (dsem j i) ≠ c then ({0} : Finset (Dev nD)) else ∅) = {0}
  rw [if_pos ⟨by rw [dsem_val]; omega, by rw [di_dsem]; exact h⟩]
omit [FloatOps F] in
theorem duties_own (j : Fin 4) (r : ℕ) : (ringRd (F := F) P O).duties (dCell j c c) r = ∅ := by
  dsimp only [ringRd]; split
  · show (if 6 ≤ (dsem j c).val ∧ di (dsem j c) ≠ c then ({0} : Finset (Dev nD)) else ∅) = ∅
    rw [if_neg (fun h => h.2 (di_dsem j c))]
  · rfl
omit [FloatOps F] in
theorem duties_later (g : GSem nD τ sig) : ∀ r, 1 ≤ r → (ringRd (F := F) P O).duties g r = ∅ :=
  fun r hr => by dsimp only [ringRd]; rw [if_neg fun h => by omega]

omit [FloatOps F] in
theorem amount_bar (d : Dev nD) : (ringRd (F := F) P O).amount (barCell c) 0 d = 1 := rfl
omit [FloatOps F] in
theorem amount_d (j : Fin 4) (i d : Dev nD) : (ringRd (F := F) P O).amount (dCell j i c) 0 d = N := rfl

omit [FloatOps F] in
theorem expect_bar : (ringRd (F := F) P O).expect (barCell c) 0 = 15 := by
  unfold Schedule.expect Schedule.amountOf
  rw [duties_bar, Finset.sum_congr rfl fun d _ => amount_bar P O c d, Finset.sum_const, Finset.card_erase_of_mem (Finset.mem_univ _),
    Finset.card_univ, smul_eq_mul, mul_one]
  rfl
omit [FloatOps F] in
theorem expect_d (j : Fin 4) {i : Dev nD} (h : i ≠ c) : (ringRd (F := F) P O).expect (dCell j i c) 0 = N := by
  unfold Schedule.expect Schedule.amountOf; rw [duties_d P O c j h, Finset.sum_singleton, amount_d]

omit [FloatOps F] in
theorem payload_bar (d : Dev nD) : (ringRd (F := F) P O).payload (barCell c) 0 d = barPay c d := rfl
omit [FloatOps F] in
theorem payload_d (j : Fin 4) (i d : Dev nD) : (ringRd (F := F) P O).payload (dCell j i c) 0 d = xferPay P O j i c := by
  show xferPay P O (dj (dsem j i)) (di (dsem j i)) c = _
  rw [dj_dsem, di_dsem]

omit [FloatOps F] in
theorem rest_bar : bigSep ((ringRd (F := F) P O).duties (barCell c) 0 \ ∅) (fun d => (ringRd (F := F) P O).payload (barCell c) 0 d)
    = bigSep (Finset.univ.erase c) (fun p => barPay c p) := by
  rw [Finset.sdiff_empty, duties_bar]; rfl
omit [FloatOps F] in
theorem rest_d (j : Fin 4) {i : Dev nD} (h : i ≠ c) : bigSep ((ringRd (F := F) P O).duties (dCell j i c) 0 \ ∅)
    (fun d => (ringRd (F := F) P O).payload (dCell j i c) 0 d) = xferPay P O j i c := by
  rw [Finset.sdiff_empty, duties_d P O c j h, bigSep_singleton, payload_d]

end Sched

/-! ## Ranges of the other devices -/

/-- The devices other than `me` numbered from `a` up to `b`. -/
def rng (me : Dev nD) (a b : ℕ) : Finset (Dev nD) := Finset.univ.filter fun p => p ≠ me ∧ a ≤ p.val ∧ p.val < b

theorem mem_rng {me p : Dev nD} {a b : ℕ} : p ∈ rng me a b ↔ p ≠ me ∧ a ≤ p.val ∧ p.val < b := by
  unfold rng; rw [Finset.mem_filter]; exact ⟨fun h => h.2, fun h => ⟨Finset.mem_univ _, h⟩⟩

theorem rng_all (me : Dev nD) : rng me 0 16 = Finset.univ.erase me := by
  ext p; rw [mem_rng, Finset.mem_erase]
  exact ⟨fun h => ⟨h.1, Finset.mem_univ _⟩, fun h => ⟨h.1, Nat.zero_le _, p.isLt⟩⟩
theorem rng_nil (me : Dev nD) (a b : ℕ) (h : b ≤ a) : rng me a b = ∅ := by
  ext p; rw [mem_rng]; exact ⟨fun h' => absurd h'.2 (by omega), fun h' => absurd h' (Finset.notMem_empty _)⟩
theorem rng_skip (me : Dev nD) (b : ℕ) : rng me me.val b = rng me (me.val + 1) b := by
  ext p; rw [mem_rng, mem_rng]
  refine and_congr_right fun h => and_congr_left fun _ => ⟨fun h' => ?_, fun h' => by omega⟩
  have := Fin.val_ne_of_ne h; omega
theorem rng_skip' (me : Dev nD) (a : ℕ) : rng me a (me.val + 1) = rng me a me.val := by
  ext p; rw [mem_rng, mem_rng]
  refine and_congr_right fun h => and_congr_right fun _ => ⟨fun h' => ?_, fun h' => by omega⟩
  have := Fin.val_ne_of_ne h; omega
theorem rng_head {me k : Dev nD} (h : k ≠ me) {b : ℕ} (hb : k.val < b) : rng me k.val b = insert k (rng me (k.val + 1) b) := by
  ext p; rw [Finset.mem_insert, mem_rng, mem_rng]
  constructor
  · rintro ⟨h1, h2, h3⟩
    by_cases e : p = k
    · exact .inl e
    · have := Fin.val_ne_of_ne e; exact .inr ⟨h1, by omega, h3⟩
  · rintro (rfl | h')
    · exact ⟨h, le_refl _, hb⟩
    · exact ⟨h'.1, by omega, h'.2.2⟩
theorem rng_last {me k : Dev nD} (h : k ≠ me) {a : ℕ} (ha : a ≤ k.val) : rng me a (k.val + 1) = insert k (rng me a k.val) := by
  ext p; rw [Finset.mem_insert, mem_rng, mem_rng]
  constructor
  · rintro ⟨h1, h2, h3⟩
    by_cases e : p = k
    · exact .inl e
    · have := Fin.val_ne_of_ne e; exact .inr ⟨h1, h2, by omega⟩
  · rintro (rfl | h')
    · exact ⟨h, ha, by omega⟩
    · exact ⟨h'.1, h'.2.1, by omega⟩
theorem rng_head_notMem (me k : Dev nD) (b : ℕ) : k ∉ rng me (k.val + 1) b := fun h => by have := (mem_rng.mp h).2.1; omega
theorem rng_last_notMem (me k : Dev nD) (a : ℕ) : k ∉ rng me a k.val := fun h => by have := (mem_rng.mp h).2.2; omega
theorem rng_split (me : Dev nD) {a b d : ℕ} (h : a ≤ b) (h' : b ≤ d) : rng me a d = rng me a b ∪ rng me b d := by
  ext p; rw [Finset.mem_union, mem_rng, mem_rng, mem_rng]
  constructor
  · rintro ⟨h1, h2, h3⟩
    by_cases e : p.val < b
    · exact .inl ⟨h1, h2, e⟩
    · exact .inr ⟨h1, by omega, h3⟩
  · rintro (h1 | h1)
    · exact ⟨h1.1, h1.2.1, by omega⟩
    · exact ⟨h1.1, by omega, h1.2.2⟩
theorem rng_disj (me : Dev nD) (a b d : ℕ) : Disjoint (rng me a b) (rng me b d) :=
  Finset.disjoint_left.mpr fun p h h' => by have := (mem_rng.mp h).2; have := (mem_rng.mp h').2; omega

/-! ## What a device owes -/

/-- The units still to be sent to the barrier cells of the devices from `k` on, -/
def Obar (me : Dev nD) (k : ℕ) : CellTallies nD τ sig Unit := ∑ p ∈ rng me k 16, tallyAt (barCell p) () 1
/-- the chunks still to be sent to the devices from `k` on: `j = 1` of the partial, `j = 3` of the result. -/
def Oxf (j : Fin 4) (me : Dev nD) (k : ℕ) : CellTallies nD τ sig Unit := ∑ p ∈ rng me k 16, tallyAt (dCell j me p) () N
/-- Everything owed: barrier units from `a` on, chunks of the partial from `b` on, chunks of the result from `d` on. -/
def Ow (me : Dev nD) (a b d : ℕ) : CellTallies nD τ sig Unit := Obar me a + Oxf 1 me b + Oxf 3 me d

theorem Obar_skip (me : Dev nD) : Obar me me.val = Obar me (me.val + 1) := by unfold Obar; rw [rng_skip]
theorem Oxf_skip (j : Fin 4) (me : Dev nD) : Oxf j me me.val = Oxf j me (me.val + 1) := by unfold Oxf; rw [rng_skip]
theorem Obar_step {me k : Dev nD} (h : k ≠ me) : Obar me k.val = Obar me (k.val + 1) + tallyAt (barCell k) () 1 := by
  unfold Obar; rw [rng_head h k.isLt, Finset.sum_insert (rng_head_notMem _ _ _), add_comm]
theorem Oxf_step (j : Fin 4) {me k : Dev nD} (h : k ≠ me) : Oxf j me k.val = Oxf j me (k.val + 1) + tallyAt (dCell j me k) () N := by
  unfold Oxf; rw [rng_head h k.isLt, Finset.sum_insert (rng_head_notMem _ _ _), add_comm]
theorem Obar_done (me : Dev nD) : Obar me 16 = 0 := by unfold Obar; rw [rng_nil _ _ _ (le_refl _), Finset.sum_empty]
theorem Oxf_done (j : Fin 4) (me : Dev nD) : Oxf j me 16 = 0 := by unfold Oxf; rw [rng_nil _ _ _ (le_refl _), Finset.sum_empty]
theorem Ow_done (me : Dev nD) : Ow me 16 16 16 = 0 := by unfold Ow; rw [Obar_done, Oxf_done, Oxf_done, add_zero, add_zero]

theorem Obar_pos {me : Dev nD} {k : ℕ} {g : GSem nD τ sig} {u : Unit} (h : 0 < Obar me k g u) : ∃ p, g = barCell p := by
  unfold Obar at h
  rw [Finset.sum_apply, Finsupp.finset_sum_apply] at h
  obtain ⟨p, -, hp⟩ := Finset.exists_ne_zero_of_sum_ne_zero (Nat.pos_iff_ne_zero.mp h)
  rw [tallyAt_apply] at hp
  by_contra hn
  exact hp (if_neg fun h' => hn ⟨p, h'.1⟩)
theorem Oxf_pos {j : Fin 4} {me : Dev nD} {k : ℕ} {g : GSem nD τ sig} {u : Unit} (h : 0 < Oxf j me k g u) : ∃ p, g = dCell j me p := by
  unfold Oxf at h
  rw [Finset.sum_apply, Finsupp.finset_sum_apply] at h
  obtain ⟨p, -, hp⟩ := Finset.exists_ne_zero_of_sum_ne_zero (Nat.pos_iff_ne_zero.mp h)
  rw [tallyAt_apply] at hp
  by_contra hn
  exact hp (if_neg fun h' => hn ⟨p, h'.1⟩)
theorem Ow_pos {me : Dev nD} {a b d : ℕ} {g : GSem nD τ sig} {u : Unit} (h : 0 < Ow me a b d g u) :
    (0 < Obar me a g u) ∨ (0 < Oxf 1 me b g u) ∨ 0 < Oxf 3 me d g u := by
  unfold Ow at h
  rw [Pi.add_apply, Finsupp.add_apply, Pi.add_apply, Finsupp.add_apply] at h
  omega

/-! ## Levels -/

def L (g : GSem nD τ sig) : Finset Unit := if g.1.2 = .tc then {()} else ∅
/-- barrier cells at 1, arriving chunks of the partial at 2, of the result at 3, everything else at 0. -/
def lvs : SemLoc sig → ℕ
  | .reg _ => 1
  | .dma q => if 22 ≤ q.val ∧ q.val < 38 then 2 else if 54 ≤ q.val then 3 else 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

theorem lv_rs (i c : Dev nD) (u : Unit) : lv (dCell 1 i c) u = 2 := by
  have hi := i.isLt; change i.val < 16 at hi
  show (if 22 ≤ (dsem 1 i).val ∧ (dsem 1 i).val < 38 then 2 else if 54 ≤ (dsem 1 i).val then 3 else 0) = 2
  rw [dsem_val, if_pos]; change 22 ≤ 6 + 16 * 1 + i.val ∧ 6 + 16 * 1 + i.val < 38; omega
theorem lv_ag (i c : Dev nD) (u : Unit) : lv (dCell 3 i c) u = 3 := by
  have hi := i.isLt; change i.val < 16 at hi
  show (if 22 ≤ (dsem 3 i).val ∧ (dsem 3 i).val < 38 then 2 else if 54 ≤ (dsem 3 i).val then 3 else 0) = 3
  rw [dsem_val, if_neg, if_pos]
  · change 54 ≤ 6 + 16 * 3 + i.val; omega
  · change ¬ (22 ≤ 6 + 16 * 3 + i.val ∧ 6 + 16 * 3 + i.val < 38); omega

omit [FloatOps F] in
/-- A wait on a cell of level `n` by a device that owes only cells above `n`. -/
theorem mayWait_of (c : Dev nD) (sm : SemLoc sig) (n : ℕ) (hn : lvs sm ≤ n) (T : CellTallies nD τ sig Unit)
    (hT : ∀ g u, 0 < T g u → g.1.2 = .tc ∧ n < lvs g.2) : (levAts L lv : sProp 𝕄) ⊢ MayWait (c : Thread nD τ) sm () T :=
  MayOwe.of_cut (L := L) (lev := lv) n (fun p hp => by rw [Finset.mem_singleton.mp hp, L_tc]; exact Finset.mem_singleton_self _)
    (fun g u hg => by unfold L; rw [if_pos (hT g u hg).1]; exact Finset.mem_singleton_self _)
    (fun p hp => by rw [Finset.mem_singleton.mp hp]; exact hn)
    (fun g u hg => (hT g u hg).2)

theorem Ow_levels (me : Dev nD) (a b d : ℕ) (g : GSem nD τ sig) (u : Unit) (h : 0 < Ow me a b d g u) :
    g.1.2 = .tc ∧ 0 < lvs g.2 := by
  rcases Ow_pos h with h | h | h
  · obtain ⟨p, rfl⟩ := Obar_pos h; exact ⟨rfl, Nat.one_pos⟩
  · obtain ⟨p, rfl⟩ := Oxf_pos h; exact ⟨rfl, by have := lv_rs me p (); unfold lv at this; rw [this]; decide⟩
  · obtain ⟨p, rfl⟩ := Oxf_pos h; exact ⟨rfl, by have := lv_ag me p (); unfold lv at this; rw [this]; decide⟩
theorem Ow_levels1 (me : Dev nD) (b d : ℕ) (g : GSem nD τ sig) (u : Unit) (h : 0 < Ow me 16 b d g u) :
    g.1.2 = .tc ∧ 1 < lvs g.2 := by
  rcases Ow_pos h with h | h | h
  · rw [Obar_done] at h; exact absurd h (Nat.lt_irrefl 0)
  · obtain ⟨p, rfl⟩ := Oxf_pos h; exact ⟨rfl, by have := lv_rs me p (); unfold lv at this; rw [this]; decide⟩
  · obtain ⟨p, rfl⟩ := Oxf_pos h; exact ⟨rfl, by have := lv_ag me p (); unfold lv at this; rw [this]; decide⟩
theorem Ow_levels2 (me : Dev nD) (d : ℕ) (g : GSem nD τ sig) (u : Unit) (h : 0 < Ow me 16 16 d g u) :
    g.1.2 = .tc ∧ 2 < lvs g.2 := by
  rcases Ow_pos h with h | h | h
  · rw [Obar_done] at h; exact absurd h (Nat.lt_irrefl 0)
  · rw [Oxf_done] at h; exact absurd h (Nat.lt_irrefl 0)
  · obtain ⟨p, rfl⟩ := Oxf_pos h; exact ⟨rfl, by have := lv_ag me p (); unfold lv at this; rw [this]; decide⟩

end Cert.KernelIdealProof
-- ==== Proof.KernelIdealSteps.lean ====
/-
# One step of the exchange, for any pair of devices

The kernel runs each phase of the exchange as sixteen conditionals, one per device, each skipped at the device itself.
The state of a phase is what is owed, what the devices still to come will use (`Φ`) and what the devices already dealt
with have left (`Ψ`); `step` moves one device from the first to the second. The seven operations follow.
-/
module

public import proofs.«01_k».proof.Proof.KernelIdealSched

@[expose] public section

set_option maxRecDepth 100000

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → AccC F) (O : OutC F)

/-- The weakest precondition of a program on device `c`'s core. -/
abbrev wpM (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wpM_bind (c : Dev nD) {α β : Type} (p : Prog (TpuEff nD τ sig (Elt F) Λ₀ .tc) α) (k : α → Prog (TpuEff nD τ sig (Elt F) Λ₀ .tc) β)
    (Q : β → sProp 𝕄) : wpM c (p >>= k) Q = wpM c p (fun a => wpM c (k a) Q) := wp_bind ..

theorem wpM_pure (c : Dev nD) {α : Type} (v : α) (Q : α → sProp 𝕄) {E : sProp 𝕄} (h : E ⊢ Q v) :
    E ⊢ wpM c (pure v) Q := by
  rw [Prog.pure_eq_ret, wpM, wp_ret]; exact h.trans (by iintro H; imodintro; iexact H)

/-! ## The invariants of all cells -/

def records (K : Dev nD × KI → ℕ) : sProp 𝕄 :=
  iprop((bigSep Finset.univ fun ck : Dev nD × KI => cellInv ER (ringRd P O) (K ck) (kcell ck))
    ∗ (bigSep Finset.univ fun ck : Dev nD × KI => reached ER (kcell ck) 0) ∗ levAts L lv)

instance records_persistent (K : Dev nD × KI → ℕ) : BI.Persistent (records P O K) := by unfold records; infer_instance

omit [FloatOps F] in
theorem bigSep_at {I : Type} [Fintype I] [DecidableEq I] (Φ : I → sProp 𝕄) (i : I) : bigSep Finset.univ Φ ⊢ Φ i := bigSep_elim (Finset.mem_univ i)
omit [FloatOps F] in
theorem inv_at (K : Dev nD × KI → ℕ) (ck : Dev nD × KI) : records P O K ⊢ cellInv ER (ringRd P O) (K ck) (kcell ck) := by
  unfold records; iintro ⟨H, -⟩
  iapply (bigSep_at (fun ck : Dev nD × KI => (cellInv ER (ringRd P O) (K ck) (kcell ck) : sProp 𝕄)) ck); iexact H
omit [FloatOps F] in
theorem reached_at (K : Dev nD × KI → ℕ) (ck : Dev nD × KI) : records P O K ⊢ reached ER (kcell ck) 0 := by
  unfold records; iintro ⟨-, H, -⟩
  iapply (bigSep_at (fun ck : Dev nD × KI => (reached ER (kcell ck) 0 : sProp 𝕄)) ck); iexact H
omit [FloatOps F] in
theorem lev_at (K : Dev nD × KI → ℕ) : records P O K ⊢ (levAts L lv : sProp 𝕄) := by
  unfold records; iintro ⟨-, -, H⟩; iexact H

omit [FloatOps F] in
theorem mayWait_at (K : Dev nD × KI → ℕ) (c : Dev nD) (sm : SemLoc sig) (n : ℕ) (hn : lvs sm ≤ n) (T : CellTallies nD τ sig Unit)
    (hT : ∀ g u, 0 < T g u → g.1.2 = .tc ∧ n < lvs g.2) : records P O K ⊢ MayWait (c : Thread nD τ) sm () T :=
  (lev_at (F := F) P O K).trans (mayWait_of (F := F) c sm n hn T hT)

/-! ## The state of a phase -/

omit [FloatOps F] in
theorem bigSep_ins {s : Finset (Dev nD)} {i : Dev nD} (hi : i ∉ s) {Φ : Dev nD → sProp 𝕄} :
    bigSep (insert i s) Φ = iprop(Φ i ∗ bigSep s Φ) := bigSep_insert hi

def St (me : Dev nD) (T : ℕ → CellTallies nD τ sig Unit) (Φ Ψ : Dev nD → sProp 𝕄) (lo k hi : ℕ) : sProp 𝕄 :=
  iprop((∃ W, owes (me : Thread nD τ) (T k) W) ∗ bigSep (rng me k hi) Φ ∗ bigSep (rng me lo k) Ψ)

variable (K : Dev nD × KI → ℕ)

theorem step (me k : Dev nD) {T : ℕ → CellTallies nD τ sig Unit} {Φ Ψ : Dev nD → sProp 𝕄} {lo hi : ℕ} (hlo : lo ≤ k.val) (hhi : k.val < hi)
    {c : Prop} [Decidable c] (hc : c ↔ k ≠ me) (hskip : T me.val = T (me.val + 1))
    {β : Type} {A : c → Prog (TpuEff nD τ sig (Elt F) Λ₀ .tc) PUnit} {J : Prog (TpuEff nD τ sig (Elt F) Λ₀ .tc) β} {Q : β → sProp 𝕄} {Fr : sProp 𝕄}
    (hA : ∀ h, k ≠ me → ∀ W (Q' : PUnit → sProp 𝕄), iprop(records P O K ∗ owes (me : Thread nD τ) (T k.val) W ∗ Φ k)
      ⊢ iprop((((∃ W', owes (me : Thread nD τ) (T (k.val + 1)) W') ∗ Ψ k) -∗ Q' ⟨⟩) -∗ wpM me (A h) Q'))
    (hJ : iprop(records P O K ∗ St me T Φ Ψ lo (k.val + 1) hi ∗ Fr) ⊢ wpM me J Q) :
    iprop(records P O K ∗ St me T Φ Ψ lo k.val hi ∗ Fr) ⊢ wpM me (if h : c then (A h >>= fun _ => J) else J) Q := by
  by_cases hk : k = me
  · have hn : ¬ c := fun h => hc.mp h hk
    rw [dif_neg hn]
    subst hk
    refine BIBase.Entails.trans (Entails.of_eq ?_) hJ
    unfold St
    rw [hskip, rng_skip, rng_skip']
  · have hy : c := hc.mpr hk
    rw [dif_pos hy, wpM_bind]
    unfold St
    rw [rng_head hk hhi, bigSep_ins (rng_head_notMem _ _ _)]
    iintro ⟨#HR, ⟨⟨%W, HO⟩, ⟨HΦ, Hrest⟩, Hdone⟩, HF⟩
    iapply (hA hy hk W (fun _ => wpM me J Q)) $$ [HO HΦ]
    · isplitr; · iexact HR
      isplitl [HO] <;> iassumption
    iintro ⟨HO, HΨ⟩
    iapply hJ
    isplitr; · iexact HR
    isplitr [HF]
    · unfold St
      rw [rng_last hk hlo, bigSep_ins (rng_last_notMem _ _ _)]
      isplitl [HO]; · iexact HO
      isplitl [Hrest]; · iexact Hrest
      isplitl [HΨ] <;> iassumption
    iexact HF

/-! ## The seven operations -/

theorem Ow_bar {me k : Dev nD} (hk : k ≠ me) (b d : ℕ) : Ow me k.val b d = Ow me (k.val + 1) b d + tallyAt (barCell k) () 1 := by
  unfold Ow; rw [Obar_step hk, add_right_comm (Obar me (k.val + 1)) (tallyAt _ _ _), add_right_comm _ (tallyAt _ _ _)]
theorem Ow_rs {me k : Dev nD} (hk : k ≠ me) (d : ℕ) : Ow me 16 k.val d = Ow me 16 (k.val + 1) d + tallyAt (dCell 1 me k) () N := by
  unfold Ow; rw [Oxf_step 1 hk, ← add_assoc, add_right_comm]
theorem Ow_ag {me k : Dev nD} (hk : k ≠ me) : Ow me 16 16 k.val = Ow me 16 16 (k.val + 1) + tallyAt (dCell 3 me k) () N := by
  unfold Ow; rw [Oxf_step 3 hk, ← add_assoc]

/-- What the signal to device `p` uses: the duty of `p`'s barrier cell, and the slot and chunk handed over. -/
def sigΦ (me p : Dev nD) : sProp 𝕄 := iprop(dutyTok ER (barCell p) 0 me ∗ barPay p me)

theorem op_signal {me k n : Dev nD} (hn : n = k) (hk : k ≠ me) (b d : ℕ) (W : Waits sig Unit) (Q' : PUnit → sProp 𝕄) :
    iprop(records P O K ∗ owes (me : Thread nD τ) (Ow me k.val b d) W ∗ sigΦ me k)
      ⊢ iprop((((∃ W', owes (me : Thread nD τ) (Ow me (k.val + 1) b d) W') ∗ emp) -∗ Q' ⟨⟩)
          -∗ wpM me (semSignalWord (Val := Elt F) (Λ := Λ₀) n barS 1#32) Q') := by
  subst hn
  unfold sigΦ semSignalWord
  iintro ⟨#HR, HO, Htok, Hpay⟩ Hk
  iapply (Rounds.wp_signal 𝒱₀ ER (ringRd P O) (me : Thread nD τ) none (dst := (n : Thread nD τ)) (κ := K (n, none))
      (d := me) (by rw [duties_bar]; exact Finset.mem_erase.mpr ⟨hk.symm, Finset.mem_univ _⟩) ((amount_bar P O n me).trans (by decide)) ()
      (Ow me (n.val + 1) b d) (Ow_bar hk b d)) $$ [HO Htok Hpay]
  · isplitr; · iapply (inv_at P O K (n, none)); iexact HR
    isplitl [HO]; · iexact HO
    isplitl [Htok]; · iexact Htok
    isplitl [Hpay]; · rw [payload_bar]; iexact Hpay
    iapply (reached_at P O K (n, none)); iexact HR
  iintro HO
  rw [wp_ret]; imodintro
  iapply Hk
  isplitl [HO]; · iexists W; iexact HO
  iempintro

/-- What a wait on DMA cell `j, i` uses, and what it leaves. -/
def waitΦ (j : Fin 4) (me i : Dev nD) : sProp 𝕄 := iprop(atPos ER (dCell j i me) 0 ∅ 0 ∗ cred (tallyAt (dCell j i me) () N))
def waitΨ (j : Fin 4) (me i : Dev nD) : sProp 𝕄 := iprop(atPos ER (dCell j i me) 1 ∅ 0 ∗ xferPay P O j i me)

/-- A wait on DMA cell `j, k` for one chunk's credit. -/
theorem op_wait (j : Fin 4) {me k : Dev nD} (hk : k ≠ me) (T : ℕ → CellTallies nD τ sig Unit) (hT : T k.val = T (k.val + 1)) (n : ℕ) (hn : lvs (.dma (dsem j k)) ≤ n)
    (hlev : ∀ g u, 0 < T k.val g u → g.1.2 = .tc ∧ n < lvs g.2)
    {sp sp' : Space} {s s' : Shape} {e e' : EltTy} {src : Memref sig .tc sp' s' e'} {dst : Memref sig .tc sp s e} (hN : dst.view.dmaCredit = N)
    {hsrc : src.view.WordExact} {hdst : dst.view.WordExact} {sm : DmaSem sig} (hsm : sm = dsem j k)
    (W : Waits sig Unit) (Q' : PUnit → sProp 𝕄) :
    iprop(records P O K ∗ owes (me : Thread nD τ) (T k.val) W ∗ waitΦ j me k)
      ⊢ iprop((((∃ W', owes (me : Thread nD τ) (T (k.val + 1)) W') ∗ waitΨ P O j me k) -∗ Q' ⟨⟩)
          -∗ wpM me (Prog.lift (.waitDma2 sm src dst hsrc hdst)) Q') := by
  subst hsm
  unfold waitΦ waitΨ Prog.lift
  rw [← hT]
  iintro ⟨#HR, HO, Hat, Hc⟩ Hk
  iapply (Rounds.wp_wait_rest_token 𝒱₀ ER (ringRd P O) (me : Thread nD τ) none (κ := K (me, some (j, k)))
      (wpE_waitDma2_eq 𝒱₀ (me : Thread nD τ) none Set.univ) (Set.mem_univ _) () (O := T k.val) (W := W) (R := 0) (m := 0) (T := ∅)
      (by rw [expect_d P O me j hk, hN, Nat.zero_add])) $$ [Hc HO Hat]
  · isplitr; · iapply (inv_at P O K (me, some (j, k))); iexact HR
    rw [hN]
    isplitl [Hc]; · iexact Hc
    isplitl [HO]; · iexact HO
    isplitr; · iapply (mayWait_at P O K me (.dma (dsem j k)) n hn (T k.val) hlev); iexact HR
    iexact Hat
  iintro ⟨HO, Hat, -, Hpay⟩
  rw [wp_ret]; imodintro
  iapply Hk
  isplitl [HO]; · iexists _; iexact HO
  isplitl [Hat]; · iexact Hat
  ihave Hp := (Entails.of_eq (rest_d P O me j hk)) $$ Hpay
  iexact Hp

/-- What sending row chunk `p` of the partial uses, and what it leaves: the credit of the departing chunk. -/
def rsΦ (me p : Dev nD) : sProp 𝕄 :=
  iprop(dutyTok ER (dCell 0 p me) 0 0 ∗ dutyTok ER (dCell 1 me p) 0 0 ∗ accPts me p (P me) ∗ ∃ f, rcvPts p me f)
def sentΨ (j : Fin 4) (me p : Dev nD) : sProp 𝕄 := cred (tallyAt (dCell j p me) () N)

theorem op_rsSend {me k n : Dev nD} (hn : n = k) (hk : k ≠ me) (d : ℕ)
    {o1 : Fin 2 → ℕ} (h1 : o1 = ![16 * k.val, 0]) {i1 : ∀ a, o1 a + S16x512.size a ≤ S256x512.size a} {u1}
    {o2 : Fin 3 → ℕ} (h2 : o2 = ![me.val, 0, 0]) {i2 : ∀ a, o2 a + S1x16x512.size a ≤ S16x16x512.size a} {u2}
    {sS sR : DmaSem sig} (hS : sS = dsem 0 k) (hR : sR = dsem 1 me) {hsc hsrc hdst hsem}
    (W : Waits sig Unit) (Q' : PUnit → sProp 𝕄) :
    iprop(records P O K ∗ owes (me : Thread nD τ) (Ow me 16 k.val d) W ∗ rsΦ P me k)
      ⊢ iprop((((∃ W', owes (me : Thread nD τ) (Ow me 16 (k.val + 1) d) W') ∗ sentΨ 0 me k) -∗ Q' ⟨⟩)
          -∗ wpM me (Prog.lift (.enqueueDma (accM.slice (Rect.unit (s := S256x512) o1 S16x512.size i1) u1)
              (.remote (Dev.tc n) ((rcvM.slice (Rect.unit (s := S16x16x512) o2 S1x16x512.size i2) u2).squeeze S16x512 squeezes_S1x16x512_S16x512) (.dma sS) hsc)
              (.dma sR) hsrc hdst hsem)) Q') := by
  subst hn h1 h2 hS hR
  unfold rsΦ sentΨ Prog.lift
  iintro ⟨#HR, HO, Ht1, Ht2, Hsrc, ⟨%f, Hdst⟩⟩ Hk
  iapply (Rounds.wp_send_pointsTo 𝒱₀ ER (ringRd P O) (me : Thread nD τ) none (c' := (n : Thread nD τ)) (src := accV n) (dst := rcvV me)
    (κ₁ := K (me, some (0, n))) (κ₂ := K (n, some (1, me))) (r₁ := 0) (r₂ := 0) (d₁ := 0) (d₂ := 0) (q := fullShare) (fs := P me) (fd := f)
    (by rw [duties_d P O me 0 hk]; exact Finset.mem_singleton_self _) (by rw [duties_d P O n 1 hk.symm]; exact Finset.mem_singleton_self _)
    () () N rfl (amount_d P O me 0 n 0) (amount_d P O n 1 me 0) (Ow me 16 (n.val + 1) d) (Ow_rs hk d) (W := W)
    (by rw [payload_d]; exact BI.Entails.refl _)
    (by
      rw [payload_d]
      refine Entails.of_eq ?_
      show _ = rcvPts n me (rcvAll P n)
      rw [rcvPts_eq, rcvV_set]
      exact pointsTo_congr (rcv_landed P me n f))) $$ [HO Ht1 Ht2 Hsrc Hdst]
  · isplitr; · iapply (inv_at P O K (me, some (0, n))); iexact HR
    isplitr; · iapply (inv_at P O K (n, some (1, me))); iexact HR
    isplitl [Hsrc]; · unfold accPts; iexact Hsrc
    isplitl [Hdst]; · unfold rcvPts; iexact Hdst
    isplitl [HO]; · iexact HO
    isplitl [Ht1]; · iexact Ht1
    isplitr; · iapply (reached_at P O K (me, some (0, n))); iexact HR
    isplitl [Ht2]; · iexact Ht2
    iapply (reached_at P O K (n, some (1, me))); iexact HR
  iintro ⟨Hc, HO⟩
  rw [wp_ret]; imodintro
  iapply Hk
  isplitl [HO]; · iexists _; iexact HO
  iexact Hc

/-- What sending its result chunk to device `p` uses. -/
def agΦ (me p : Dev nD) : sProp 𝕄 :=
  iprop(dutyTok ER (dCell 2 p me) 0 0 ∗ dutyTok ER (dCell 3 me p) 0 0 ∗ outPts me me (lfShare p) O ∗ ∃ f, outPts p me fullShare f)

theorem op_agSend {me k n : Dev nD} (hn : n = k) (hk : k ≠ me)
    {o1 : Fin 3 → ℕ} (h1 : o1 = ![me.val / 8, me.val % 8 * 16, 0]) {i1 : ∀ a, o1 a + S1x16x512.size a ≤ S2x128x512.size a} {u1}
    {o2 : Fin 3 → ℕ} (h2 : o2 = ![me.val / 8, me.val % 8 * 16, 0]) {i2 : ∀ a, o2 a + S1x16x512.size a ≤ S2x128x512.size a} {u2}
    {sS sR : DmaSem sig} (hS : sS = dsem 2 k) (hR : sR = dsem 3 me) {hsc hsrc hdst hsem}
    (W : Waits sig Unit) (Q' : PUnit → sProp 𝕄) :
    iprop(records P O K ∗ owes (me : Thread nD τ) (Ow me 16 16 k.val) W ∗ agΦ O me k)
      ⊢ iprop((((∃ W', owes (me : Thread nD τ) (Ow me 16 16 (k.val + 1)) W') ∗ sentΨ 2 me k) -∗ Q' ⟨⟩)
          -∗ wpM me (Prog.lift (.enqueueDma ((outM.slice (Rect.unit (s := S2x128x512) o1 S1x16x512.size i1) u1).squeeze S16x512 squeezes_S1x16x512_S16x512)
              (.remote (Dev.tc n) ((outM.slice (Rect.unit (s := S2x128x512) o2 S1x16x512.size i2) u2).squeeze S16x512 squeezes_S1x16x512_S16x512) (.dma sS) hsc)
              (.dma sR) hsrc hdst hsem)) Q') := by
  subst hn h1 h2 hS hR
  unfold agΦ sentΨ Prog.lift
  iintro ⟨#HR, HO, Ht1, Ht2, Hsrc, ⟨%f, Hdst⟩⟩ Hk
  iapply (Rounds.wp_send_pointsTo 𝒱₀ ER (ringRd P O) (me : Thread nD τ) none (c' := (n : Thread nD τ)) (src := outV me) (dst := outV me)
    (κ₁ := K (me, some (2, n))) (κ₂ := K (n, some (3, me))) (r₁ := 0) (r₂ := 0) (d₁ := 0) (d₂ := 0) (q := lfShare n) (fs := O) (fd := f)
    (by rw [duties_d P O me 2 hk]; exact Finset.mem_singleton_self _) (by rw [duties_d P O n 3 hk.symm]; exact Finset.mem_singleton_self _)
    () () N rfl (amount_d P O me 2 n 0) (amount_d P O n 3 me 0) (Ow me 16 16 (n.val + 1)) (Ow_ag hk) (W := W)
    (by rw [payload_d]; exact BI.Entails.refl _)
    (by
      rw [payload_d]
      refine Entails.of_eq ?_
      show _ = outPts n me fullShare O
      rw [outPts_eq, outV_set]
      exact pointsTo_congr (out_landed O f me))) $$ [HO Ht1 Ht2 Hsrc Hdst]
  · isplitr; · iapply (inv_at P O K (me, some (2, n))); iexact HR
    isplitr; · iapply (inv_at P O K (n, some (3, me))); iexact HR
    isplitl [Hsrc]; · unfold outPts; iexact Hsrc
    isplitl [Hdst]; · unfold outPts; iexact Hdst
    isplitl [HO]; · iexact HO
    isplitl [Ht1]; · iexact Ht1
    isplitr; · iapply (reached_at P O K (me, some (2, n))); iexact HR
    isplitl [Ht2]; · iexact Ht2
    iapply (reached_at P O K (n, some (3, me))); iexact HR
  iintro ⟨Hc, HO⟩
  rw [wp_ret]; imodintro
  iapply Hk
  isplitl [HO]; · iexists _; iexact HO
  iexact Hc

/-! ## The barrier wait -/

theorem wait_bar (me : Dev nD) {β : Type} {J : PUnit → Prog (TpuEff nD τ sig (Elt F) Λ₀ .tc) β} {Q : β → sProp 𝕄} {Fr : sProp 𝕄}
    (hJ : iprop(records P O K ∗ (∃ W, owes (me : Thread nD τ) (Ow me 16 0 0) W) ∗ atPos ER (barCell me) 1 ∅ 0
        ∗ bigSep (rng me 0 16) (fun p => barPay me p) ∗ Fr) ⊢ wpM me (J ⟨⟩) Q) :
    iprop(records P O K ∗ (∃ W, owes (me : Thread nD τ) (Ow me 16 0 0) W) ∗ atPos ER (barCell me) 0 ∅ 0
        ∗ cred (tallyAt (barCell me) () 15) ∗ Fr)
      ⊢ wpM me (semWaitWord (Val := Elt F) (Λ := Λ₀) barS 15#32 >>= J) Q := by
  rw [wpM_bind]
  unfold semWaitWord
  iintro ⟨#HR, ⟨%W, HO⟩, Hat, Hc, HF⟩
  iapply (Rounds.wp_wait_rest_token 𝒱₀ ER (ringRd P O) (me : Thread nD τ) none (κ := K (me, none))
      (wpE_semWait_eq 𝒱₀ (me : Thread nD τ) none Set.univ) (Set.mem_univ _) () (O := Ow me 16 0 0) (W := W) (R := 0) (m := 0) (T := ∅)
      (by rw [expect_bar]; decide)) $$ [Hc HO Hat]
  · isplitr; · iapply (inv_at P O K (me, none)); iexact HR
    isplitl [Hc]; · iexact Hc
    isplitl [HO]; · iexact HO
    isplitr; · iapply (mayWait_at P O K me (.reg barS) 1 (le_refl _) (Ow me 16 0 0) (Ow_levels1 me 0 0)); iexact HR
    iexact Hat
  iintro ⟨HO, Hat, -, Hpay⟩
  rw [wp_ret]; imodintro
  iapply hJ
  isplitr; · iexact HR
  isplitl [HO]; · iexists _; iexact HO
  isplitl [Hat]; · iexact Hat
  isplitl [Hpay]
  · rw [rng_all]
    ihave Hp := (Entails.of_eq (rest_bar P O me)) $$ Hpay
    iexact Hp
  iexact HF

end Cert.KernelIdealProof
-- ==== Proof.KernelIdealVals.lean ====
module
public import proofs.«01_k».proof.Proof.KernelIdealSched
import all proofs.«01_k».proof.Proof.Gen.KernelIdeal.Skeleton
@[expose] public section

set_option maxRecDepth 100000

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The values the kernel computes on one device, named by the operations that compute them -/

/-- The five argument buffers of one device. -/
structure Ins (F : FTy → Type) where
  x0 : (cc0_stg0_0 : Ref sig .tc).ty.Contents (Elt F)
  x1 : (cc0_stg1_0 : Ref sig .tc).ty.Contents (Elt F)
  x2 : (cc0_stg2_0 : Ref sig .tc).ty.Contents (Elt F)
  x3 : (cc0_stg3_0 : Ref sig .tc).ty.Contents (Elt F)
  x4 : (cc0_stg4_0 : Ref sig .tc).ty.Contents (Elt F)

theorem xInb (b : Fin 2) : ∀ a, (![b.val, 0, 0] : Fin 3 → ℕ) a + S1x128x512.size a ≤ S2x128x512.size a := by revert b; decide
theorem kvInb (b : Fin 2) (h : Fin 4) : ∀ a, (![b.val, 0, h.val, 0] : Fin 4 → ℕ) a + S1x128x1x64.size a ≤ S2x128x4x64.size a := by
  revert b h; decide

/-- The blocks read: batch `b` of the input, head `h` of the keys and values, the device's columns and rows of the two weights. -/
def ldX (x : Ins F) (b : Fin 2) : Vec F S1x128x512 .f32 :=
  (Memref.whole cc0_stg0_0).view.readAt (Elt F) (Rect.unit (s := S2x128x512) ![b.val, 0, 0] S1x128x512.size (xInb b)).toLoadRect x.x0
def ldWq (d : Dev nD) (x : Ins F) : Vec F S512x256 .f32 :=
  (Memref.whole cc0_stg1_0).view.readAt (Elt F) (Rect.unit (s := S512x4096) (k0_off1 d) S512x256.size (k0_off1_inb d)).toLoadRect x.x1
def ldK (x : Ins F) (b : Fin 2) (h : Fin 4) : Vec F S1x128x1x64 .f32 :=
  (Memref.whole cc0_stg2_0).view.readAt (Elt F) (Rect.unit (s := S2x128x4x64) ![b.val, 0, h.val, 0] S1x128x1x64.size (kvInb b h)).toLoadRect x.x2
def ldV (x : Ins F) (b : Fin 2) (h : Fin 4) : Vec F S1x128x1x64 .f32 :=
  (Memref.whole cc0_stg3_0).view.readAt (Elt F) (Rect.unit (s := S2x128x4x64) ![b.val, 0, h.val, 0] S1x128x1x64.size (kvInb b h)).toLoadRect x.x3
def ldWo (d : Dev nD) (x : Ins F) : Vec F S256x512 .f32 :=
  (Memref.whole cc0_stg4_0).view.readAt (Elt F) (Rect.unit (s := S4096x512) (k0_off2 d) S256x512.size (k0_off2_inb d)).toLoadRect x.x4

section Values
variable (d : Dev nD) (x : Ins F)

abbrev w55 : FVec F S512x256 .f32 := k0_pay1 (ldWq d x)
abbrev w58 : FVec F S256x512 .f32 := k0_pay2 (ldWo d x)
abbrev w59 : IVec S128x128 32 := iota .tc S128x128 32 [0] iota_S128x128_d0_w32
abbrev w83 : IVec S128x128 32 := k0_pay4 w59 64#32 k0_pay3
abbrev w108 : IVec S128x128 32 := k0_pay5
/-- The mask of admitted positions. -/
abbrev w109 : IVec S128x128 1 := k0_pay6 w83 w108
abbrev w112 : FVec F S128x256 .f32 := k0_pay7 (w55 d x) (ldX x 0)
abbrev w132 : FVec F S128x64 .f32 := k0_pay8 (w55 d x) w83 w108 (ldX x 0) (ldK x 0 0) (ldV x 0 0)
abbrev w137 : FVec F S128x64 .f32 := k0_pay9 (ldV x 0 1)
abbrev w140 : FVec F S128x128 .f32 := k0_pay10 (w55 d x) (ldX x 0) (ldK x 0 1)
abbrev w152 : FVec F S128x64 .f32 := k0_pay11 w109 (w137 x) (w140 d x)
abbrev w172 : FVec F S128x64 .f32 := k0_pay12 w109 (w112 d x) (ldK x 0 2) (ldV x 0 2)
abbrev w173 : FVec F S128x64 .f32 := k0_pay13 (w112 d x)
abbrev w175 : FVec F S128x64 .f32 := k0_pay14 (ldK x 0 3)
/-- The rows of the partial for batch 0. -/
def half0 : FVec F S128x512 .f32 := k0_pay15 (w58 d x) w109 (w132 d x) (w152 d x) (w172 d x) (w173 d x) (w175 x) (ldV x 0 3)
abbrev w224 : FVec F S128x256 .f32 := k0_pay16 (w55 d x) (ldX x 1)
abbrev w229 : FVec F S128x64 .f32 := k0_pay17 (ldV x 1 0)
abbrev w234 : FVec F S128x128 .f32 := k0_pay18 (w55 d x) w109 (ldX x 1) (ldK x 1 0)
abbrev w236 : FVec F S128x1 .f32 := k0_pay19 (w55 d x) w109 (ldX x 1) (ldK x 1 0)
abbrev w244 : FVec F S128x64 .f32 := k0_pay20 (w229 x) (w234 d x) (w236 d x)
abbrev w264 : FVec F S128x64 .f32 := k0_pay21 w109 (w224 d x) (ldK x 1 1) (ldV x 1 1)
abbrev w269 : FVec F S128x64 .f32 := k0_pay22 (ldV x 1 2)
abbrev w270 : FVec F S128x128 .f32 := k0_pay23 (w224 d x) (ldK x 1 2)
/-- The rows of the partial for batch 1. -/
def half1 : FVec F S128x512 .f32 :=
  k0_pay24 (w58 d x) w109 (w224 d x) (w244 d x) (w264 d x) (w269 x) (w270 d x) (Scalar.ofBits .f32 0x3E000000#32) (ldK x 1 3) (ldV x 1 3)

/-- The partial result of device `d`. -/
def accOf : AccC F := fun i =>
  if h : (i 0).val < 128 then half0 d x (ix2 (⟨(i 0).val, h⟩ : Fin 128) (i 1 : Fin 512))
  else half1 d x (ix2 (⟨(i 0).val - 128, by have h' := (i 0).isLt; change (i 0).val < 256 at h'; omega⟩ : Fin 128) (i 1 : Fin 512))

end Values

/-- Chunk `d` of the result, from all partials. -/
def chunkOf (P : Dev nD → AccC F) (d : Dev nD) : FVec F S16x512 .f32 := k0_pay26 (rcvAll P d)

/-- The whole result, from all partials. -/
def outOf (P : Dev nD → AccC F) : OutC F := fun i =>
  chunkOf P ⟨8 * (i 0).val + (i 1).val / 16, by
      have h := (i 0).isLt; change (i 0).val < 2 at h
      have h' := (i 1).isLt; change (i 1).val < 128 at h'
      change _ < 16; omega⟩
    (ix2 (⟨(i 1).val % 16, Nat.mod_lt _ (by decide)⟩ : Fin 16) (i 2 : Fin 512))

/-! ## Where the stores put them -/

abbrev loInb : ∀ a, (![0, 0] : Fin 2 → ℕ) a + S128x512.size a ≤ S256x512.size a := inb_S256x512_S128x512_0_0
abbrev hiInb : ∀ a, (![128, 0] : Fin 2 → ℕ) a + S128x512.size a ≤ S256x512.size a := inb_S256x512_S128x512_128_0
abbrev loR : Rect S256x512 := Rect.unit (s := S256x512) ![0, 0] S128x512.size loInb
abbrev hiR : Rect S256x512 := Rect.unit (s := S256x512) ![128, 0] S128x512.size hiInb

/-- The rows of the two halves of the partial. -/
def loSet : Finset S256x512.Idx := Finset.univ.filter fun i => (i 0).val < 128
def hiSet : Finset S256x512.Idx := Finset.univ.filter fun i => 128 ≤ (i 0).val

theorem loM_set : (accM.access loR).set = loSet := by
  show ((View.whole cc0_scratch0).slice loR).set = loSet
  rw [View.set_slice_whole]
  ext i
  rw [Rect.mem_set_unit, loSet, Finset.mem_filter]
  have h1 := (i 1).isLt
  refine ⟨fun h => ⟨Finset.mem_univ _, ?_⟩, fun h a => ?_⟩
  · have := h 0
    change 0 ≤ (i 0).val ∧ (i 0).val < 0 + 128 at this
    omega
  · have h2 := h.2
    fin_cases a
    · change 0 ≤ (i 0).val ∧ (i 0).val < 0 + 128; omega
    · change 0 ≤ (i 1).val ∧ (i 1).val < 0 + 512; change (i 1).val < 512 at h1; omega
theorem hiM_set : (accM.access hiR).set = hiSet := by
  show ((View.whole cc0_scratch0).slice hiR).set = hiSet
  rw [View.set_slice_whole]
  ext i
  rw [Rect.mem_set_unit, hiSet, Finset.mem_filter]
  have h1 := (i 1).isLt
  have h0 := (i 0).isLt
  refine ⟨fun h => ⟨Finset.mem_univ _, ?_⟩, fun h a => ?_⟩
  · have := h 0
    change 128 ≤ (i 0).val ∧ (i 0).val < 128 + 128 at this
    omega
  · have h2 := h.2
    fin_cases a
    · change 128 ≤ (i 0).val ∧ (i 0).val < 128 + 128; change (i 0).val < 256 at h0; omega
    · change 0 ≤ (i 1).val ∧ (i 1).val < 0 + 512; change (i 1).val < 512 at h1; omega

/-- After the store of the batch 0 rows, -/
theorem lo_stored (d : Dev nD) (x : Ins F) (f : AccC F) :
    ∀ i ∈ loSet, (accM.access loR).write (Elt F) f (half0 d x) Finset.univ i = accOf d x i := by
  intro i hi
  rw [← loM_set, View.set, Finset.mem_map] at hi
  obtain ⟨y, -, rfl⟩ := hi
  rw [View.write_emb_of_mem _ _ (Finset.mem_univ y)]
  obtain ⟨r, c, rfl⟩ : ∃ (r : Fin 128) (c : Fin 512), y = ix2 r c := ⟨y 0, y 1, eq_ix2 y⟩
  have e : (accM.access loR).emb (ix2 r c) = ix2 (⟨r.val, by have := r.isLt; omega⟩ : Fin 256) c := by
    funext a
    apply Fin.ext
    fin_cases a
    · change 0 + 1 * r.val = r.val; omega
    · change 0 + 1 * c.val = c.val; omega
  refine Eq.trans ?_ (congrArg (accOf d x) e).symm
  refine (cast_eq rfl (half0 d x (ix2 r c))).trans ?_
  refine Eq.trans ?_ (dif_pos (show r.val < 128 from r.isLt)).symm
  rfl

/-- and of the batch 1 rows. -/
theorem hi_stored (d : Dev nD) (x : Ins F) (f : AccC F) :
    ∀ i ∈ hiSet, (accM.access hiR).write (Elt F) f (half1 d x) Finset.univ i = accOf d x i := by
  intro i hi
  rw [← hiM_set, View.set, Finset.mem_map] at hi
  obtain ⟨y, -, rfl⟩ := hi
  rw [View.write_emb_of_mem _ _ (Finset.mem_univ y)]
  obtain ⟨r, c, rfl⟩ : ∃ (r : Fin 128) (c : Fin 512), y = ix2 r c := ⟨y 0, y 1, eq_ix2 y⟩
  have e : (accM.access hiR).emb (ix2 r c) = ix2 (⟨128 + r.val, by have := r.isLt; omega⟩ : Fin 256) c := by
    funext a
    apply Fin.ext
    fin_cases a
    · change 128 + 1 * r.val = 128 + r.val; omega
    · change 0 + 1 * c.val = c.val; omega
  refine Eq.trans ?_ (congrArg (accOf d x) e).symm
  refine (cast_eq rfl (half1 d x (ix2 r c))).trans ?_
  refine Eq.trans ?_ (dif_neg (show ¬ (128 + r.val < 128) by omega)).symm
  refine congrArg (half1 d x) ?_
  refine congrArg (fun r' : Fin 128 => ix2 r' c) (Fin.ext ?_)
  show r.val = 128 + r.val - 128
  omega

/-- The halves are the first and the last eight chunks. -/
theorem loSet_chunks : (Finset.univ.filter fun p : Dev nD => p.val < 8).biUnion accSet = loSet := by
  ext i
  rw [Finset.mem_biUnion, loSet, Finset.mem_filter]
  constructor
  · rintro ⟨p, hp, hi⟩
    have h1 := (Finset.mem_filter.mp hp).2; have h2 := (Finset.mem_filter.mp hi).2
    exact ⟨Finset.mem_univ _, by omega⟩
  · rintro ⟨-, h⟩
    exact ⟨⟨(i 0).val / 16, by change _ < 16; omega⟩, Finset.mem_filter.mpr ⟨Finset.mem_univ _, by show (i 0).val / 16 < 8; omega⟩,
      Finset.mem_filter.mpr ⟨Finset.mem_univ _, rfl⟩⟩
theorem hiSet_chunks : (Finset.univ.filter fun p : Dev nD => 8 ≤ p.val).biUnion accSet = hiSet := by
  ext i
  rw [Finset.mem_biUnion, hiSet, Finset.mem_filter]
  constructor
  · rintro ⟨p, hp, hi⟩
    have h1 := (Finset.mem_filter.mp hp).2; have h2 := (Finset.mem_filter.mp hi).2
    exact ⟨Finset.mem_univ _, by omega⟩
  · rintro ⟨-, h⟩
    have h' := (i 0).isLt; change (i 0).val < 256 at h'
    exact ⟨⟨(i 0).val / 16, by change _ < 16; omega⟩, Finset.mem_filter.mpr ⟨Finset.mem_univ _, by show 8 ≤ (i 0).val / 16; omega⟩,
      Finset.mem_filter.mpr ⟨Finset.mem_univ _, rfl⟩⟩

theorem lo_hi_univ : loSet ∪ hiSet = Finset.univ := by
  ext i; rw [Finset.mem_union, loSet, hiSet, Finset.mem_filter, Finset.mem_filter]
  simp only [Finset.mem_univ, true_and, iff_true]; omega
theorem lo_hi_disj : Disjoint loSet hiSet := Finset.disjoint_filter.mpr fun i _ h1 h2 => by omega

/-- The device's own chunk, copied into its own receive slot. -/
theorem own_stored (P : Dev nD → AccC F) (d : Dev nD) (f : RcvC F) {o1} (h1 : o1 = ![16 * d.val, 0]) (i1 : ∀ a, o1 a + S16x512.size a ≤ S256x512.size a)
    {o2} (h2 : o2 = ![d.val, 0, 0]) (i2 : ∀ a, o2 a + S1x16x512.size a ≤ S16x16x512.size a) :
    ∀ i ∈ rcvSet d, (rcvM.access (Rect.unit (s := S16x16x512) o2 S1x16x512.size i2)).write (Elt F) f
      (k0_pay25 (accM.view.readAt (Elt F) (Rect.unit (s := S256x512) o1 S16x512.size i1).toLoadRect (P d))) Finset.univ i = rcvAll P d i := by
  subst h1 h2
  intro i hi
  obtain ⟨s, r, c, rfl⟩ : ∃ (s : Fin 16) (r : Fin 16) (c : Fin 512), i = ix3 s r c := ⟨i 0, i 1, i 2, eq_ix3 i⟩
  have hs : s = (d : Fin 16) := Fin.ext (Finset.mem_filter.mp hi).2
  subst hs
  have e : (rcvM.access (Rect.unit (s := S16x16x512) ![s.val, 0, 0] S1x16x512.size i2)).emb (ix3 (0 : Fin 1) r c) = ix3 s r c := by
    funext a
    apply Fin.ext
    fin_cases a
    · change s.val + 1 * 0 = s.val; omega
    · change 0 + 1 * r.val = r.val; omega
    · change 0 + 1 * c.val = c.val; omega
  refine (congrArg (View.write (Elt F) (rcvM.access (Rect.unit (s := S16x16x512) ![s.val, 0, 0] S1x16x512.size i2)) f
    (k0_pay25 (accM.view.readAt (Elt F) (Rect.unit (s := S256x512) ![16 * s.val, 0] S16x512.size i1).toLoadRect (P s))) Finset.univ) e.symm).trans ?_
  refine (View.write_emb_of_mem _ _ (Finset.mem_univ _)).trans ?_
  refine (cast_eq rfl (shapeCast S1x16x512 (accM.view.readAt (Elt F) (Rect.unit (s := S256x512) ![16 * s.val, 0] S16x512.size i1).toLoadRect (P s)) shapeCasts_S16x512_S1x16x512 (ix3 (0 : Fin 1) r c))).trans ?_
  rw [shapeCast_ab_1ab_apply]
  have e1 := accV_emb s r c
  exact congrArg (P s) e1

/-- The reduced chunk, stored into the result. -/
theorem out_stored (P : Dev nD → AccC F) (d : Dev nD) (f : OutC F) {o} (h : o = ![d.val / 8, d.val % 8 * 16, 0])
    (i1 : ∀ a, o a + S1x16x512.size a ≤ S2x128x512.size a) :
    ∀ i ∈ outSet d, (outM.access (Rect.unit (s := S2x128x512) o S1x16x512.size i1)).write (Elt F) f
      (k0_pay27 (chunkOf P d)) Finset.univ i = outOf P i := by
  subst h
  intro i hi
  rw [← outV_set, View.set, Finset.mem_map] at hi
  obtain ⟨y, -, rfl⟩ := hi
  obtain ⟨r, c, rfl⟩ : ∃ (r : Fin 16) (c : Fin 512), y = ix2 r c := ⟨y 0, y 1, eq_ix2 y⟩
  have e0 := outV_emb d r c
  have e : (outM.access (Rect.unit (s := S2x128x512) ![d.val / 8, d.val % 8 * 16, 0] S1x16x512.size i1)).emb (ix3 (0 : Fin 1) r c) = outIx d r c := by
    funext a
    apply Fin.ext
    fin_cases a
    · change d.val / 8 + 1 * 0 = d.val / 8; omega
    · change d.val % 8 * 16 + 1 * r.val = d.val % 8 * 16 + r.val; omega
    · change 0 + 1 * c.val = c.val; omega
  refine (congrArg (View.write (Elt F) (outM.access (Rect.unit (s := S2x128x512) ![d.val / 8, d.val % 8 * 16, 0] S1x16x512.size i1)) f (k0_pay27 (chunkOf P d)) Finset.univ) (e0.trans e.symm)).trans ?_
  refine (View.write_emb_of_mem _ _ (Finset.mem_univ _)).trans ?_
  refine Eq.trans ?_ (congrArg (outOf P) e0).symm
  refine (cast_eq rfl (shapeCast S1x16x512 (chunkOf P d) shapeCasts_S16x512_S1x16x512 (ix3 (0 : Fin 1) r c))).trans ?_
  rw [shapeCast_ab_1ab_apply]
  have hd := d.isLt; change d.val < 16 at hd
  have hr := r.isLt
  have hdd : (⟨8 * (d.val / 8) + (d.val % 8 * 16 + r.val) / 16, by change _ < 16; omega⟩ : Dev nD) = d := Fin.ext (by show 8 * (d.val / 8) + (d.val % 8 * 16 + r.val) / 16 = d.val; omega)
  have hrr : (⟨(d.val % 8 * 16 + r.val) % 16, Nat.mod_lt _ (by decide)⟩ : Fin 16) = r := Fin.ext (by show (d.val % 8 * 16 + r.val) % 16 = r.val; omega)
  show chunkOf P d (ix2 r c) = chunkOf P (⟨8 * (d.val / 8) + (d.val % 8 * 16 + r.val) / 16, _⟩ : Dev nD) (ix2 (⟨(d.val % 8 * 16 + r.val) % 16, _⟩ : Fin 16) c)
  rw [hdd, hrr]

end Cert.KernelIdealProof
-- ==== Proof.KernelIdealMoves.lean ====
module
public import proofs.«01_k».proof.Proof.KernelIdealSteps
public import proofs.«01_k».proof.Proof.KernelIdealVals
@[expose] public section

set_option maxRecDepth 100000

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The device numbered `k`. -/
abbrev dv (k : ℕ) (h : k < 16 := by decide) : Dev nD := ⟨k, h⟩

abbrev x0M : Memref sig .tc .vmem S2x128x512 .f32 := Memref.whole cc0_stg0_0
abbrev x1M : Memref sig .tc .vmem S512x4096 .f32 := Memref.whole cc0_stg1_0
abbrev x2M : Memref sig .tc .vmem S2x128x4x64 .f32 := Memref.whole cc0_stg2_0
abbrev x3M : Memref sig .tc .vmem S2x128x4x64 .f32 := Memref.whole cc0_stg3_0
abbrev x4M : Memref sig .tc .vmem S4096x512 .f32 := Memref.whole cc0_stg4_0
theorem x0W : x0M.IsWhole := Memref.isWhole_whole _
theorem x1W : x1M.IsWhole := Memref.isWhole_whole _
theorem x2W : x2M.IsWhole := Memref.isWhole_whole _
theorem x3W : x3M.IsWhole := Memref.isWhole_whole _
theorem x4W : x4M.IsWhole := Memref.isWhole_whole _
theorem outW : outM.IsWhole := Memref.isWhole_whole _
theorem accW : accM.IsWhole := Memref.isWhole_whole _
theorem rcvW : rcvM.IsWhole := Memref.isWhole_whole _

/-! ## Loads and stores -/

section Moves
variable (me : Dev nD)

theorem devId {β : Type} {J : Dev nD → Prog (TpuEff nD τ sig (Elt F) Λ₀ .tc) β} {Q : β → sProp 𝕄} {E : sProp 𝕄} (h : E ⊢ wpM me (J me) Q) :
    E ⊢ wpM me (Prog.lift .deviceId >>= J) Q := by
  rw [wpM_bind]
  simp only [wpM, Prog.lift, wp_deviceId, wp_ret]
  exact h.trans (by iintro H; imodintro; iexact H)

/-- A load from elements held, which are held afterwards. -/
theorem ld {s : Shape} {e : EltTy} {m : Memref sig .tc .vmem s e} {r : LoadRect s} {hl : m.view.LoadsAt r} {β : Type}
    {J : (r.shape.Idx → Elt F e) → Prog (TpuEff nD τ sig (Elt F) Λ₀ .tc) β} {Q : β → sProp 𝕄}
    {S : Finset (Idx (m.view.loc (me : Thread nD τ)))} {q : PosShare TreeShare} {f : Buf (Elt F) (m.view.loc (me : Thread nD τ))}
    (hS : m.view.setOn r.set ⊆ S) {E E' : sProp 𝕄}
    (hE : E ⊢ iprop((m.view.loc (me : Thread nD τ) ↦[S]{q} f) ∗ E')) (hE' : iprop((m.view.loc (me : Thread nD τ) ↦[S]{q} f) ∗ E') ⊢ E)
    (h : E ⊢ wpM me (J (m.view.readAt (Elt F) r f)) Q) : E ⊢ wpM me (Prog.lift (.load m r hl) >>= J) Q := by
  rw [wpM_bind]
  refine hE.trans ?_
  unfold Prog.lift
  iintro ⟨H, HE⟩
  iapply (wp_load 𝒱₀ (me : Thread nD τ) none Set.univ (m := m) hS) $$ H
  iintro H
  rw [wp_ret]; imodintro
  iapply (hE'.trans h)
  isplitl [H] <;> iassumption

/-- A store to elements held. -/
theorem st {s : Shape} {e : EltTy} {m : Memref sig .tc .vmem s e} {r : Rect s} {w : r.shape.Idx → Elt F e} {hx : (m.access r).Stores Finset.univ}
    {hm : (Finset.univ : Finset r.shape.Idx) = Finset.univ ∨ ∀ a : Fin s.rank, r.stride a = 1} {β : Type}
    {J : PUnit → Prog (TpuEff nD τ sig (Elt F) Λ₀ .tc) β} {Q : β → sProp 𝕄}
    {S : Finset (Idx ((m.access r).loc (me : Thread nD τ)))} {f : Buf (Elt F) ((m.access r).loc (me : Thread nD τ))}
    (hS : (m.access r).setOn Finset.univ ⊆ S) {E E' : sProp 𝕄}
    (hE : E ⊢ iprop(((m.access r).loc (me : Thread nD τ) ↦[S]{fullShare} f) ∗ E'))
    (h : iprop(((m.access r).loc (me : Thread nD τ) ↦[S]{fullShare} (m.access r).write (Elt F) f w Finset.univ) ∗ E') ⊢ wpM me (J ⟨⟩) Q) :
    E ⊢ wpM me (Prog.lift (.store m r w Finset.univ hx hm) >>= J) Q := by
  rw [wpM_bind]
  refine hE.trans ?_
  unfold Prog.lift
  iintro ⟨H, HE⟩
  iapply (wp_store 𝒱₀ (me : Thread nD τ) none Set.univ (m := m) (r := r) (Mk := Finset.univ) hS) $$ H
  iintro H
  rw [wp_ret]; imodintro
  iapply h
  isplitl [H] <;> iassumption

/-- A device's five argument buffers. -/
def Args (x : Ins F) : sProp 𝕄 :=
  iprop((((me : Thread nD τ).loc cc0_stg0_0) ↦{fullShare} x.x0) ∗ (((me : Thread nD τ).loc cc0_stg1_0) ↦{fullShare} x.x1)
    ∗ (((me : Thread nD τ).loc cc0_stg2_0) ↦{fullShare} x.x2) ∗ (((me : Thread nD τ).loc cc0_stg3_0) ↦{fullShare} x.x3)
    ∗ (((me : Thread nD τ).loc cc0_stg4_0) ↦{fullShare} x.x4))

theorem ld0 (x : Ins F) {A B Fr : sProp 𝕄} {β : Type} {Q : β → sProp 𝕄} {r : LoadRect S2x128x512} {hl : x0M.view.LoadsAt r}
    {J : (r.shape.Idx → Elt F .f32) → Prog (TpuEff nD τ sig (Elt F) Λ₀ .tc) β}
    (h : iprop(A ∗ B ∗ Args me x ∗ Fr) ⊢ wpM me (J (x0M.view.readAt (Elt F) r x.x0)) Q) :
    iprop(A ∗ B ∗ Args me x ∗ Fr) ⊢ wpM me (Prog.lift (.load x0M r hl) >>= J) Q := by
  refine ld me (S := Finset.univ) (q := fullShare) (f := x.x0) (Finset.subset_univ _)
    (E' := iprop(A ∗ B ∗ ((((me : Thread nD τ).loc cc0_stg1_0) ↦{fullShare} x.x1)
    ∗ (((me : Thread nD τ).loc cc0_stg2_0) ↦{fullShare} x.x2) ∗ (((me : Thread nD τ).loc cc0_stg3_0) ↦{fullShare} x.x3)
    ∗ (((me : Thread nD τ).loc cc0_stg4_0) ↦{fullShare} x.x4)) ∗ Fr)) ?_ ?_ h
  · unfold Args; iintro ⟨HA, HB, ⟨H0, H1, H2, H3, H4⟩, HF⟩
    isplitl [H0]; · iexact H0
    isplitl [HA]; · iexact HA
    isplitl [HB]; · iexact HB
    isplitr [HF]
    · isplitl [H1]; · iexact H1
      isplitl [H2]; · iexact H2
      isplitl [H3] <;> iassumption
    iexact HF
  · unfold Args; iintro ⟨H0, HA, HB, ⟨H1, H2, H3, H4⟩, HF⟩
    isplitl [HA]; · iexact HA
    isplitl [HB]; · iexact HB
    isplitr [HF]
    · isplitl [H0]; · iexact H0
      isplitl [H1]; · iexact H1
      isplitl [H2]; · iexact H2
      isplitl [H3] <;> iassumption
    iexact HF

theorem ld1 (x : Ins F) {A B Fr : sProp 𝕄} {β : Type} {Q : β → sProp 𝕄} {r : LoadRect S512x4096} {hl : x1M.view.LoadsAt r}
    {J : (r.shape.Idx → Elt F .f32) → Prog (TpuEff nD τ sig (Elt F) Λ₀ .tc) β}
    (h : iprop(A ∗ B ∗ Args me x ∗ Fr) ⊢ wpM me (J (x1M.view.readAt (Elt F) r x.x1)) Q) :
    iprop(A ∗ B ∗ Args me x ∗ Fr) ⊢ wpM me (Prog.lift (.load x1M r hl) >>= J) Q := by
  refine ld me (S := Finset.univ) (q := fullShare) (f := x.x1) (Finset.subset_univ _)
    (E' := iprop(A ∗ B ∗ ((((me : Thread nD τ).loc cc0_stg0_0) ↦{fullShare} x.x0) ∗ (((me : Thread nD τ).loc cc0_stg2_0) ↦{fullShare} x.x2) ∗ (((me : Thread nD τ).loc cc0_stg3_0) ↦{fullShare} x.x3) ∗ (((me : Thread nD τ).loc cc0_stg4_0) ↦{fullShare} x.x4)) ∗ Fr)) ?_ ?_ h
  · unfold Args; iintro ⟨HA, HB, ⟨H0, H1, H2, H3, H4⟩, HF⟩
    isplitl [H1]; · iexact H1
    isplitl [HA]; · iexact HA
    isplitl [HB]; · iexact HB
    isplitr [HF]
    · isplitl [H0]; · iexact H0
      isplitl [H2]; · iexact H2
      isplitl [H3] <;> iassumption
    iexact HF
  · unfold Args; iintro ⟨H1, HA, HB, ⟨H0, H2, H3, H4⟩, HF⟩
    isplitl [HA]; · iexact HA
    isplitl [HB]; · iexact HB
    isplitr [HF]
    · isplitl [H0]; · iexact H0
      isplitl [H1]; · iexact H1
      isplitl [H2]; · iexact H2
      isplitl [H3] <;> iassumption
    iexact HF

theorem ld2 (x : Ins F) {A B Fr : sProp 𝕄} {β : Type} {Q : β → sProp 𝕄} {r : LoadRect S2x128x4x64} {hl : x2M.view.LoadsAt r}
    {J : (r.shape.Idx → Elt F .f32) → Prog (TpuEff nD τ sig (Elt F) Λ₀ .tc) β}
    (h : iprop(A ∗ B ∗ Args me x ∗ Fr) ⊢ wpM me (J (x2M.view.readAt (Elt F) r x.x2)) Q) :
    iprop(A ∗ B ∗ Args me x ∗ Fr) ⊢ wpM me (Prog.lift (.load x2M r hl) >>= J) Q := by
  refine ld me (S := Finset.univ) (q := fullShare) (f := x.x2) (Finset.subset_univ _)
    (E' := iprop(A ∗ B ∗ ((((me : Thread nD τ).loc cc0_stg0_0) ↦{fullShare} x.x0) ∗ (((me : Thread nD τ).loc cc0_stg1_0) ↦{fullShare} x.x1) ∗ (((me : Thread nD τ).loc cc0_stg3_0) ↦{fullShare} x.x3) ∗ (((me : Thread nD τ).loc cc0_stg4_0) ↦{fullShare} x.x4)) ∗ Fr)) ?_ ?_ h
  · unfold Args; iintro ⟨HA, HB, ⟨H0, H1, H2, H3, H4⟩, HF⟩
    isplitl [H2]; · iexact H2
    isplitl [HA]; · iexact HA
    isplitl [HB]; · iexact HB
    isplitr [HF]
    · isplitl [H0]; · iexact H0
      isplitl [H1]; · iexact H1
      isplitl [H3] <;> iassumption
    iexact HF
  · unfold Args; iintro ⟨H2, HA, HB, ⟨H0, H1, H3, H4⟩, HF⟩
    isplitl [HA]; · iexact HA
    isplitl [HB]; · iexact HB
    isplitr [HF]
    · isplitl [H0]; · iexact H0
      isplitl [H1]; · iexact H1
      isplitl [H2]; · iexact H2
      isplitl [H3] <;> iassumption
    iexact HF

theorem ld3 (x : Ins F) {A B Fr : sProp 𝕄} {β : Type} {Q : β → sProp 𝕄} {r : LoadRect S2x128x4x64} {hl : x3M.view.LoadsAt r}
    {J : (r.shape.Idx → Elt F .f32) → Prog (TpuEff nD τ sig (Elt F) Λ₀ .tc) β}
    (h : iprop(A ∗ B ∗ Args me x ∗ Fr) ⊢ wpM me (J (x3M.view.readAt (Elt F) r x.x3)) Q) :
    iprop(A ∗ B ∗ Args me x ∗ Fr) ⊢ wpM me (Prog.lift (.load x3M r hl) >>= J) Q := by
  refine ld me (S := Finset.univ) (q := fullShare) (f := x.x3) (Finset.subset_univ _)
    (E' := iprop(A ∗ B ∗ ((((me : Thread nD τ).loc cc0_stg0_0) ↦{fullShare} x.x0) ∗ (((me : Thread nD τ).loc cc0_stg1_0) ↦{fullShare} x.x1) ∗ (((me : Thread nD τ).loc cc0_stg2_0) ↦{fullShare} x.x2) ∗ (((me : Thread nD τ).loc cc0_stg4_0) ↦{fullShare} x.x4)) ∗ Fr)) ?_ ?_ h
  · unfold Args; iintro ⟨HA, HB, ⟨H0, H1, H2, H3, H4⟩, HF⟩
    isplitl [H3]; · iexact H3
    isplitl [HA]; · iexact HA
    isplitl [HB]; · iexact HB
    isplitr [HF]
    · isplitl [H0]; · iexact H0
      isplitl [H1]; · iexact H1
      isplitl [H2] <;> iassumption
    iexact HF
  · unfold Args; iintro ⟨H3, HA, HB, ⟨H0, H1, H2, H4⟩, HF⟩
    isplitl [HA]; · iexact HA
    isplitl [HB]; · iexact HB
    isplitr [HF]
    · isplitl [H0]; · iexact H0
      isplitl [H1]; · iexact H1
      isplitl [H2]; · iexact H2
      isplitl [H3] <;> iassumption
    iexact HF

theorem ld4 (x : Ins F) {A B Fr : sProp 𝕄} {β : Type} {Q : β → sProp 𝕄} {r : LoadRect S4096x512} {hl : x4M.view.LoadsAt r}
    {J : (r.shape.Idx → Elt F .f32) → Prog (TpuEff nD τ sig (Elt F) Λ₀ .tc) β}
    (h : iprop(A ∗ B ∗ Args me x ∗ Fr) ⊢ wpM me (J (x4M.view.readAt (Elt F) r x.x4)) Q) :
    iprop(A ∗ B ∗ Args me x ∗ Fr) ⊢ wpM me (Prog.lift (.load x4M r hl) >>= J) Q := by
  refine ld me (S := Finset.univ) (q := fullShare) (f := x.x4) (Finset.subset_univ _)
    (E' := iprop(A ∗ B ∗ ((((me : Thread nD τ).loc cc0_stg0_0) ↦{fullShare} x.x0) ∗ (((me : Thread nD τ).loc cc0_stg1_0) ↦{fullShare} x.x1) ∗ (((me : Thread nD τ).loc cc0_stg2_0) ↦{fullShare} x.x2) ∗ (((me : Thread nD τ).loc cc0_stg3_0) ↦{fullShare} x.x3)) ∗ Fr)) ?_ ?_ h
  · unfold Args; iintro ⟨HA, HB, ⟨H0, H1, H2, H3, H4⟩, HF⟩
    isplitl [H4]; · iexact H4
    isplitl [HA]; · iexact HA
    isplitl [HB]; · iexact HB
    isplitr [HF]
    · isplitl [H0]; · iexact H0
      isplitl [H1]; · iexact H1
      isplitl [H2] <;> iassumption
    iexact HF
  · unfold Args; iintro ⟨H4, HA, HB, ⟨H0, H1, H2, H3⟩, HF⟩
    isplitl [HA]; · iexact HA
    isplitl [HB]; · iexact HB
    isplitr [HF]
    · isplitl [H0]; · iexact H0
      isplitl [H1]; · iexact H1
      isplitl [H2]; · iexact H2
      isplitl [H3] <;> iassumption
    iexact HF

end Moves

/-! ## From one phase to the next -/

theorem St_start (me : Dev nD) (T : ℕ → CellTallies nD τ sig Unit) (Φ Ψ : Dev nD → sProp 𝕄) (lo hi : ℕ) :
    iprop((∃ W, owes (me : Thread nD τ) (T lo) W) ∗ bigSep (rng me lo hi) Φ) ⊢ St me T Φ Ψ lo lo hi := by
  unfold St
  rw [rng_nil me lo lo (le_refl _), bigSep_empty]
  iintro ⟨HO, H⟩
  isplitl [HO]; · iexact HO
  isplitl; · iexact H
  iempintro
theorem St_end (me : Dev nD) (T : ℕ → CellTallies nD τ sig Unit) (Φ Ψ : Dev nD → sProp 𝕄) (lo hi : ℕ) :
    St me T Φ Ψ lo hi hi ⊢ iprop((∃ W, owes (me : Thread nD τ) (T hi) W) ∗ bigSep (rng me lo hi) Ψ) := by
  unfold St
  rw [rng_nil me hi hi (le_refl _), bigSep_empty]
  iintro ⟨HO, -, H⟩
  isplitl [HO] <;> iassumption

theorem barSkip (me : Dev nD) (b d : ℕ) : (fun k => Ow me k b d) me.val = (fun k => Ow me k b d) (me.val + 1) := by
  show Ow me me.val b d = Ow me (me.val + 1) b d; unfold Ow; rw [Obar_skip]
theorem rsSkip (me : Dev nD) (d : ℕ) : (fun k => Ow me 16 k d) me.val = (fun k => Ow me 16 k d) (me.val + 1) := by
  show Ow me 16 me.val d = Ow me 16 (me.val + 1) d; unfold Ow; rw [Oxf_skip]
theorem agSkip (me : Dev nD) : (fun k => Ow me 16 16 k) me.val = (fun k => Ow me 16 16 k) (me.val + 1) := by
  show Ow me 16 16 me.val = Ow me 16 16 (me.val + 1); unfold Ow; rw [Oxf_skip 3]

end Cert.KernelIdealProof
-- ==== Proof.KernelIdealPhases.lean ====
module
public import proofs.«01_k».proof.Proof.KernelIdealMoves
@[expose] public section

set_option maxRecDepth 100000

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → AccC F) (O : OutC F)

theorem bind_part (me : Dev nD) {α β : Type} {p : Prog (TpuEff nD τ sig (Elt F) Λ₀ .tc) α} {k : α → Prog (TpuEff nD τ sig (Elt F) Λ₀ .tc) β}
    {v : α} {C C' : sProp 𝕄} {Q : β → sProp 𝕄} (hp : ∀ Q' : α → sProp 𝕄, (C' ⊢ Q' v) → C ⊢ wpM me p Q')
    (h : C' ⊢ wpM me (k v) Q) : C ⊢ wpM me (p >>= k) Q := by
  rw [wpM_bind]; exact hp _ h
/-- The same when nothing is known of the value returned. -/
theorem bind_any (me : Dev nD) {α β : Type} {p : Prog (TpuEff nD τ sig (Elt F) Λ₀ .tc) α} {k : α → Prog (TpuEff nD τ sig (Elt F) Λ₀ .tc) β}
    {C C' : sProp 𝕄} {Q : β → sProp 𝕄} (hp : ∀ Q' : α → sProp 𝕄, (∀ v, C' ⊢ Q' v) → C ⊢ wpM me p Q')
    (h : ∀ v, C' ⊢ wpM me (k v) Q) : C ⊢ wpM me (p >>= k) Q := by
  rw [wpM_bind]; exact hp _ h

theorem St_extend (me : Dev nD) (T : ℕ → CellTallies nD τ sig Unit) (Φ Ψ : Dev nD → sProp 𝕄) (lo k hi : ℕ) :
    iprop(St me T Φ Ψ lo k k ∗ bigSep (rng me k hi) Φ) ⊢ St me T Φ Ψ lo k hi := by
  unfold St
  rw [rng_nil me k k (le_refl _), bigSep_empty]
  iintro ⟨⟨HO, -, H⟩, HΦ⟩
  isplitl [HO]; · iexact HO
  isplitl [HΦ] <;> iassumption

omit [FloatOps F] in
theorem bigSep_2 {s : Finset (Dev nD)} {Φ Ψ : Dev nD → sProp 𝕄} : bigSep s (fun p => iprop(Φ p ∗ Ψ p)) = iprop(bigSep s Φ ∗ bigSep s Ψ) := bigSep_sep' ..
omit [FloatOps F] in
theorem bigSep_mn {s : Finset (Dev nD)} {Φ Ψ : Dev nD → sProp 𝕄} (h : ∀ p ∈ s, Φ p ⊢ Ψ p) : bigSep s Φ ⊢ bigSep s Ψ := bigSep_mono h
omit [FloatOps F] in
theorem bigSep_mem {s : Finset (Dev nD)} (hs : s = Finset.univ) (me : Dev nD) {Φ : Dev nD → sProp 𝕄} :
    bigSep s Φ = iprop(Φ me ∗ bigSep (rng me 0 16) Φ) := by
  subst hs
  rw [rng_all, ← bigSep_ins (Finset.notMem_erase me _), Finset.insert_erase (Finset.mem_univ me)]
omit [FloatOps F] in
theorem bigSep_cut (me : Dev nD) {a b d : ℕ} (h : a ≤ b) (h' : b ≤ d) {Φ : Dev nD → sProp 𝕄} :
    bigSep (rng me a d) Φ = iprop(bigSep (rng me a b) Φ ∗ bigSep (rng me b d) Φ) := by
  rw [rng_split me h h']; exact bigSep_union (rng_disj me a b d)

/-! ## Splitting and joining the buffers -/

abbrev accPto (c : Dev nD) (S : Finset S256x512.Idx) (f : AccC F) : sProp 𝕄 := iprop(((c : Thread nD τ).loc cc0_scratch0) ↦[S]{fullShare} f)
abbrev rcvPto (c : Dev nD) (S : Finset S16x16x512.Idx) (f : RcvC F) : sProp 𝕄 := iprop(((c : Thread nD τ).loc cc0_scratch1) ↦[S]{fullShare} f)
abbrev outPto (c : Dev nD) (S : Finset S2x128x512.Idx) (f : OutC F) : sProp 𝕄 := iprop(((c : Thread nD τ).loc cc0_stg5_0) ↦[S]{fullShare} f)

theorem acc_chunks (me : Dev nD) (T : Finset (Dev nD)) {S : Finset S256x512.Idx} (hS : T.biUnion accSet = S) (f : AccC F) :
    accPto me S f = bigSep T fun p => accPts me p f := by
  subst hS
  rw [accPto]
  refine (pointsTo_biUnion (ℓ := (me : Thread nD τ).loc cc0_scratch0) T accSet (fun i _ j _ h => accSet_disj i (Finset.mem_univ _) j (Finset.mem_univ _) h)).trans (bigSep_congr fun p _ => ?_)
  rw [accPts_eq]
theorem rcv_chunks (me : Dev nD) (f : RcvC F) : rcvPto me Finset.univ f = bigSep Finset.univ fun s => rcvPts me s f := by
  rw [rcvPto, ← rcvSet_univ]
  refine (pointsTo_biUnion (ℓ := (me : Thread nD τ).loc cc0_scratch1) Finset.univ rcvSet rcvSet_disj).trans (bigSep_congr fun p _ => ?_)
  rw [rcvPts_eq]
theorem out_chunks (me : Dev nD) (f : OutC F) : outPto me Finset.univ f = bigSep Finset.univ fun s => outPts me s fullShare f := by
  rw [outPto, ← outSet_univ]
  refine (pointsTo_biUnion (ℓ := (me : Thread nD τ).loc cc0_stg5_0) Finset.univ outSet outSet_disj).trans (bigSep_congr fun p _ => ?_)
  rw [outPts_eq]

/-- The duties of the signals, with the slots and the result chunks they hand over. -/
theorem hand_over (me : Dev nD) (f : RcvC F) (g : OutC F) :
    iprop(rcvPto me Finset.univ f ∗ outPto me Finset.univ g ∗ bigSep (rng me 0 16) (fun p => dutyTok ER (barCell p) 0 me))
      ⊢ iprop(bigSep (rng me 0 16) (sigΦ me) ∗ rcvPts me me f ∗ outPts me me fullShare g) := by
  have e : bigSep (rng me 0 16) (fun p => iprop(dutyTok ER (barCell p) 0 me ∗ rcvPts me p f ∗ outPts me p fullShare g))
      ⊢ (bigSep (rng me 0 16) (sigΦ me) : sProp 𝕄) := by
    refine bigSep_mn fun p _ => ?_
    unfold sigΦ barPay
    iintro ⟨Ht, Hr, Ho⟩
    isplitl [Ht]; · iexact Ht
    isplitl [Hr]
    · iexists f; iexact Hr
    iexists g; iexact Ho
  rw [rcv_chunks, out_chunks, bigSep_mem rfl me (Φ := fun s => rcvPts me s f), bigSep_mem rfl me (Φ := fun s => outPts me s fullShare g)]
  rw [bigSep_2, bigSep_2] at e
  iintro ⟨⟨Hr, Hrs⟩, ⟨Ho, Hos⟩, Ht⟩
  isplitl [Hrs Hos Ht]
  · iapply e
    isplitl [Ht]; · iexact Ht
    isplitl [Hrs] <;> iassumption
  isplitl [Hr] <;> iassumption

/-- The duties of sending chunk `p`, and the slot it is sent to. -/
def rsRes (me p : Dev nD) : sProp 𝕄 := iprop((dutyTok ER (dCell 0 p me) 0 0 ∗ dutyTok ER (dCell 1 me p) 0 0) ∗ ∃ f, rcvPts p me f)

abbrev loDev : Finset (Dev nD) := Finset.univ.filter fun p : Dev nD => p.val < 8
abbrev hiDev : Finset (Dev nD) := Finset.univ.filter fun p : Dev nD => 8 ≤ p.val
/-- The device's own chunk, if it is in the half named. -/
def ownIn (me : Dev nD) (T : Finset (Dev nD)) : sProp 𝕄 := bigSep (T.filter (· = me)) fun p => accPts me p (P me)

theorem acc_ready (me : Dev nD) (T : Finset (Dev nD)) {S : Finset S256x512.Idx} (hS : T.biUnion accSet = S) {lo hi : ℕ}
    (hT : T.filter (¬ · = me) = rng me lo hi) :
    iprop(accPto me S (P me) ∗ bigSep (rng me lo hi) (rsRes me)) ⊢ iprop(bigSep (rng me lo hi) (rsΦ P me) ∗ ownIn P me T) := by
  have e : bigSep (rng me lo hi) (fun p => iprop(accPts me p (P me) ∗ rsRes me p)) ⊢ (bigSep (rng me lo hi) (rsΦ P me) : sProp 𝕄) := by
    refine bigSep_mn fun p _ => ?_
    unfold rsRes rsΦ
    iintro ⟨Ha, ⟨⟨H1, H2⟩, H3⟩⟩
    isplitl [H1]; · iexact H1
    isplitl [H2]; · iexact H2
    isplitl [Ha] <;> iassumption
  have e2 : accPto me S (P me) = iprop(ownIn P me T ∗ bigSep (rng me lo hi) fun p => accPts me p (P me)) := by
    rw [acc_chunks me T hS, ownIn, ← hT]; exact bigSep_filter_split T (· = me)
  rw [e2]
  rw [bigSep_2] at e
  iintro ⟨⟨Ho, Ha⟩, Hr⟩
  isplitl [Ha Hr]
  · iapply e
    isplitl [Ha] <;> iassumption
  iexact Ho

theorem lo_rng (me : Dev nD) : loDev.filter (¬ · = me) = rng me 0 8 := by revert me; decide +kernel
theorem hi_rng (me : Dev nD) : hiDev.filter (¬ · = me) = rng me 8 16 := by revert me; decide +kernel
theorem own_union (me : Dev nD) : loDev.filter (· = me) ∪ hiDev.filter (· = me) = {me} := by revert me; decide +kernel
theorem own_disj (me : Dev nD) : Disjoint (loDev.filter (· = me)) (hiDev.filter (· = me)) := by revert me; decide +kernel

theorem own_join (me : Dev nD) : iprop(ownIn P me loDev ∗ ownIn P me hiDev) ⊢ accPts me me (P me) := by
  refine Entails.of_eq ?_
  unfold ownIn
  refine (bigSep_union (own_disj me)).symm.trans ?_
  rw [own_union, bigSep_singleton]

theorem acc_halves (me : Dev nD) (f : AccC F) : accPto me Finset.univ f = iprop(accPto me loSet f ∗ accPto me hiSet f) := by
  rw [accPto, ← lo_hi_univ];
  have h := pointsTo_union (Ix := Unit) (Val := Elt F) (Name := ℕ) (U := UU) (Lvl := ℕ) (ℓ := (me : Thread nD τ).loc cc0_scratch0) (I := loSet) (J := hiSet) (q := fullShare) (f := f) lo_hi_disj
  exact BI.Entails.antisymm h.1 h.2

/-- All chunks together again. -/
theorem acc_whole (me : Dev nD) (f : AccC F) : accPto me Finset.univ f = iprop(accPts me me f ∗ bigSep (rng me 0 16) fun p => accPts me p f) := by
  rw [acc_chunks me Finset.univ accSet_univ, bigSep_mem rfl me]

theorem rcv_whole (me : Dev nD) (f : RcvC F) : rcvPto me Finset.univ f = iprop(rcvPts me me f ∗ bigSep (rng me 0 16) fun p => rcvPts me p f) := by
  rw [rcv_chunks, bigSep_mem rfl me]
theorem out_whole (me : Dev nD) (f : OutC F) : outPto me Finset.univ f
    = iprop(outPts me me fullShare f ∗ bigSep (rng me 0 16) fun p => outPts me p fullShare f) := by
  rw [out_chunks, bigSep_mem rfl me]

/-- One share of the own result chunk for each device. -/
theorem out_leaves (me : Dev nD) (f : OutC F) : outPts me me fullShare f
    = iprop(outPts me me (lfShare me) f ∗ bigSep (rng me 0 16) fun p => outPts me me (lfShare p) f) := by
  rw [← bigSep_mem rfl me (Φ := fun p => outPts me me (lfShare p) f), outPts_eq]
  refine (ShareLeaves.pointsTo_leaves _ _ 4 fullShare).trans (bigSep_congr fun p _ => ?_)
  rw [outPts_eq]

end Cert.KernelIdealProof
-- ==== Proof.KernelIdealParts1.lean ====
module
public import proofs.«01_k».proof.Proof.KernelIdealPhases
import all proofs.«01_k».proof.Proof.Gen.KernelIdeal.Skeleton
@[expose] public section

set_option maxRecDepth 100000

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → AccC F) (O : OutC F)

set_option maxHeartbeats 8000000

variable (K : Dev nD × KI → ℕ) (me : Dev nD) (x : Ins F)

theorem ex4 {α : Type} {A B C D : sProp 𝕄} {Φ : α → sProp 𝕄} {G : sProp 𝕄} (h : ∀ f, iprop(A ∗ B ∗ C ∗ Φ f ∗ D) ⊢ G) :
    iprop(A ∗ B ∗ C ∗ (∃ f, Φ f) ∗ D) ⊢ G := by
  iintro ⟨HA, HB, HC, ⟨%f, HΦ⟩, HD⟩
  iapply (h f)
  isplitl [HA]; · iexact HA
  isplitl [HB]; · iexact HB
  isplitl [HC]; · iexact HC
  isplitl [HΦ] <;> iassumption

/-- The device's number as the kernel computes it. -/
abbrev meW : BitVec 32 := Scalar.remsi (Scalar.divsi (Dev.word me) 1#32) 16#32

/-! ## The barrier -/

/-- The first eight signals. -/
theorem part17 {Fr : sProp 𝕄} {Q} (h : iprop(records P O K ∗ St me (fun k => Ow me k 0 0) (sigΦ me) (fun _ => iprop(emp)) 0 8 16 ∗ Fr) ⊢ Q ⟨me, meW me, SemArray.scalar (sig.barrier 0 rfl)⟩) :
    iprop(records P O K ∗ St me (fun k => Ow me k 0 0) (sigΦ me) (fun _ => iprop(emp)) 0 0 16 ∗ Fr)
      ⊢ wpM me (k0_part17 (F := F) x0M x0W x1M x1W x2M x2W x3M x3W x4M x4W outM outW accM accW rcvM rcvW cc0_scratch2 cc0_scratch3 cc0_scratch4 cc0_scratch5) Q := by
  rw [k0_part17_eq_skeleton]; unfold k0_part17_skel
  refine devId me ?_
  refine step P O K me (dv 0) (Nat.zero_le _) (by decide) (by clear * - me; revert me; decide +kernel) (barSkip me 0 0)
    (fun h hk W Q' => op_signal P O K (Fin.ext k0_dev1_eq) hk 0 0 W Q') ?_
  refine step P O K me (dv 1) (Nat.zero_le _) (by decide) (by clear * - me; revert me; decide +kernel) (barSkip me 0 0)
    (fun h hk W Q' => op_signal P O K (Fin.ext k0_dev2_eq) hk 0 0 W Q') ?_
  refine step P O K me (dv 2) (Nat.zero_le _) (by decide) (by clear * - me; revert me; decide +kernel) (barSkip me 0 0)
    (fun h hk W Q' => op_signal P O K (Fin.ext k0_dev3_eq) hk 0 0 W Q') ?_
  refine step P O K me (dv 3) (Nat.zero_le _) (by decide) (by clear * - me; revert me; decide +kernel) (barSkip me 0 0)
    (fun h hk W Q' => op_signal P O K (Fin.ext k0_dev4_eq) hk 0 0 W Q') ?_
  refine step P O K me (dv 4) (Nat.zero_le _) (by decide) (by clear * - me; revert me; decide +kernel) (barSkip me 0 0)
    (fun h hk W Q' => op_signal P O K (Fin.ext k0_dev5_eq) hk 0 0 W Q') ?_
  refine step P O K me (dv 5) (Nat.zero_le _) (by decide) (by clear * - me; revert me; decide +kernel) (barSkip me 0 0)
    (fun h hk W Q' => op_signal P O K (Fin.ext k0_dev6_eq) hk 0 0 W Q') ?_
  refine step P O K me (dv 6) (Nat.zero_le _) (by decide) (by clear * - me; revert me; decide +kernel) (barSkip me 0 0)
    (fun h hk W Q' => op_signal P O K (Fin.ext k0_dev7_eq) hk 0 0 W Q') ?_
  refine step P O K me (dv 7) (Nat.zero_le _) (by decide) (by clear * - me; revert me; decide +kernel) (barSkip me 0 0)
    (fun h hk W Q' => op_signal P O K (Fin.ext k0_dev8_eq) hk 0 0 W Q') ?_
  exact wpM_pure me _ Q h

/-- The other eight, the wait for the fifteen signals to this device, and the two weight blocks. -/
theorem part18 {Fr : sProp 𝕄} {v2 Q} (h : iprop(records P O K ∗ (∃ W, owes (me : Thread nD τ) (Ow me 16 0 0) W) ∗ Args me x
      ∗ (atPos ER (barCell me) 1 ∅ 0 ∗ bigSep (rng me 0 16) (fun p => barPay me p) ∗ Fr)) ⊢ Q ⟨w55 me x, w58 me x, w59, 64#32, k0_pay3⟩) :
    iprop(records P O K ∗ St me (fun k => Ow me k 0 0) (sigΦ me) (fun _ => iprop(emp)) 0 8 16 ∗ (atPos ER (barCell me) 0 ∅ 0 ∗ cred (tallyAt (barCell me) () 15) ∗ Args me x ∗ Fr))
      ⊢ wpM me (k0_part18 (F := F) x0M x0W x1M x1W x2M x2W x3M x3W x4M x4W outM outW accM accW rcvM rcvW cc0_scratch2 cc0_scratch3 cc0_scratch4 cc0_scratch5 me v2 (SemArray.scalar (sig.barrier 0 rfl))) Q := by
  rw [k0_part18_eq_skeleton]; unfold k0_part18_skel
  refine step P O K me (dv 8) (Nat.zero_le _) (by decide) (by clear * - me; revert me; decide +kernel) (barSkip me 0 0)
    (fun h hk W Q' => op_signal P O K (Fin.ext k0_dev9_eq) hk 0 0 W Q') ?_
  refine step P O K me (dv 9) (Nat.zero_le _) (by decide) (by clear * - me; revert me; decide +kernel) (barSkip me 0 0)
    (fun h hk W Q' => op_signal P O K (Fin.ext k0_dev10_eq) hk 0 0 W Q') ?_
  refine step P O K me (dv 10) (Nat.zero_le _) (by decide) (by clear * - me; revert me; decide +kernel) (barSkip me 0 0)
    (fun h hk W Q' => op_signal P O K (Fin.ext k0_dev11_eq) hk 0 0 W Q') ?_
  refine step P O K me (dv 11) (Nat.zero_le _) (by decide) (by clear * - me; revert me; decide +kernel) (barSkip me 0 0)
    (fun h hk W Q' => op_signal P O K (Fin.ext k0_dev12_eq) hk 0 0 W Q') ?_
  refine step P O K me (dv 12) (Nat.zero_le _) (by decide) (by clear * - me; revert me; decide +kernel) (barSkip me 0 0)
    (fun h hk W Q' => op_signal P O K (Fin.ext k0_dev13_eq) hk 0 0 W Q') ?_
  refine step P O K me (dv 13) (Nat.zero_le _) (by decide) (by clear * - me; revert me; decide +kernel) (barSkip me 0 0)
    (fun h hk W Q' => op_signal P O K (Fin.ext k0_dev14_eq) hk 0 0 W Q') ?_
  refine step P O K me (dv 14) (Nat.zero_le _) (by decide) (by clear * - me; revert me; decide +kernel) (barSkip me 0 0)
    (fun h hk W Q' => op_signal P O K (Fin.ext k0_dev15_eq) hk 0 0 W Q') ?_
  refine step P O K me (dv 15) (Nat.zero_le _) (by decide) (by clear * - me; revert me; decide +kernel) (barSkip me 0 0)
    (fun h hk W Q' => op_signal P O K (Fin.ext k0_dev16_eq) hk 0 0 W Q') ?_
  refine BIBase.Entails.trans ?_ (wait_bar P O K me (Fr := iprop(Args me x ∗ Fr)) ?_)
  · iintro ⟨HR, HS, Ha, Hc, HF⟩
    ihave HS' := (St_end me (fun k => Ow me k 0 0) (sigΦ me) (fun _ => iprop(emp)) 0 16) $$ HS
    icases HS' with ⟨HO, -⟩
    isplitl [HR]; · iexact HR
    isplitl [HO]; · iexact HO
    isplitl [Ha]; · iexact Ha
    isplitl [Hc] <;> iassumption
  refine BIBase.Entails.trans ?_ (ld1 me x (A := records P O K) (B := iprop(∃ W, owes (me : Thread nD τ) (Ow me 16 0 0) W))
    (Fr := iprop(atPos ER (barCell me) 1 ∅ 0 ∗ bigSep (rng me 0 16) (fun p => barPay me p) ∗ Fr)) ?_)
  · iintro ⟨HR, HO, Ha, Hb, HA, HF⟩
    isplitl [HR]; · iexact HR
    isplitl [HO]; · iexact HO
    isplitl [HA]; · iexact HA
    isplitl [Ha]; · iexact Ha
    isplitl [Hb] <;> iassumption
  refine ld4 me x ?_
  exact wpM_pure me _ Q h

/-! ## The heads of batch 0, and the first chunks sent -/

theorem part19 {Q} {C : sProp 𝕄} (h : C ⊢ Q ⟨w83, w108⟩) :
    C ⊢ wpM me (k0_part19 (F := F) x0M x0W x1M x1W x2M x2W x3M x3W x4M x4W outM outW accM accW rcvM rcvW cc0_scratch2 cc0_scratch3 cc0_scratch4 cc0_scratch5 w59 64#32 k0_pay3) Q := by
  rw [k0_part19_eq_skeleton]; unfold k0_part19_skel
  exact wpM_pure me _ Q h

theorem part20 {A B Fr : sProp 𝕄} {Q} (h : iprop(A ∗ B ∗ Args me x ∗ Fr) ⊢ Q ⟨w109, w112 me x, w132 me x, w137 x, w140 me x⟩) :
    iprop(A ∗ B ∗ Args me x ∗ Fr) ⊢ wpM me (k0_part20 (F := F) x0M x0W x1M x1W x2M x2W x3M x3W x4M x4W outM outW accM accW rcvM rcvW cc0_scratch2 cc0_scratch3 cc0_scratch4 cc0_scratch5 (w55 me x) w83 w108) Q := by
  rw [k0_part20_eq_skeleton]; unfold k0_part20_skel
  refine ld0 me x (ld2 me x (ld3 me x (ld2 me x (ld3 me x ?_))))
  exact wpM_pure me _ Q h

theorem part21 {A B Fr : sProp 𝕄} {Q} (h : iprop(A ∗ B ∗ Args me x ∗ Fr) ⊢ Q ⟨w152 me x, w172 me x, w173 me x, w175 x⟩) :
    iprop(A ∗ B ∗ Args me x ∗ Fr) ⊢ wpM me (k0_part21 (F := F) x0M x0W x1M x1W x2M x2W x3M x3W x4M x4W outM outW accM accW rcvM rcvW cc0_scratch2 cc0_scratch3 cc0_scratch4 cc0_scratch5 w109 (w112 me x) (w137 x) (w140 me x)) Q := by
  rw [k0_part21_eq_skeleton]; unfold k0_part21_skel
  refine ld2 me x (ld3 me x (ld2 me x ?_))
  exact wpM_pure me _ Q h

/-- The batch 0 rows of the partial are stored, and their first three chunks sent. -/
theorem part22 (hP : P me = accOf me x) {Fr : sProp 𝕄} {v2 Q} (h : iprop(records P O K ∗ St me (fun k => Ow me 16 k 0) (rsΦ P me) (sentΨ 0 me) 0 3 8 ∗ Args me x ∗ (ownIn P me loDev ∗ (∃ f, accPto me hiSet f) ∗ bigSep (rng me 8 16) (rsRes me) ∗ Fr)) ⊢ Q ⟨⟩) :
    iprop(records P O K ∗ (∃ W, owes (me : Thread nD τ) (Ow me 16 0 0) W) ∗ Args me x ∗ ((∃ f, accPto me Finset.univ f) ∗ bigSep (rng me 0 16) (rsRes me) ∗ Fr))
      ⊢ wpM me (k0_part22 (F := F) x0M x0W x1M x1W x2M x2W x3M x3W x4M x4W outM outW accM accW rcvM rcvW cc0_scratch2 cc0_scratch3 cc0_scratch4 cc0_scratch5 me v2 (w58 me x) w109 (w132 me x) (w152 me x) (w172 me x) (w173 me x) (w175 x)) Q := by
  rw [k0_part22_eq_skeleton]; unfold k0_part22_skel
  refine ld3 me x ?_
  refine ex4 fun f => ?_
  refine BIBase.Entails.trans (Q := iprop(accPto me loSet f ∗ records P O K ∗ (∃ W, owes (me : Thread nD τ) (Ow me 16 0 0) W) ∗ Args me x ∗ accPto me hiSet f ∗ bigSep (rng me 0 16) (rsRes me) ∗ Fr)) ?_
    (ld me (m := accM) (S := loSet) (q := fullShare) (f := f)
    (Memref.setOn_subset_of_access_subset (c := (me : Thread nD τ)) (m := accM) (r := loR) (by rw [loM_set]))
    (E' := iprop(records P O K ∗ (∃ W, owes (me : Thread nD τ) (Ow me 16 0 0) W) ∗ Args me x ∗ accPto me hiSet f ∗ bigSep (rng me 0 16) (rsRes me) ∗ Fr)) (BI.Entails.refl _) (BI.Entails.refl _) <|
    st me (m := accM) (r := loR) (S := loSet) (f := f) (by rw [View.setOn_univ, loM_set]) (E' := iprop(records P O K ∗ (∃ W, owes (me : Thread nD τ) (Ow me 16 0 0) W) ∗ Args me x ∗ accPto me hiSet f ∗ bigSep (rng me 0 16) (rsRes me) ∗ Fr)) (BI.Entails.refl _) ?_)
  · iintro ⟨HR, HO, HA, Hacc, Hrs, HF⟩
    ihave Hacc' := (Entails.of_eq (acc_halves me f)) $$ Hacc
    icases Hacc' with ⟨Hlo, Hhi⟩
    isplitl [Hlo]; · iexact Hlo
    isplitl [HR]; · iexact HR
    isplitl [HO]; · iexact HO
    isplitl [HA]; · iexact HA
    isplitl [Hhi]; · iexact Hhi
    isplitl [Hrs] <;> iassumption
  have e : ((accM.access loR).loc (me : Thread nD τ) ↦[loSet]{fullShare} (accM.access loR).write (Elt F) f (half0 me x) Finset.univ : sProp 𝕄)
      = accPto me loSet (P me) := by rw [hP]; exact pointsTo_congr (lo_stored me x f)
  refine BIBase.Entails.trans (Q := iprop(records P O K ∗ St me (fun k => Ow me 16 k 0) (rsΦ P me) (sentΨ 0 me) 0 0 8 ∗ Args me x ∗ (ownIn P me loDev ∗ (∃ f, accPto me hiSet f) ∗ bigSep (rng me 8 16) (rsRes me) ∗ Fr))) ?_ ?_
  · refine BIBase.Entails.trans (sep_mono_l (Entails.of_eq e)) ?_
    show iprop(accPto me loSet (P me) ∗ records P O K ∗ (∃ W, owes (me : Thread nD τ) (Ow me 16 0 0) W) ∗ Args me x ∗ accPto me hiSet f ∗ bigSep (rng me 0 16) (rsRes me) ∗ Fr) ⊢ _
    iintro ⟨Hlo, HR, HO, HA, Hhi, Hrs, HF⟩
    ihave Hrs' := (Entails.of_eq (bigSep_cut me (a := 0) (b := 8) (d := 16) (by decide) (by decide))) $$ Hrs
    icases Hrs' with ⟨Hr1, Hr2⟩
    ihave H := (acc_ready P me loDev loSet_chunks (lo_rng me)) $$ [Hlo Hr1]
    · isplitl [Hlo] <;> iassumption
    icases H with ⟨HΦ, Hown⟩
    isplitl [HR]; · iexact HR
    isplitl [HO HΦ]
    · iapply (St_start me (fun k => Ow me 16 k 0) (rsΦ P me) (sentΨ 0 me) 0 8)
      isplitl [HO] <;> iassumption
    isplitl [HA]; · iexact HA
    isplitl [Hown]; · iexact Hown
    isplitl [Hhi]; · iexists f; iexact Hhi
    isplitl [Hr2] <;> iassumption
  refine step P O K me (dv 0) (Nat.zero_le _) (by decide) (by clear * - me; revert me; decide +kernel) (rsSkip me 0)
    (fun h hk W Q' => op_rsSend P O K (Fin.ext k0_dev17_eq) hk 0 rfl (k0_off4_eq me) (sem_rsSend (dv 0) _ rfl _) (sem_rsRecv me _ (k0_off3_eq me) _) W Q') ?_
  refine step P O K me (dv 1) (Nat.zero_le _) (by decide) (by clear * - me; revert me; decide +kernel) (rsSkip me 0)
    (fun h hk W Q' => op_rsSend P O K (Fin.ext k0_dev18_eq) hk 0 rfl (k0_off6_eq me) (sem_rsSend (dv 1) _ rfl _) (sem_rsRecv me _ (k0_off5_eq me) _) W Q') ?_
  refine step P O K me (dv 2) (Nat.zero_le _) (by decide) (by clear * - me; revert me; decide +kernel) (rsSkip me 0)
    (fun h hk W Q' => op_rsSend P O K (Fin.ext k0_dev19_eq) hk 0 rfl (k0_off8_eq me) (sem_rsSend (dv 2) _ rfl _) (sem_rsRecv me _ (k0_off7_eq me) _) W Q') ?_
  exact wpM_pure me _ Q h

end Cert.KernelIdealProof
-- ==== Proof.KernelIdealParts2.lean ====
module
public import proofs.«01_k».proof.Proof.KernelIdealPhases
import all proofs.«01_k».proof.Proof.Gen.KernelIdeal.Skeleton
@[expose] public section

set_option maxRecDepth 100000

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → AccC F) (O : OutC F)

set_option maxHeartbeats 8000000

variable (K : Dev nD × KI → ℕ) (me : Dev nD) (x : Ins F)

/-! ## The heads of batch 1, and the other chunks sent -/

theorem part23 {Fr : sProp 𝕄} {v2 Q} (h : iprop(records P O K ∗ St me (fun k => Ow me 16 k 0) (rsΦ P me) (sentΨ 0 me) 0 8 8 ∗ Args me x ∗ Fr) ⊢ Q ⟨w224 me x, w229 x, w234 me x, w236 me x⟩) :
    iprop(records P O K ∗ St me (fun k => Ow me 16 k 0) (rsΦ P me) (sentΨ 0 me) 0 3 8 ∗ Args me x ∗ Fr)
      ⊢ wpM me (k0_part23 (F := F) x0M x0W x1M x1W x2M x2W x3M x3W x4M x4W outM outW accM accW rcvM rcvW cc0_scratch2 cc0_scratch3 cc0_scratch4 cc0_scratch5 me v2 (w55 me x) w109) Q := by
  rw [k0_part23_eq_skeleton]; unfold k0_part23_skel
  refine step P O K me (dv 3) (Nat.zero_le _) (by decide) (by clear * - me; revert me; decide +kernel) (rsSkip me 0)
    (fun h hk W Q' => op_rsSend P O K (Fin.ext k0_dev20_eq) hk 0 rfl (k0_off10_eq me) (sem_rsSend (dv 3) _ rfl _) (sem_rsRecv me _ (k0_off9_eq me) _) W Q') ?_
  refine step P O K me (dv 4) (Nat.zero_le _) (by decide) (by clear * - me; revert me; decide +kernel) (rsSkip me 0)
    (fun h hk W Q' => op_rsSend P O K (Fin.ext k0_dev21_eq) hk 0 rfl (k0_off12_eq me) (sem_rsSend (dv 4) _ rfl _) (sem_rsRecv me _ (k0_off11_eq me) _) W Q') ?_
  refine step P O K me (dv 5) (Nat.zero_le _) (by decide) (by clear * - me; revert me; decide +kernel) (rsSkip me 0)
    (fun h hk W Q' => op_rsSend P O K (Fin.ext k0_dev22_eq) hk 0 rfl (k0_off14_eq me) (sem_rsSend (dv 5) _ rfl _) (sem_rsRecv me _ (k0_off13_eq me) _) W Q') ?_
  refine step P O K me (dv 6) (Nat.zero_le _) (by decide) (by clear * - me; revert me; decide +kernel) (rsSkip me 0)
    (fun h hk W Q' => op_rsSend P O K (Fin.ext k0_dev23_eq) hk 0 rfl (k0_off16_eq me) (sem_rsSend (dv 6) _ rfl _) (sem_rsRecv me _ (k0_off15_eq me) _) W Q') ?_
  refine step P O K me (dv 7) (Nat.zero_le _) (by decide) (by clear * - me; revert me; decide +kernel) (rsSkip me 0)
    (fun h hk W Q' => op_rsSend P O K (Fin.ext k0_dev24_eq) hk 0 rfl (k0_off18_eq me) (sem_rsSend (dv 7) _ rfl _) (sem_rsRecv me _ (k0_off17_eq me) _) W Q') ?_
  refine ld0 me x (ld2 me x (ld3 me x ?_))
  exact wpM_pure me _ Q h

theorem part24 {A B Fr : sProp 𝕄} {Q} (h : iprop(A ∗ B ∗ Args me x ∗ Fr) ⊢ Q ⟨w244 me x, w264 me x, w269 x, w270 me x, Scalar.ofBits .f32 0x3E000000#32⟩) :
    iprop(A ∗ B ∗ Args me x ∗ Fr) ⊢ wpM me (k0_part24 (F := F) x0M x0W x1M x1W x2M x2W x3M x3W x4M x4W outM outW accM accW rcvM rcvW cc0_scratch2 cc0_scratch3 cc0_scratch4 cc0_scratch5 w109 (w224 me x) (w229 x) (w234 me x) (w236 me x)) Q := by
  rw [k0_part24_eq_skeleton]; unfold k0_part24_skel
  refine ld2 me x (ld3 me x (ld2 me x (ld3 me x ?_)))
  exact wpM_pure me _ Q h

theorem ex5 {α : Type} {A B C D E : sProp 𝕄} {Φ : α → sProp 𝕄} {G : sProp 𝕄} (h : ∀ f, iprop(Φ f ∗ A ∗ B ∗ C ∗ D ∗ E) ⊢ G) :
    iprop(A ∗ B ∗ C ∗ D ∗ (∃ f, Φ f) ∗ E) ⊢ G := by
  iintro ⟨HA, HB, HC, HD, ⟨%f, HΦ⟩, HE⟩
  iapply (h f)
  isplitl [HΦ]; · iexact HΦ
  isplitl [HA]; · iexact HA
  isplitl [HB]; · iexact HB
  isplitl [HC]; · iexact HC
  isplitl [HD] <;> iassumption
theorem ex5_back {α : Type} {A B C D E : sProp 𝕄} {Φ : α → sProp 𝕄} {G : sProp 𝕄} (h : iprop(A ∗ B ∗ C ∗ D ∗ (∃ f, Φ f) ∗ E) ⊢ G) (f : α) :
    iprop(Φ f ∗ A ∗ B ∗ C ∗ D ∗ E) ⊢ G := by
  refine BIBase.Entails.trans ?_ h
  iintro ⟨HΦ, HA, HB, HC, HD, HE⟩
  isplitl [HA]; · iexact HA
  isplitl [HB]; · iexact HB
  isplitl [HC]; · iexact HC
  isplitl [HD]; · iexact HD
  isplitl [HΦ]
  · iexists f; iexact HΦ
  iexact HE

theorem part25 {A B C Fr : sProp 𝕄} {Q} (h : iprop(A ∗ B ∗ Args me x ∗ (C ∗ (∃ f, accPto me hiSet f) ∗ Fr)) ⊢ Q (half1 me x)) :
    iprop(A ∗ B ∗ Args me x ∗ (C ∗ (∃ f, accPto me hiSet f) ∗ Fr)) ⊢ wpM me (k0_part25 (F := F) x0M x0W x1M x1W x2M x2W x3M x3W x4M x4W outM outW accM accW rcvM rcvW cc0_scratch2 cc0_scratch3 cc0_scratch4 cc0_scratch5 (w58 me x) w109 (w224 me x) (w244 me x) (w264 me x) (w269 x) (w270 me x) (Scalar.ofBits .f32 0x3E000000#32)) Q := by
  rw [k0_part25_eq_skeleton]; unfold k0_part25_skel
  refine ld2 me x (ld3 me x ?_)
  refine ex5 fun f => ?_
  refine ld me (m := accM) (S := hiSet) (q := fullShare) (f := f)
    (Memref.setOn_subset_of_access_subset (c := (me : Thread nD τ)) (m := accM) (r := hiR) (by rw [hiM_set]))
    (E' := iprop(A ∗ B ∗ Args me x ∗ C ∗ Fr)) (BI.Entails.refl _) (BI.Entails.refl _) ?_
  exact wpM_pure me _ Q (ex5_back h f)

/-- The batch 1 rows are stored, and the last eight chunks sent. -/
theorem part26 (hP : P me = accOf me x) {Fr : sProp 𝕄} {v2 Q} (h : iprop(records P O K ∗ St me (fun k => Ow me 16 k 0) (rsΦ P me) (sentΨ 0 me) 0 16 16 ∗ (accPts me me (P me) ∗ Args me x ∗ Fr)) ⊢ Q ⟨⟩) :
    iprop(records P O K ∗ St me (fun k => Ow me 16 k 0) (rsΦ P me) (sentΨ 0 me) 0 8 8 ∗ Args me x ∗ (ownIn P me loDev ∗ (∃ f, accPto me hiSet f) ∗ (bigSep (rng me 8 16) (rsRes me) ∗ Fr)))
      ⊢ wpM me (k0_part26 (F := F) x0M x0W x1M x1W x2M x2W x3M x3W x4M x4W outM outW accM accW rcvM rcvW cc0_scratch2 cc0_scratch3 cc0_scratch4 cc0_scratch5 me v2 (half1 me x)) Q := by
  rw [k0_part26_eq_skeleton]; unfold k0_part26_skel
  refine ex5 fun f => ?_
  refine st me (m := accM) (r := hiR) (S := hiSet) (f := f) (by rw [View.setOn_univ, hiM_set]) (E' := iprop(records P O K ∗ St me (fun k => Ow me 16 k 0) (rsΦ P me) (sentΨ 0 me) 0 8 8 ∗ Args me x ∗ ownIn P me loDev ∗ (bigSep (rng me 8 16) (rsRes me) ∗ Fr))) (BI.Entails.refl _) ?_
  have e : ((accM.access hiR).loc (me : Thread nD τ) ↦[hiSet]{fullShare} (accM.access hiR).write (Elt F) f (half1 me x) Finset.univ : sProp 𝕄)
      = accPto me hiSet (P me) := by rw [hP]; exact pointsTo_congr (hi_stored me x f)
  refine BIBase.Entails.trans (Q := iprop(records P O K ∗ St me (fun k => Ow me 16 k 0) (rsΦ P me) (sentΨ 0 me) 0 8 16 ∗ (accPts me me (P me) ∗ Args me x ∗ Fr))) ?_ ?_
  · refine BIBase.Entails.trans (sep_mono_l (Entails.of_eq e)) ?_
    show iprop(accPto me hiSet (P me) ∗ records P O K ∗ St me (fun k => Ow me 16 k 0) (rsΦ P me) (sentΨ 0 me) 0 8 8 ∗ Args me x ∗ ownIn P me loDev ∗ (bigSep (rng me 8 16) (rsRes me) ∗ Fr)) ⊢ _
    iintro ⟨Hhi, HR, HS, HA, Ho, Hr, HF⟩
    ihave H := (acc_ready P me hiDev hiSet_chunks (hi_rng me)) $$ [Hhi Hr]
    · isplitl [Hhi] <;> iassumption
    icases H with ⟨HΦ, Hown⟩
    isplitl [HR]; · iexact HR
    isplitl [HS HΦ]
    · iapply (St_extend me (fun k => Ow me 16 k 0) (rsΦ P me) (sentΨ 0 me) 0 8 16)
      isplitl [HS] <;> iassumption
    isplitl [Ho Hown]
    · iapply (own_join P me)
      isplitl [Ho] <;> iassumption
    isplitl [HA] <;> iassumption
  refine step P O K me (dv 8) (Nat.zero_le _) (by decide) (by clear * - me; revert me; decide +kernel) (rsSkip me 0)
    (fun h hk W Q' => op_rsSend P O K (Fin.ext k0_dev25_eq) hk 0 rfl (k0_off20_eq me) (sem_rsSend (dv 8) _ rfl _) (sem_rsRecv me _ (k0_off19_eq me) _) W Q') ?_
  refine step P O K me (dv 9) (Nat.zero_le _) (by decide) (by clear * - me; revert me; decide +kernel) (rsSkip me 0)
    (fun h hk W Q' => op_rsSend P O K (Fin.ext k0_dev26_eq) hk 0 rfl (k0_off22_eq me) (sem_rsSend (dv 9) _ rfl _) (sem_rsRecv me _ (k0_off21_eq me) _) W Q') ?_
  refine step P O K me (dv 10) (Nat.zero_le _) (by decide) (by clear * - me; revert me; decide +kernel) (rsSkip me 0)
    (fun h hk W Q' => op_rsSend P O K (Fin.ext k0_dev27_eq) hk 0 rfl (k0_off24_eq me) (sem_rsSend (dv 10) _ rfl _) (sem_rsRecv me _ (k0_off23_eq me) _) W Q') ?_
  refine step P O K me (dv 11) (Nat.zero_le _) (by decide) (by clear * - me; revert me; decide +kernel) (rsSkip me 0)
    (fun h hk W Q' => op_rsSend P O K (Fin.ext k0_dev28_eq) hk 0 rfl (k0_off26_eq me) (sem_rsSend (dv 11) _ rfl _) (sem_rsRecv me _ (k0_off25_eq me) _) W Q') ?_
  refine step P O K me (dv 12) (Nat.zero_le _) (by decide) (by clear * - me; revert me; decide +kernel) (rsSkip me 0)
    (fun h hk W Q' => op_rsSend P O K (Fin.ext k0_dev29_eq) hk 0 rfl (k0_off28_eq me) (sem_rsSend (dv 12) _ rfl _) (sem_rsRecv me _ (k0_off27_eq me) _) W Q') ?_
  refine step P O K me (dv 13) (Nat.zero_le _) (by decide) (by clear * - me; revert me; decide +kernel) (rsSkip me 0)
    (fun h hk W Q' => op_rsSend P O K (Fin.ext k0_dev30_eq) hk 0 rfl (k0_off30_eq me) (sem_rsSend (dv 13) _ rfl _) (sem_rsRecv me _ (k0_off29_eq me) _) W Q') ?_
  refine step P O K me (dv 14) (Nat.zero_le _) (by decide) (by clear * - me; revert me; decide +kernel) (rsSkip me 0)
    (fun h hk W Q' => op_rsSend P O K (Fin.ext k0_dev31_eq) hk 0 rfl (k0_off32_eq me) (sem_rsSend (dv 14) _ rfl _) (sem_rsRecv me _ (k0_off31_eq me) _) W Q') ?_
  refine step P O K me (dv 15) (Nat.zero_le _) (by decide) (by clear * - me; revert me; decide +kernel) (rsSkip me 0)
    (fun h hk W Q' => op_rsSend P O K (Fin.ext k0_dev32_eq) hk 0 rfl (k0_off34_eq me) (sem_rsSend (dv 15) _ rfl _) (sem_rsRecv me _ (k0_off33_eq me) _) W Q') ?_
  exact wpM_pure me _ Q h

end Cert.KernelIdealProof
-- ==== Proof.KernelIdealWaits.lean ====
module
public import proofs.«01_k».proof.Proof.KernelIdealPhases
import all proofs.«01_k».proof.Proof.Gen.KernelIdeal.Skeleton
@[expose] public section

set_option maxRecDepth 100000

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → AccC F) (O : OutC F)

/-! ## Facts used by the waits -/

theorem lvs_rs (k : Dev nD) : lvs (.dma (dsem 1 k)) ≤ 2 := le_of_eq (lv_rs k k ())
theorem lvs_le (sm : SemLoc sig) : lvs sm ≤ 3 := by
  unfold lvs; split
  · decide
  · split
    · decide
    · split <;> decide
theorem Ow_none (me : Dev nD) (g : GSem nD τ sig) (u : Unit) (h : 0 < Ow me 16 16 16 g u) : g.1.2 = .tc ∧ 3 < lvs g.2 := by
  rw [Ow_done] at h; exact absurd h (Nat.lt_irrefl 0)

theorem then_pure (me : Dev nD) {p : Prog (TpuEff nD τ sig (Elt F) Λ₀ .tc) PUnit} {E Y : sProp 𝕄}
    (h : ∀ Q'' : PUnit → sProp 𝕄, E ⊢ iprop((Y -∗ Q'' ⟨⟩) -∗ wpM me p Q'')) (Q' : PUnit → sProp 𝕄) :
    E ⊢ iprop((Y -∗ Q' ⟨⟩) -∗ wpM me (p >>= fun _ => pure ⟨⟩) Q') := by
  rw [wpM_bind]
  iintro HE Hk
  iapply (h (fun _ => wpM me (pure ⟨⟩) Q')) $$ HE
  iintro HY
  iapply (wpM_pure me (⟨⟩ : PUnit) Q' (BI.Entails.refl _))
  iapply Hk; iexact HY

theorem acc_access (me : Dev nD) {o : Fin 2 → ℕ} (h : o = ![16 * me.val, 0]) (i : ∀ a, o a + S16x512.size a ≤ S256x512.size a) :
    (accM.access (Rect.unit (s := S256x512) o S16x512.size i)).set = accSet me := by subst h; exact accV_set me
theorem rcv_access (me : Dev nD) {o : Fin 3 → ℕ} (h : o = ![me.val, 0, 0]) (i : ∀ a, o a + S1x16x512.size a ≤ S16x16x512.size a) :
    (rcvM.access (Rect.unit (s := S16x16x512) o S1x16x512.size i)).set = rcvSet me := by
  subst h
  exact (View.set_reshape ((View.whole cc0_scratch1).slice (Rect.unit (s := S16x16x512) ![me.val, 0, 0] S1x16x512.size (rcvInb me))) _).symm.trans (rcvV_set me)
theorem out_access (me : Dev nD) {o : Fin 3 → ℕ} (h : o = ![me.val / 8, me.val % 8 * 16, 0]) (i : ∀ a, o a + S1x16x512.size a ≤ S2x128x512.size a) :
    (outM.access (Rect.unit (s := S2x128x512) o S1x16x512.size i)).set = outSet me := by
  subst h
  exact (View.set_reshape ((View.whole cc0_stg5_0).slice (Rect.unit (s := S2x128x512) ![me.val / 8, me.val % 8 * 16, 0] S1x16x512.size (outInb me))) _).symm.trans (outV_set me)

/-- When the last of one kind of wait is over, the next kind begins. -/
theorem turn (K : Dev nD × KI → ℕ) (me : Dev nD) {T : CellTallies nD τ sig Unit} {Φ Ψ Φ' Ψ' : Dev nD → sProp 𝕄} {Fr G : sProp 𝕄}
    (h : iprop(records P O K ∗ St me (fun _ => T) Φ' Ψ' 0 0 16 ∗ (bigSep (rng me 0 16) Ψ ∗ Fr)) ⊢ G) :
    iprop(records P O K ∗ St me (fun _ => T) Φ Ψ 0 16 16 ∗ (bigSep (rng me 0 16) Φ' ∗ Fr)) ⊢ G := by
  refine BIBase.Entails.trans ?_ h
  iintro ⟨HR, HS, HΦ, HF⟩
  ihave HS' := (St_end me (fun _ => T) Φ Ψ 0 16) $$ HS
  icases HS' with ⟨HO, HΨ⟩
  isplitl [HR]; · iexact HR
  isplitl [HO HΦ]
  · iapply (St_start me (fun _ => T) Φ' Ψ' 0 16)
    isplitl [HO] <;> iassumption
  isplitl [HΨ] <;> iassumption

end Cert.KernelIdealProof
-- ==== Proof.KernelIdealParts3.lean ====
module
public import proofs.«01_k».proof.Proof.KernelIdealPhases
public import proofs.«01_k».proof.Proof.KernelIdealParts1
public import proofs.«01_k».proof.Proof.KernelIdealWaits
import all proofs.«01_k».proof.Proof.Gen.KernelIdeal.Skeleton
@[expose] public section

set_option maxRecDepth 100000

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → AccC F) (O : OutC F)

set_option maxHeartbeats 8000000

variable (K : Dev nD × KI → ℕ) (me : Dev nD) (x : Ins F)

/-! ## The sum -/

omit [FloatOps F] in
theorem ex1 {α : Type} {B : sProp 𝕄} {Φ : α → sProp 𝕄} {G : sProp 𝕄} (h : ∀ f, iprop(Φ f ∗ B) ⊢ G) : iprop((∃ f, Φ f) ∗ B) ⊢ G := by
  iintro ⟨⟨%f, HΦ⟩, HB⟩
  iapply (h f)
  isplitl [HΦ] <;> iassumption
omit [FloatOps F] in
theorem swap2 (A B C : sProp 𝕄) : iprop(A ∗ B ∗ C) ⊢ iprop(B ∗ A ∗ C) := by
  iintro ⟨HA, HB, HC⟩
  isplitl [HB]; · iexact HB
  isplitl [HA] <;> iassumption

/-- The device's own chunk goes to its own slot; the first eight slots are waited for. -/
theorem part27 {Fr : sProp 𝕄} {Q} (h : ∀ v, v = Scalar.extui (Scalar.cmpi .ne (meW me) 8#32) → iprop(records P O K ∗ St me (fun _ => Ow me 16 16 0) (waitΦ 1 me) (waitΨ P O 1 me) 0 8 16 ∗ (accPts me me (P me) ∗ rcvPts me me (rcvAll P me) ∗ Fr)) ⊢ Q v) :
    iprop((∃ f, rcvPts me me f) ∗ accPts me me (P me) ∗ records P O K ∗ (∃ W, owes (me : Thread nD τ) (Ow me 16 16 0) W) ∗ bigSep (rng me 0 16) (waitΦ 1 me) ∗ Fr)
      ⊢ wpM me (k0_part27 (F := F) x0M x0W x1M x1W x2M x2W x3M x3W x4M x4W outM outW accM accW rcvM rcvW cc0_scratch2 cc0_scratch3 cc0_scratch4 cc0_scratch5 me (meW me)) Q := by
  rw [k0_part27_eq_skeleton]; unfold k0_part27_skel
  refine ex1 fun f => ?_
  rw [accPts_eq, rcvPts_eq]
  refine ld me (m := accM) (S := accSet me) (q := fullShare) (f := P me)
    (Memref.setOn_subset_of_access_subset (c := (me : Thread nD τ)) (m := accM) (r := Rect.unit (s := S256x512) (k0_off35 me) S16x512.size (k0_off35_inb me)) (by rw [acc_access me (k0_off35_eq me)]))
    (E' := iprop(rcvPto me (rcvSet me) f ∗ records P O K ∗ (∃ W, owes (me : Thread nD τ) (Ow me 16 16 0) W) ∗ bigSep (rng me 0 16) (waitΦ 1 me) ∗ Fr)) (swap2 _ _ _) (swap2 _ _ _) ?_
  refine ld me (m := rcvM) (S := rcvSet me) (q := fullShare) (f := f)
    (Memref.setOn_subset_of_access_subset (c := (me : Thread nD τ)) (m := rcvM) (r := Rect.unit (s := S16x16x512) (k0_off36 me) S1x16x512.size (k0_off36_inb me)) (by rw [rcv_access me (k0_off36_eq me)]))
    (E' := iprop(accPto me (accSet me) (P me) ∗ records P O K ∗ (∃ W, owes (me : Thread nD τ) (Ow me 16 16 0) W) ∗ bigSep (rng me 0 16) (waitΦ 1 me) ∗ Fr)) (BI.Entails.refl _) (BI.Entails.refl _) ?_
  refine st me (m := rcvM) (r := Rect.unit (s := S16x16x512) (k0_off36 me) S1x16x512.size (k0_off36_inb me)) (S := rcvSet me) (f := f) (by rw [View.setOn_univ, rcv_access me (k0_off36_eq me)])
    (E' := iprop(accPto me (accSet me) (P me) ∗ records P O K ∗ (∃ W, owes (me : Thread nD τ) (Ow me 16 16 0) W) ∗ bigSep (rng me 0 16) (waitΦ 1 me) ∗ Fr)) (BI.Entails.refl _) ?_
  refine BIBase.Entails.trans (Q := iprop(records P O K ∗ St me (fun _ => Ow me 16 16 0) (waitΦ 1 me) (waitΨ P O 1 me) 0 0 16 ∗ (accPts me me (P me) ∗ rcvPts me me (rcvAll P me) ∗ Fr))) ?_ ?_
  · refine BIBase.Entails.trans (sep_mono_l (Entails.of_eq (pointsTo_congr (own_stored P me f (k0_off35_eq me) _ (k0_off36_eq me) _)))) ?_
    show iprop(rcvPto me (rcvSet me) (rcvAll P me) ∗ accPto me (accSet me) (P me) ∗ records P O K ∗ (∃ W, owes (me : Thread nD τ) (Ow me 16 16 0) W) ∗ bigSep (rng me 0 16) (waitΦ 1 me) ∗ Fr) ⊢ _
    rw [rcvPts_eq, accPts_eq]
    iintro ⟨Hr, Ha, HR, HO, HΦ, HF⟩
    isplitl [HR]; · iexact HR
    isplitl [HO HΦ]
    · iapply (St_start me (fun _ => Ow me 16 16 0) (waitΦ 1 me) (waitΨ P O 1 me) 0 16)
      isplitl [HO] <;> iassumption
    isplitl [Ha]; · iexact Ha
    isplitl [Hr] <;> iassumption
  refine step P O K me (dv 0) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 0) _ rfl _) W Q') ?_
  refine step P O K me (dv 1) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 1) _ rfl _) W Q') ?_
  refine step P O K me (dv 2) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 2) _ rfl _) W Q') ?_
  refine step P O K me (dv 3) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 3) _ rfl _) W Q') ?_
  refine step P O K me (dv 4) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 4) _ rfl _) W Q') ?_
  refine step P O K me (dv 5) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 5) _ rfl _) W Q') ?_
  refine step P O K me (dv 6) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 6) _ rfl _) W Q') ?_
  refine step P O K me (dv 7) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 7) _ rfl _) W Q') ?_
  exact wpM_pure me _ Q (h _ rfl)

/-- The other eight are waited for, and the sixteen are read. -/
theorem part28 {Fr : sProp 𝕄} {Q} (h : ∀ c d e, iprop(records P O K ∗ ((∃ W, owes (me : Thread nD τ) (Ow me 16 16 0) W) ∗ accPts me me (P me) ∗ rcvPto me Finset.univ (rcvAll P me) ∗ bigSep (rng me 0 16) (fun i => atPos ER (dCell 1 i me) 1 ∅ 0) ∗ Fr)) ⊢ Q ⟨chunkOf P me, c, d, e⟩) :
    iprop(records P O K ∗ St me (fun _ => Ow me 16 16 0) (waitΦ 1 me) (waitΨ P O 1 me) 0 8 16 ∗ (accPts me me (P me) ∗ rcvPts me me (rcvAll P me) ∗ Fr))
      ⊢ wpM me (k0_part28 (F := F) x0M x0W x1M x1W x2M x2W x3M x3W x4M x4W outM outW accM accW rcvM rcvW cc0_scratch2 cc0_scratch3 cc0_scratch4 cc0_scratch5 (meW me) (Scalar.extui (Scalar.cmpi .ne (meW me) 8#32))) Q := by
  rw [k0_part28_eq_skeleton]; unfold k0_part28_skel
  refine step P O K me (dv 8) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 8) _ rfl _) W Q') ?_
  refine step P O K me (dv 9) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 9) _ rfl _) W Q') ?_
  refine step P O K me (dv 10) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 10) _ rfl _) W Q') ?_
  refine step P O K me (dv 11) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 11) _ rfl _) W Q') ?_
  refine step P O K me (dv 12) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 12) _ rfl _) W Q') ?_
  refine step P O K me (dv 13) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 13) _ rfl _) W Q') ?_
  refine step P O K me (dv 14) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 14) _ rfl _) W Q') ?_
  refine step P O K me (dv 15) (Nat.zero_le _) (by decide) (by clear * - me; revert me; decide +kernel) rfl
    (fun h hk W Q' => op_wait P O K 1 hk (fun _ => Ow me 16 16 0) rfl 2 (lvs_rs _) (Ow_levels2 me 0) (by rfl) (sem_rsRecv (dv 15) _ rfl _) W Q') ?_
  refine BIBase.Entails.trans (Q := iprop(rcvPto me Finset.univ (rcvAll P me) ∗ records P O K ∗ (∃ W, owes (me : Thread nD τ) (Ow me 16 16 0) W) ∗ accPts me me (P me) ∗ bigSep (rng me 0 16) (fun i => atPos ER (dCell 1 i me) 1 ∅ 0) ∗ Fr)) ?_ ?_
  · have e : bigSep (rng me 0 16) (waitΨ P O 1 me) = iprop(bigSep (rng me 0 16) (fun i => atPos ER (dCell 1 i me) 1 ∅ 0)
        ∗ bigSep (rng me 0 16) fun i => rcvPts me i (rcvAll P me)) := bigSep_2
    iintro ⟨HR, HS, Ha, Hr, HF⟩
    ihave HS' := (St_end me (fun _ => Ow me 16 16 0) (waitΦ 1 me) (waitΨ P O 1 me) 0 16) $$ HS
    icases HS' with ⟨HO, HΨ⟩
    ihave HΨ' := (Entails.of_eq e) $$ HΨ
    icases HΨ' with ⟨Hp, Hrs⟩
    isplitl [Hr Hrs]
    · iapply (Entails.of_eq (rcv_whole me (rcvAll P me)).symm)
      isplitl [Hr] <;> iassumption
    isplitl [HR]; · iexact HR
    isplitl [HO]; · iexact HO
    isplitl [Ha]; · iexact Ha
    isplitl [Hp] <;> iassumption
  refine ld me (m := rcvM) (S := Finset.univ) (q := fullShare) (f := rcvAll P me) (Finset.subset_univ _)
    (E' := iprop(records P O K ∗ (∃ W, owes (me : Thread nD τ) (Ow me 16 16 0) W) ∗ accPts me me (P me) ∗ bigSep (rng me 0 16) (fun i => atPos ER (dCell 1 i me) 1 ∅ 0) ∗ Fr)) (BI.Entails.refl _) (BI.Entails.refl _) ?_
  have e : chunkOf P me = k0_pay26 (rcvM.view.readAt (Elt F) (Rect.unit (s := S16x16x512) ![0, 0, 0] S16x16x512.size inb_S16x16x512_S16x16x512_0_0_0).toLoadRect (rcvAll P me)) :=
    congrArg k0_pay26 (Memref.readAt_unit_zero (Elt F) cc0_scratch1 (by funext a; fin_cases a <;> rfl) _ _).symm
  rw [e] at h
  refine wpM_pure me _ Q (BIBase.Entails.trans ?_ (h _ _ _))
  iintro ⟨Hr, HR, HO, Ha, Hp, HF⟩
  isplitl [HR]; · iexact HR
  isplitl [HO]; · iexact HO
  isplitl [Ha]; · iexact Ha
  isplitl [Hr]; · iexact Hr
  isplitl [Hp] <;> iassumption

/-- The sum goes to the device's chunk of the result. -/
theorem part29 {Fr : sProp 𝕄} {v2 c d e Q} (h : ∀ v, iprop(outPts me me fullShare (outOf P) ∗ Fr) ⊢ Q v) :
    iprop((∃ f, outPts me me fullShare f) ∗ Fr)
      ⊢ wpM me (k0_part29 (F := F) x0M x0W x1M x1W x2M x2W x3M x3W x4M x4W outM outW accM accW rcvM rcvW cc0_scratch2 cc0_scratch3 cc0_scratch4 cc0_scratch5 me v2 (chunkOf P me) c d e) Q := by
  rw [k0_part29_eq_skeleton]; unfold k0_part29_skel
  have h37 : k0_off37 me = ![me.val / 8, me.val % 8 * 16, 0] := by clear * - me; revert me; decide +kernel
  refine ex1 fun f => ?_
  rw [outPts_eq]
  refine ld me (m := outM) (S := outSet me) (q := fullShare) (f := f)
    (Memref.setOn_subset_of_access_subset (c := (me : Thread nD τ)) (m := outM) (r := Rect.unit (s := S2x128x512) (k0_off37 me) S1x16x512.size (k0_off37_inb me)) (by rw [out_access me h37]))
    (E' := Fr) (BI.Entails.refl _) (BI.Entails.refl _) ?_
  refine st me (m := outM) (r := Rect.unit (s := S2x128x512) (k0_off37 me) S1x16x512.size (k0_off37_inb me)) (S := outSet me) (f := f) (by rw [View.setOn_univ, out_access me h37]) (E' := Fr) (BI.Entails.refl _) ?_
  refine wpM_pure me _ Q (BIBase.Entails.trans ?_ (h _))
  rw [outPts_eq]
  exact sep_mono_l (Entails.of_eq (pointsTo_congr (out_stored P me f h37 _)))

end Cert.KernelIdealProof
-- ==== Proof.KernelIdealParts4.lean ====
module
public import proofs.«01_k».proof.Proof.KernelIdealPhases
public import proofs.«01_k».proof.Proof.KernelIdealParts1
import all proofs.«01_k».proof.Proof.Gen.KernelIdeal.Skeleton
@[expose] public section

set_option maxRecDepth 100000

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → AccC F) (O : OutC F)

set_option maxHeartbeats 8000000

variable (K : Dev nD × KI → ℕ) (me : Dev nD) (x : Ins F)

/-! ## The result chunks sent -/

theorem part30 {v2 v424 v435 v437} {C : sProp 𝕄} {Q} (h : ∀ v, C ⊢ Q v) :
    C ⊢ wpM me (k0_part30 (F := F) x0M x0W x1M x1W x2M x2W x3M x3W x4M x4W outM outW accM accW rcvM rcvW cc0_scratch2 cc0_scratch3 cc0_scratch4 cc0_scratch5 v2 v424 v435 v437) Q := by
  rw [k0_part30_eq_skeleton]; unfold k0_part30_skel
  exact wpM_pure me _ Q (h _)

theorem part31 {v2 v470 v471 v476} {Fr : sProp 𝕄} {Q} (h : ∀ v, iprop(records P O K ∗ St me (fun k => Ow me 16 16 k) (agΦ O me) (sentΨ 2 me) 0 1 16 ∗ Fr) ⊢ Q v) :
    iprop(records P O K ∗ St me (fun k => Ow me 16 16 k) (agΦ O me) (sentΨ 2 me) 0 0 16 ∗ Fr)
      ⊢ wpM me (k0_part31 (F := F) x0M x0W x1M x1W x2M x2W x3M x3W x4M x4W outM outW accM accW rcvM rcvW cc0_scratch2 cc0_scratch3 cc0_scratch4 cc0_scratch5 me v2 v470 v471 v476) Q := by
  rw [k0_part31_eq_skeleton]; unfold k0_part31_skel
  refine step P O K me (dv 0) (Nat.zero_le _) (by decide) (by clear * - me; revert me; decide +kernel) (agSkip me)
    (fun h hk W Q' => op_agSend P O K (Fin.ext k0_dev33_eq) hk (by clear * - me; revert me; decide +kernel) (by clear * - me; revert me; decide +kernel)
      (sem_agSend (dv 0) _ rfl _) (sem_agRecv me _ (k0_off38_eq me) _) W Q') ?_
  exact wpM_pure me _ Q (h _)

theorem part32 {v2 c8_i32_301 v511 v513 v514} {Fr : sProp 𝕄} {Q} (h : ∀ v, iprop(records P O K ∗ St me (fun k => Ow me 16 16 k) (agΦ O me) (sentΨ 2 me) 0 2 16 ∗ Fr) ⊢ Q v) :
    iprop(records P O K ∗ St me (fun k => Ow me 16 16 k) (agΦ O me) (sentΨ 2 me) 0 1 16 ∗ Fr)
      ⊢ wpM me (k0_part32 (F := F) x0M x0W x1M x1W x2M x2W x3M x3W x4M x4W outM outW accM accW rcvM rcvW cc0_scratch2 cc0_scratch3 cc0_scratch4 cc0_scratch5 me v2 c8_i32_301 v511 v513 v514) Q := by
  rw [k0_part32_eq_skeleton]; unfold k0_part32_skel
  refine step P O K me (dv 1) (Nat.zero_le _) (by decide) (by clear * - me; revert me; decide +kernel) (agSkip me)
    (fun h hk W Q' => op_agSend P O K (Fin.ext k0_dev34_eq) hk (by clear * - me; revert me; decide +kernel) (by clear * - me; revert me; decide +kernel)
      (sem_agSend (dv 1) _ rfl _) (sem_agRecv me _ (k0_off40_eq me) _) W Q') ?_
  exact wpM_pure me _ Q (h _)

theorem part33 {v2 v542 v553 v554} {C : sProp 𝕄} {Q} (h : ∀ v, C ⊢ Q v) :
    C ⊢ wpM me (k0_part33 (F := F) x0M x0W x1M x1W x2M x2W x3M x3W x4M x4W outM outW accM accW rcvM rcvW cc0_scratch2 cc0_scratch3 cc0_scratch4 cc0_scratch5 v2 v542 v553 v554) Q := by
  rw [k0_part33_eq_skeleton]; unfold k0_part33_skel
  exact wpM_pure me _ Q (h _)

theorem part34 {v2 v588 v589 v590 v591 v592} {Fr : sProp 𝕄} {Q} (h : ∀ v, iprop(records P O K ∗ St me (fun k => Ow me 16 16 k) (agΦ O me) (sentΨ 2 me) 0 3 16 ∗ Fr) ⊢ Q v) :
    iprop(records P O K ∗ St me (fun k => Ow me 16 16 k) (agΦ O me) (sentΨ 2 me) 0 2 16 ∗ Fr)
      ⊢ wpM me (k0_part34 (F := F) x0M x0W x1M x1W x2M x2W x3M x3W x4M x4W outM outW accM accW rcvM rcvW cc0_scratch2 cc0_scratch3 cc0_scratch4 cc0_scratch5 me v2 v588 v589 v590 v591 v592) Q := by
  rw [k0_part34_eq_skeleton]; unfold k0_part34_skel
  refine step P O K me (dv 2) (Nat.zero_le _) (by decide) (by clear * - me; revert me; decide +kernel) (agSkip me)
    (fun h hk W Q' => op_agSend P O K (Fin.ext k0_dev35_eq) hk (by clear * - me; revert me; decide +kernel) (by clear * - me; revert me; decide +kernel)
      (sem_agSend (dv 2) _ rfl _) (sem_agRecv me _ (k0_off42_eq me) _) W Q') ?_
  exact wpM_pure me _ Q (h _)

theorem part35 {v2 c8_i32_363 v629 v631} {Fr : sProp 𝕄} {Q} (h : ∀ v, iprop(records P O K ∗ St me (fun k => Ow me 16 16 k) (agΦ O me) (sentΨ 2 me) 0 4 16 ∗ Fr) ⊢ Q v) :
    iprop(records P O K ∗ St me (fun k => Ow me 16 16 k) (agΦ O me) (sentΨ 2 me) 0 3 16 ∗ Fr)
      ⊢ wpM me (k0_part35 (F := F) x0M x0W x1M x1W x2M x2W x3M x3W x4M x4W outM outW accM accW rcvM rcvW cc0_scratch2 cc0_scratch3 cc0_scratch4 cc0_scratch5 me v2 c8_i32_363 v629 v631) Q := by
  rw [k0_part35_eq_skeleton]; unfold k0_part35_skel
  refine step P O K me (dv 3) (Nat.zero_le _) (by decide) (by clear * - me; revert me; decide +kernel) (agSkip me)
    (fun h hk W Q' => op_agSend P O K (Fin.ext k0_dev36_eq) hk (by clear * - me; revert me; decide +kernel) (by clear * - me; revert me; decide +kernel)
      (sem_agSend (dv 3) _ rfl _) (sem_agRecv me _ (k0_off44_eq me) _) W Q') ?_
  exact wpM_pure me _ Q (h _)

theorem part36 {v2 c8_i32_380 v660 v665 v670} {C : sProp 𝕄} {Q} (h : ∀ v, C ⊢ Q v) :
    C ⊢ wpM me (k0_part36 (F := F) x0M x0W x1M x1W x2M x2W x3M x3W x4M x4W outM outW accM accW rcvM rcvW cc0_scratch2 cc0_scratch3 cc0_scratch4 cc0_scratch5 v2 c8_i32_380 v660 v665 v670) Q := by
  rw [k0_part36_eq_skeleton]; unfold k0_part36_skel
  exact wpM_pure me _ Q (h _)

theorem part37 {v2 v706 v707 v708 v709} {Fr : sProp 𝕄} {Q} (h : ∀ v, iprop(records P O K ∗ St me (fun k => Ow me 16 16 k) (agΦ O me) (sentΨ 2 me) 0 5 16 ∗ Fr) ⊢ Q v) :
    iprop(records P O K ∗ St me (fun k => Ow me 16 16 k) (agΦ O me) (sentΨ 2 me) 0 4 16 ∗ Fr)
      ⊢ wpM me (k0_part37 (F := F) x0M x0W x1M x1W x2M x2W x3M x3W x4M x4W outM outW accM accW rcvM rcvW cc0_scratch2 cc0_scratch3 cc0_scratch4 cc0_scratch5 me v2 v706 v707 v708 v709) Q := by
  rw [k0_part37_eq_skeleton]; unfold k0_part37_skel
  refine step P O K me (dv 4) (Nat.zero_le _) (by decide) (by clear * - me; revert me; decide +kernel) (agSkip me)
    (fun h hk W Q' => op_agSend P O K (Fin.ext k0_dev37_eq) hk (by clear * - me; revert me; decide +kernel) (by clear * - me; revert me; decide +kernel)
      (sem_agSend (dv 4) _ rfl _) (sem_agRecv me _ (k0_off46_eq me) _) W Q') ?_
  exact wpM_pure me _ Q (h _)

theorem part38 {v2 c8_i32_425 v747 c0_i32_426} {Fr : sProp 𝕄} {Q} (h : ∀ v, iprop(records P O K ∗ St me (fun k => Ow me 16 16 k) (agΦ O me) (sentΨ 2 me) 0 6 16 ∗ Fr) ⊢ Q v) :
    iprop(records P O K ∗ St me (fun k => Ow me 16 16 k) (agΦ O me) (sentΨ 2 me) 0 5 16 ∗ Fr)
      ⊢ wpM me (k0_part38 (F := F) x0M x0W x1M x1W x2M x2W x3M x3W x4M x4W outM outW accM accW rcvM rcvW cc0_scratch2 cc0_scratch3 cc0_scratch4 cc0_scratch5 me v2 c8_i32_425 v747 c0_i32_426) Q := by
  rw [k0_part38_eq_skeleton]; unfold k0_part38_skel
  refine step P O K me (dv 5) (Nat.zero_le _) (by decide) (by clear * - me; revert me; decide +kernel) (agSkip me)
    (fun h hk W Q' => op_agSend P O K (Fin.ext k0_dev38_eq) hk (by clear * - me; revert me; decide +kernel) (by clear * - me; revert me; decide +kernel)
      (sem_agSend (dv 5) _ rfl _) (sem_agRecv me _ (k0_off48_eq me) _) W Q') ?_
  exact wpM_pure me _ Q (h _)

theorem part39 {v2 c8_i32_442 v778 v783 v785 v786} {C : sProp 𝕄} {Q} (h : ∀ v, C ⊢ Q v) :
    C ⊢ wpM me (k0_part39 (F := F) x0M x0W x1M x1W x2M x2W x3M x3W x4M x4W outM outW accM accW rcvM rcvW cc0_scratch2 cc0_scratch3 cc0_scratch4 cc0_scratch5 v2 c8_i32_442 v778 v783 v785 v786) Q := by
  rw [k0_part39_eq_skeleton]; unfold k0_part39_skel
  exact wpM_pure me _ Q (h _)

theorem part40 {v2 v824 v825 v826} {Fr : sProp 𝕄} {Q} (h : ∀ v, iprop(records P O K ∗ St me (fun k => Ow me 16 16 k) (agΦ O me) (sentΨ 2 me) 0 7 16 ∗ Fr) ⊢ Q v) :
    iprop(records P O K ∗ St me (fun k => Ow me 16 16 k) (agΦ O me) (sentΨ 2 me) 0 6 16 ∗ Fr)
      ⊢ wpM me (k0_part40 (F := F) x0M x0W x1M x1W x2M x2W x3M x3W x4M x4W outM outW accM accW rcvM rcvW cc0_scratch2 cc0_scratch3 cc0_scratch4 cc0_scratch5 me v2 v824 v825 v826) Q := by
  rw [k0_part40_eq_skeleton]; unfold k0_part40_skel
  refine step P O K me (dv 6) (Nat.zero_le _) (by decide) (by clear * - me; revert me; decide +kernel) (agSkip me)
    (fun h hk W Q' => op_agSend P O K (Fin.ext k0_dev39_eq) hk (by clear * - me; revert me; decide +kernel) (by clear * - me; revert me; decide +kernel)
      (sem_agSend (dv 6) _ rfl _) (sem_agRecv me _ (k0_off50_eq me) _) W Q') ?_
  exact wpM_pure me _ Q (h _)

theorem part41 {v2 c8_i32_487} {Fr : sProp 𝕄} {Q} (h : ∀ v, iprop(records P O K ∗ St me (fun k => Ow me 16 16 k) (agΦ O me) (sentΨ 2 me) 0 8 16 ∗ Fr) ⊢ Q v) :
    iprop(records P O K ∗ St me (fun k => Ow me 16 16 k) (agΦ O me) (sentΨ 2 me) 0 7 16 ∗ Fr)
      ⊢ wpM me (k0_part41 (F := F) x0M x0W x1M x1W x2M x2W x3M x3W x4M x4W outM outW accM accW rcvM rcvW cc0_scratch2 cc0_scratch3 cc0_scratch4 cc0_scratch5 me v2 c8_i32_487) Q := by
  rw [k0_part41_eq_skeleton]; unfold k0_part41_skel
  refine step P O K me (dv 7) (Nat.zero_le _) (by decide) (by clear * - me; revert me; decide +kernel) (agSkip me)
    (fun h hk W Q' => op_agSend P O K (Fin.ext k0_dev40_eq) hk (by clear * - me; revert me; decide +kernel) (by clear * - me; revert me; decide +kernel)
      (sem_agSend (dv 7) _ rfl _) (sem_agRecv me _ (k0_off52_eq me) _) W Q') ?_
  exact wpM_pure me _ Q (h _)

end Cert.KernelIdealProof
-- ==== Proof.KernelIdealParts5.lean ====
module
public import proofs.«01_k».proof.Proof.KernelIdealPhases
public import proofs.«01_k».proof.Proof.KernelIdealParts1
import all proofs.«01_k».proof.Proof.Gen.KernelIdeal.Skeleton
@[expose] public section

set_option maxRecDepth 100000

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → AccC F) (O : OutC F)

set_option maxHeartbeats 8000000

variable (K : Dev nD × KI → ℕ) (me : Dev nD) (x : Ins F)

/-! ## The result chunks sent -/

theorem part42 {v2 c8_i32_504 v896 v901 v903} {C : sProp 𝕄} {Q} (h : ∀ v, C ⊢ Q v) :
    C ⊢ wpM me (k0_part42 (F := F) x0M x0W x1M x1W x2M x2W x3M x3W x4M x4W outM outW accM accW rcvM rcvW cc0_scratch2 cc0_scratch3 cc0_scratch4 cc0_scratch5 v2 c8_i32_504 v896 v901 v903) Q := by
  rw [k0_part42_eq_skeleton]; unfold k0_part42_skel
  exact wpM_pure me _ Q (h _)

theorem part43 {v2 v942 v943} {Fr : sProp 𝕄} {Q} (h : ∀ v, iprop(records P O K ∗ St me (fun k => Ow me 16 16 k) (agΦ O me) (sentΨ 2 me) 0 9 16 ∗ Fr) ⊢ Q v) :
    iprop(records P O K ∗ St me (fun k => Ow me 16 16 k) (agΦ O me) (sentΨ 2 me) 0 8 16 ∗ Fr)
      ⊢ wpM me (k0_part43 (F := F) x0M x0W x1M x1W x2M x2W x3M x3W x4M x4W outM outW accM accW rcvM rcvW cc0_scratch2 cc0_scratch3 cc0_scratch4 cc0_scratch5 me v2 v942 v943) Q := by
  rw [k0_part43_eq_skeleton]; unfold k0_part43_skel
  refine step P O K me (dv 8) (Nat.zero_le _) (by decide) (by clear * - me; revert me; decide +kernel) (agSkip me)
    (fun h hk W Q' => op_agSend P O K (Fin.ext k0_dev41_eq) hk (by clear * - me; revert me; decide +kernel) (by clear * - me; revert me; decide +kernel)
      (sem_agSend (dv 8) _ rfl _) (sem_agRecv me _ (k0_off54_eq me) _) W Q') ?_
  exact wpM_pure me _ Q (h _)

theorem part44 {v2 v981 c16_i32_548} {Fr : sProp 𝕄} {Q} (h : ∀ v, iprop(records P O K ∗ St me (fun k => Ow me 16 16 k) (agΦ O me) (sentΨ 2 me) 0 10 16 ∗ Fr) ⊢ Q v) :
    iprop(records P O K ∗ St me (fun k => Ow me 16 16 k) (agΦ O me) (sentΨ 2 me) 0 9 16 ∗ Fr)
      ⊢ wpM me (k0_part44 (F := F) x0M x0W x1M x1W x2M x2W x3M x3W x4M x4W outM outW accM accW rcvM rcvW cc0_scratch2 cc0_scratch3 cc0_scratch4 cc0_scratch5 me v2 v981 c16_i32_548) Q := by
  rw [k0_part44_eq_skeleton]; unfold k0_part44_skel
  refine step P O K me (dv 9) (Nat.zero_le _) (by decide) (by clear * - me; revert me; decide +kernel) (agSkip me)
    (fun h hk W Q' => op_agSend P O K (Fin.ext k0_dev42_eq) hk (by clear * - me; revert me; decide +kernel) (by clear * - me; revert me; decide +kernel)
      (sem_agSend (dv 9) _ rfl _) (sem_agRecv me _ (k0_off56_eq me) _) W Q') ?_
  exact wpM_pure me _ Q (h _)

theorem part45 {v2 c8_i32_566 v1014 v1019 c0_i32_569} {C : sProp 𝕄} {Q} (h : ∀ v, C ⊢ Q v) :
    C ⊢ wpM me (k0_part45 (F := F) x0M x0W x1M x1W x2M x2W x3M x3W x4M x4W outM outW accM accW rcvM rcvW cc0_scratch2 cc0_scratch3 cc0_scratch4 cc0_scratch5 v2 c8_i32_566 v1014 v1019 c0_i32_569) Q := by
  rw [k0_part45_eq_skeleton]; unfold k0_part45_skel
  exact wpM_pure me _ Q (h _)

theorem part46 {v2 c8_i32_587 v1059 c1_i32_589} {Fr : sProp 𝕄} {Q} (h : ∀ v, iprop(records P O K ∗ St me (fun k => Ow me 16 16 k) (agΦ O me) (sentΨ 2 me) 0 11 16 ∗ Fr) ⊢ Q v) :
    iprop(records P O K ∗ St me (fun k => Ow me 16 16 k) (agΦ O me) (sentΨ 2 me) 0 10 16 ∗ Fr)
      ⊢ wpM me (k0_part46 (F := F) x0M x0W x1M x1W x2M x2W x3M x3W x4M x4W outM outW accM accW rcvM rcvW cc0_scratch2 cc0_scratch3 cc0_scratch4 cc0_scratch5 me v2 c8_i32_587 v1059 c1_i32_589) Q := by
  rw [k0_part46_eq_skeleton]; unfold k0_part46_skel
  refine step P O K me (dv 10) (Nat.zero_le _) (by decide) (by clear * - me; revert me; decide +kernel) (agSkip me)
    (fun h hk W Q' => op_agSend P O K (Fin.ext k0_dev43_eq) hk (by clear * - me; revert me; decide +kernel) (by clear * - me; revert me; decide +kernel)
      (sem_agSend (dv 10) _ rfl _) (sem_agRecv me _ (k0_off58_eq me) _) W Q') ?_
  exact wpM_pure me _ Q (h _)

theorem part47 {v2 v1092 v1097 v1098} {Fr : sProp 𝕄} {Q} (h : ∀ v, iprop(records P O K ∗ St me (fun k => Ow me 16 16 k) (agΦ O me) (sentΨ 2 me) 0 12 16 ∗ Fr) ⊢ Q v) :
    iprop(records P O K ∗ St me (fun k => Ow me 16 16 k) (agΦ O me) (sentΨ 2 me) 0 11 16 ∗ Fr)
      ⊢ wpM me (k0_part47 (F := F) x0M x0W x1M x1W x2M x2W x3M x3W x4M x4W outM outW accM accW rcvM rcvW cc0_scratch2 cc0_scratch3 cc0_scratch4 cc0_scratch5 me v2 v1092 v1097 v1098) Q := by
  rw [k0_part47_eq_skeleton]; unfold k0_part47_skel
  refine step P O K me (dv 11) (Nat.zero_le _) (by decide) (by clear * - me; revert me; decide +kernel) (agSkip me)
    (fun h hk W Q' => op_agSend P O K (Fin.ext k0_dev44_eq) hk (by clear * - me; revert me; decide +kernel) (by clear * - me; revert me; decide +kernel)
      (sem_agSend (dv 11) _ rfl _) (sem_agRecv me _ (k0_off60_eq me) _) W Q') ?_
  exact wpM_pure me _ Q (h _)

theorem part48 {v2 c8_i32_628 v1132 v1134 v1136} {C : sProp 𝕄} {Q} (h : ∀ v, C ⊢ Q v) :
    C ⊢ wpM me (k0_part48 (F := F) x0M x0W x1M x1W x2M x2W x3M x3W x4M x4W outM outW accM accW rcvM rcvW cc0_scratch2 cc0_scratch3 cc0_scratch4 cc0_scratch5 v2 c8_i32_628 v1132 v1134 v1136) Q := by
  rw [k0_part48_eq_skeleton]; unfold k0_part48_skel
  exact wpM_pure me _ Q (h _)

theorem part49 {v2 c8_i32_649 c0_i32_650} {Fr : sProp 𝕄} {Q} (h : ∀ v, iprop(records P O K ∗ St me (fun k => Ow me 16 16 k) (agΦ O me) (sentΨ 2 me) 0 13 16 ∗ Fr) ⊢ Q v) :
    iprop(records P O K ∗ St me (fun k => Ow me 16 16 k) (agΦ O me) (sentΨ 2 me) 0 12 16 ∗ Fr)
      ⊢ wpM me (k0_part49 (F := F) x0M x0W x1M x1W x2M x2W x3M x3W x4M x4W outM outW accM accW rcvM rcvW cc0_scratch2 cc0_scratch3 cc0_scratch4 cc0_scratch5 me v2 c8_i32_649 c0_i32_650) Q := by
  rw [k0_part49_eq_skeleton]; unfold k0_part49_skel
  refine step P O K me (dv 12) (Nat.zero_le _) (by decide) (by clear * - me; revert me; decide +kernel) (agSkip me)
    (fun h hk W Q' => op_agSend P O K (Fin.ext k0_dev45_eq) hk (by clear * - me; revert me; decide +kernel) (by clear * - me; revert me; decide +kernel)
      (sem_agSend (dv 12) _ rfl _) (sem_agRecv me _ (k0_off62_eq me) _) W Q') ?_
  exact wpM_pure me _ Q (h _)

theorem part50 {v2 v1209 v1210 v1211 v1214} {Fr : sProp 𝕄} {Q} (h : ∀ v, iprop(records P O K ∗ St me (fun k => Ow me 16 16 k) (agΦ O me) (sentΨ 2 me) 0 14 16 ∗ Fr) ⊢ Q v) :
    iprop(records P O K ∗ St me (fun k => Ow me 16 16 k) (agΦ O me) (sentΨ 2 me) 0 13 16 ∗ Fr)
      ⊢ wpM me (k0_part50 (F := F) x0M x0W x1M x1W x2M x2W x3M x3W x4M x4W outM outW accM accW rcvM rcvW cc0_scratch2 cc0_scratch3 cc0_scratch4 cc0_scratch5 me v2 v1209 v1210 v1211 v1214) Q := by
  rw [k0_part50_eq_skeleton]; unfold k0_part50_skel
  refine step P O K me (dv 13) (Nat.zero_le _) (by decide) (by clear * - me; revert me; decide +kernel) (agSkip me)
    (fun h hk W Q' => op_agSend P O K (Fin.ext k0_dev46_eq) hk (by clear * - me; revert me; decide +kernel) (by clear * - me; revert me; decide +kernel)
      (sem_agSend (dv 13) _ rfl _) (sem_agRecv me _ (k0_off64_eq me) _) W Q') ?_
  exact wpM_pure me _ Q (h _)

theorem part51 {v2 c8_i32_690 v1250 v1252 c0_i32_692} {C : sProp 𝕄} {Q} (h : ∀ v, C ⊢ Q v) :
    C ⊢ wpM me (k0_part51 (F := F) x0M x0W x1M x1W x2M x2W x3M x3W x4M x4W outM outW accM accW rcvM rcvW cc0_scratch2 cc0_scratch3 cc0_scratch4 cc0_scratch5 v2 c8_i32_690 v1250 v1252 c0_i32_692) Q := by
  rw [k0_part51_eq_skeleton]; unfold k0_part51_skel
  exact wpM_pure me _ Q (h _)

theorem part52 {v2} {Fr : sProp 𝕄} {Q} (h : ∀ v, iprop(records P O K ∗ St me (fun k => Ow me 16 16 k) (agΦ O me) (sentΨ 2 me) 0 15 16 ∗ Fr) ⊢ Q v) :
    iprop(records P O K ∗ St me (fun k => Ow me 16 16 k) (agΦ O me) (sentΨ 2 me) 0 14 16 ∗ Fr)
      ⊢ wpM me (k0_part52 (F := F) x0M x0W x1M x1W x2M x2W x3M x3W x4M x4W outM outW accM accW rcvM rcvW cc0_scratch2 cc0_scratch3 cc0_scratch4 cc0_scratch5 me v2) Q := by
  rw [k0_part52_eq_skeleton]; unfold k0_part52_skel
  refine step P O K me (dv 14) (Nat.zero_le _) (by decide) (by clear * - me; revert me; decide +kernel) (agSkip me)
    (fun h hk W Q' => op_agSend P O K (Fin.ext k0_dev47_eq) hk (by clear * - me; revert me; decide +kernel) (by clear * - me; revert me; decide +kernel)
      (sem_agSend (dv 14) _ rfl _) (sem_agRecv me _ (k0_off66_eq me) _) W Q') ?_
  exact wpM_pure me _ Q (h _)

theorem part53 {v2 v1327 v1328 v1329 v1330 c0_i32_733} {Fr : sProp 𝕄} {Q} (h : ∀ v, iprop(records P O K ∗ St me (fun k => Ow me 16 16 k) (agΦ O me) (sentΨ 2 me) 0 16 16 ∗ Fr) ⊢ Q v) :
    iprop(records P O K ∗ St me (fun k => Ow me 16 16 k) (agΦ O me) (sentΨ 2 me) 0 15 16 ∗ Fr)
      ⊢ wpM me (k0_part53 (F := F) x0M x0W x1M x1W x2M x2W x3M x3W x4M x4W outM outW accM accW rcvM rcvW cc0_scratch2 cc0_scratch3 cc0_scratch4 cc0_scratch5 me v2 v1327 v1328 v1329 v1330 c0_i32_733) Q := by
  rw [k0_part53_eq_skeleton]; unfold k0_part53_skel
  refine step P O K me (dv 15) (Nat.zero_le _) (by decide) (by clear * - me; revert me; decide +kernel) (agSkip me)
    (fun h hk W Q' => op_agSend P O K (Fin.ext k0_dev48_eq) hk (by clear * - me; revert me; decide +kernel) (by clear * - me; revert me; decide +kernel)
      (sem_agSend (dv 15) _ rfl _) (sem_agRecv me _ (k0_off68_eq me) _) W Q') ?_
  exact wpM_pure me _ Q (h _)

end Cert.KernelIdealProof
-- ==== Proof.KernelIdealParts6.lean ====
module
public import proofs.«01_k».proof.Proof.KernelIdealPhases
public import proofs.«01_k».proof.Proof.KernelIdealWaits
import all proofs.«01_k».proof.Proof.Gen.KernelIdeal.Skeleton
@[expose] public section

set_option maxRecDepth 100000

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → AccC F) (O : OutC F)

set_option maxHeartbeats 8000000

variable (K : Dev nD × KI → ℕ) (me : Dev nD) (x : Ins F)

/-! ## The last waits -/

/-- The first ten result chunks have come. -/
theorem part54 {Fr : sProp 𝕄} {v2 v1369 c0_i32_753 Q} (h : ∀ v, iprop(records P O K ∗ St me (fun _ => Ow me 16 16 16) (waitΦ 3 me) (waitΨ P O 3 me) 0 10 16 ∗ Fr) ⊢ Q v) :
    iprop(records P O K ∗ St me (fun _ => Ow me 16 16 16) (waitΦ 3 me) (waitΨ P O 3 me) 0 0 16 ∗ Fr)
      ⊢ wpM me (k0_part54 (F := F) x0M x0W x1M x1W x2M x2W x3M x3W x4M x4W outM outW accM accW rcvM rcvW cc0_scratch2 cc0_scratch3 cc0_scratch4 cc0_scratch5 me v2 v1369 c0_i32_753) Q := by
  rw [k0_part54_eq_skeleton]; unfold k0_part54_skel
  refine step P O K me (dv 0) (Nat.zero_le _) (by decide) (by clear * - me; revert me; decide +kernel) rfl
    (fun h hk W Q' => by
      rw [k0_part1_eq_skeleton]; unfold k0_part1_skel
      exact then_pure me (fun Q'' => op_wait P O K 3 hk (fun _ => Ow me 16 16 16) rfl 3 (lvs_le _) (Ow_none me) (by rfl) (sem_agRecv (dv 0) _ rfl _) W Q'') Q') ?_
  refine step P O K me (dv 1) (Nat.zero_le _) (by decide) (by clear * - me; revert me; decide +kernel) rfl
    (fun h hk W Q' => by
      rw [k0_part2_eq_skeleton]; unfold k0_part2_skel
      exact then_pure me (fun Q'' => op_wait P O K 3 hk (fun _ => Ow me 16 16 16) rfl 3 (lvs_le _) (Ow_none me) (by rfl) (sem_agRecv (dv 1) _ rfl _) W Q'') Q') ?_
  refine step P O K me (dv 2) (Nat.zero_le _) (by decide) (by clear * - me; revert me; decide +kernel) rfl
    (fun h hk W Q' => by
      rw [k0_part3_eq_skeleton]; unfold k0_part3_skel
      exact then_pure me (fun Q'' => op_wait P O K 3 hk (fun _ => Ow me 16 16 16) rfl 3 (lvs_le _) (Ow_none me) (by rfl) (sem_agRecv (dv 2) _ rfl _) W Q'') Q') ?_
  refine step P O K me (dv 3) (Nat.zero_le _) (by decide) (by clear * - me; revert me; decide +kernel) rfl
    (fun h hk W Q' => by
      rw [k0_part4_eq_skeleton]; unfold k0_part4_skel
      exact then_pure me (fun Q'' => op_wait P O K 3 hk (fun _ => Ow me 16 16 16) rfl 3 (lvs_le _) (Ow_none me) (by rfl) (sem_agRecv (dv 3) _ rfl _) W Q'') Q') ?_
  refine step P O K me (dv 4) (Nat.zero_le _) (by decide) (by clear * - me; revert me; decide +kernel) rfl
    (fun h hk W Q' => by
      rw [k0_part5_eq_skeleton]; unfold k0_part5_skel
      exact then_pure me (fun Q'' => op_wait P O K 3 hk (fun _ => Ow me 16 16 16) rfl 3 (lvs_le _) (Ow_none me) (by rfl) (sem_agRecv (dv 4) _ rfl _) W Q'') Q') ?_
  refine step P O K me (dv 5) (Nat.zero_le _) (by decide) (by clear * - me; revert me; decide +kernel) rfl
    (fun h hk W Q' => by
      rw [k0_part6_eq_skeleton]; unfold k0_part6_skel
      exact then_pure me (fun Q'' => op_wait P O K 3 hk (fun _ => Ow me 16 16 16) rfl 3 (lvs_le _) (Ow_none me) (by rfl) (sem_agRecv (dv 5) _ rfl _) W Q'') Q') ?_
  refine step P O K me (dv 6) (Nat.zero_le _) (by decide) (by clear * - me; revert me; decide +kernel) rfl
    (fun h hk W Q' => by
      rw [k0_part7_eq_skeleton]; unfold k0_part7_skel
      exact then_pure me (fun Q'' => op_wait P O K 3 hk (fun _ => Ow me 16 16 16) rfl 3 (lvs_le _) (Ow_none me) (by rfl) (sem_agRecv (dv 6) _ rfl _) W Q'') Q') ?_
  refine step P O K me (dv 7) (Nat.zero_le _) (by decide) (by clear * - me; revert me; decide +kernel) rfl
    (fun h hk W Q' => by
      rw [k0_part8_eq_skeleton]; unfold k0_part8_skel
      exact then_pure me (fun Q'' => op_wait P O K 3 hk (fun _ => Ow me 16 16 16) rfl 3 (lvs_le _) (Ow_none me) (by rfl) (sem_agRecv (dv 7) _ rfl _) W Q'') Q') ?_
  refine step P O K me (dv 8) (Nat.zero_le _) (by decide) (by clear * - me; revert me; decide +kernel) rfl
    (fun h hk W Q' => by
      rw [k0_part9_eq_skeleton]; unfold k0_part9_skel
      exact then_pure me (fun Q'' => op_wait P O K 3 hk (fun _ => Ow me 16 16 16) rfl 3 (lvs_le _) (Ow_none me) (by rfl) (sem_agRecv (dv 8) _ rfl _) W Q'') Q') ?_
  refine step P O K me (dv 9) (Nat.zero_le _) (by decide) (by clear * - me; revert me; decide +kernel) rfl
    (fun h hk W Q' => by
      rw [k0_part10_eq_skeleton]; unfold k0_part10_skel
      exact then_pure me (fun Q'' => op_wait P O K 3 hk (fun _ => Ow me 16 16 16) rfl 3 (lvs_le _) (Ow_none me) (by rfl) (sem_agRecv (dv 9) _ rfl _) W Q'') Q') ?_
  exact wpM_pure me _ Q (h _)

/-- The other six have come, and the first four partial chunks have left. -/
theorem part55 {Fr : sProp 𝕄} {v2 v1399 c0_i32_773 Q} (h : iprop(records P O K ∗ St me (fun _ => Ow me 16 16 16) (waitΦ 0 me) (waitΨ P O 0 me) 0 4 16 ∗ (bigSep (rng me 0 16) (waitΨ P O 3 me) ∗ Fr)) ⊢ Q ⟨⟩) :
    iprop(records P O K ∗ St me (fun _ => Ow me 16 16 16) (waitΦ 3 me) (waitΨ P O 3 me) 0 10 16 ∗ (bigSep (rng me 0 16) (waitΦ 0 me) ∗ Fr))
      ⊢ wpM me (k0_part55 (F := F) x0M x0W x1M x1W x2M x2W x3M x3W x4M x4W outM outW accM accW rcvM rcvW cc0_scratch2 cc0_scratch3 cc0_scratch4 cc0_scratch5 me v2 v1399 c0_i32_773) Q := by
  rw [k0_part55_eq_skeleton]; unfold k0_part55_skel
  refine step P O K me (dv 10) (Nat.zero_le _) (by decide) (by clear * - me; revert me; decide +kernel) rfl
    (fun h hk W Q' => by
      rw [k0_part11_eq_skeleton]; unfold k0_part11_skel
      exact then_pure me (fun Q'' => op_wait P O K 3 hk (fun _ => Ow me 16 16 16) rfl 3 (lvs_le _) (Ow_none me) (by rfl) (sem_agRecv (dv 10) _ rfl _) W Q'') Q') ?_
  refine step P O K me (dv 11) (Nat.zero_le _) (by decide) (by clear * - me; revert me; decide +kernel) rfl
    (fun h hk W Q' => by
      rw [k0_part12_eq_skeleton]; unfold k0_part12_skel
      exact then_pure me (fun Q'' => op_wait P O K 3 hk (fun _ => Ow me 16 16 16) rfl 3 (lvs_le _) (Ow_none me) (by rfl) (sem_agRecv (dv 11) _ rfl _) W Q'') Q') ?_
  refine step P O K me (dv 12) (Nat.zero_le _) (by decide) (by clear * - me; revert me; decide +kernel) rfl
    (fun h hk W Q' => by
      rw [k0_part13_eq_skeleton]; unfold k0_part13_skel
      exact then_pure me (fun Q'' => op_wait P O K 3 hk (fun _ => Ow me 16 16 16) rfl 3 (lvs_le _) (Ow_none me) (by rfl) (sem_agRecv (dv 12) _ rfl _) W Q'') Q') ?_
  refine step P O K me (dv 13) (Nat.zero_le _) (by decide) (by clear * - me; revert me; decide +kernel) rfl
    (fun h hk W Q' => by
      rw [k0_part14_eq_skeleton]; unfold k0_part14_skel
      exact then_pure me (fun Q'' => op_wait P O K 3 hk (fun _ => Ow me 16 16 16) rfl 3 (lvs_le _) (Ow_none me) (by rfl) (sem_agRecv (dv 13) _ rfl _) W Q'') Q') ?_
  refine step P O K me (dv 14) (Nat.zero_le _) (by decide) (by clear * - me; revert me; decide +kernel) rfl
    (fun h hk W Q' => by
      rw [k0_part15_eq_skeleton]; unfold k0_part15_skel
      exact then_pure me (fun Q'' => op_wait P O K 3 hk (fun _ => Ow me 16 16 16) rfl 3 (lvs_le _) (Ow_none me) (by rfl) (sem_agRecv (dv 14) _ rfl _) W Q'') Q') ?_
  refine step P O K me (dv 15) (Nat.zero_le _) (by decide) (by clear * - me; revert me; decide +kernel) rfl
    (fun h hk W Q' => by
      rw [k0_part16_eq_skeleton]; unfold k0_part16_skel
      exact then_pure me (fun Q'' => op_wait P O K 3 hk (fun _ => Ow me 16 16 16) rfl 3 (lvs_le _) (Ow_none me) (by rfl) (sem_agRecv (dv 15) _ rfl _) W Q'') Q') ?_
  refine turn P O K me (Ψ' := waitΨ P O 0 me) ?_
  refine step P O K me (dv 0) (Nat.zero_le _) (by decide) (by clear * - me; revert me; decide +kernel) rfl
    (fun h hk W Q' => op_wait P O K 0 hk (fun _ => Ow me 16 16 16) rfl 3 (lvs_le _) (Ow_none me) (by rfl) (sem_rsSend (dv 0) _ rfl _) W Q') ?_
  refine step P O K me (dv 1) (Nat.zero_le _) (by decide) (by clear * - me; revert me; decide +kernel) rfl
    (fun h hk W Q' => op_wait P O K 0 hk (fun _ => Ow me 16 16 16) rfl 3 (lvs_le _) (Ow_none me) (by rfl) (sem_rsSend (dv 1) _ rfl _) W Q') ?_
  refine step P O K me (dv 2) (Nat.zero_le _) (by decide) (by clear * - me; revert me; decide +kernel) rfl
    (fun h hk W Q' => op_wait P O K 0 hk (fun _ => Ow me 16 16 16) rfl 3 (lvs_le _) (Ow_none me) (by rfl) (sem_rsSend (dv 2) _ rfl _) W Q') ?_
  refine step P O K me (dv 3) (Nat.zero_le _) (by decide) (by clear * - me; revert me; decide +kernel) rfl
    (fun h hk W Q' => op_wait P O K 0 hk (fun _ => Ow me 16 16 16) rfl 3 (lvs_le _) (Ow_none me) (by rfl) (sem_rsSend (dv 3) _ rfl _) W Q') ?_
  exact wpM_pure me _ Q h

/-- Eight more partial chunks have left. -/
theorem part56 {Fr : sProp 𝕄} {v2 Q} (h : ∀ v, iprop(records P O K ∗ St me (fun _ => Ow me 16 16 16) (waitΦ 0 me) (waitΨ P O 0 me) 0 12 16 ∗ Fr) ⊢ Q v) :
    iprop(records P O K ∗ St me (fun _ => Ow me 16 16 16) (waitΦ 0 me) (waitΨ P O 0 me) 0 4 16 ∗ Fr)
      ⊢ wpM me (k0_part56 (F := F) x0M x0W x1M x1W x2M x2W x3M x3W x4M x4W outM outW accM accW rcvM rcvW cc0_scratch2 cc0_scratch3 cc0_scratch4 cc0_scratch5 me v2) Q := by
  rw [k0_part56_eq_skeleton]; unfold k0_part56_skel
  refine step P O K me (dv 4) (Nat.zero_le _) (by decide) (by clear * - me; revert me; decide +kernel) rfl
    (fun h hk W Q' => op_wait P O K 0 hk (fun _ => Ow me 16 16 16) rfl 3 (lvs_le _) (Ow_none me) (by rfl) (sem_rsSend (dv 4) _ rfl _) W Q') ?_
  refine step P O K me (dv 5) (Nat.zero_le _) (by decide) (by clear * - me; revert me; decide +kernel) rfl
    (fun h hk W Q' => op_wait P O K 0 hk (fun _ => Ow me 16 16 16) rfl 3 (lvs_le _) (Ow_none me) (by rfl) (sem_rsSend (dv 5) _ rfl _) W Q') ?_
  refine step P O K me (dv 6) (Nat.zero_le _) (by decide) (by clear * - me; revert me; decide +kernel) rfl
    (fun h hk W Q' => op_wait P O K 0 hk (fun _ => Ow me 16 16 16) rfl 3 (lvs_le _) (Ow_none me) (by rfl) (sem_rsSend (dv 6) _ rfl _) W Q') ?_
  refine step P O K me (dv 7) (Nat.zero_le _) (by decide) (by clear * - me; revert me; decide +kernel) rfl
    (fun h hk W Q' => op_wait P O K 0 hk (fun _ => Ow me 16 16 16) rfl 3 (lvs_le _) (Ow_none me) (by rfl) (sem_rsSend (dv 7) _ rfl _) W Q') ?_
  refine step P O K me (dv 8) (Nat.zero_le _) (by decide) (by clear * - me; revert me; decide +kernel) rfl
    (fun h hk W Q' => op_wait P O K 0 hk (fun _ => Ow me 16 16 16) rfl 3 (lvs_le _) (Ow_none me) (by rfl) (sem_rsSend (dv 8) _ rfl _) W Q') ?_
  refine step P O K me (dv 9) (Nat.zero_le _) (by decide) (by clear * - me; revert me; decide +kernel) rfl
    (fun h hk W Q' => op_wait P O K 0 hk (fun _ => Ow me 16 16 16) rfl 3 (lvs_le _) (Ow_none me) (by rfl) (sem_rsSend (dv 9) _ rfl _) W Q') ?_
  refine step P O K me (dv 10) (Nat.zero_le _) (by decide) (by clear * - me; revert me; decide +kernel) rfl
    (fun h hk W Q' => op_wait P O K 0 hk (fun _ => Ow me 16 16 16) rfl 3 (lvs_le _) (Ow_none me) (by rfl) (sem_rsSend (dv 10) _ rfl _) W Q') ?_
  refine step P O K me (dv 11) (Nat.zero_le _) (by decide) (by clear * - me; revert me; decide +kernel) rfl
    (fun h hk W Q' => op_wait P O K 0 hk (fun _ => Ow me 16 16 16) rfl 3 (lvs_le _) (Ow_none me) (by rfl) (sem_rsSend (dv 11) _ rfl _) W Q') ?_
  exact wpM_pure me _ Q (h _)

/-- The last four have left, and the first five result chunks. -/
theorem part57 {Fr : sProp 𝕄} {v2 v1453 Q} (h : ∀ v, iprop(records P O K ∗ St me (fun _ => Ow me 16 16 16) (waitΦ 2 me) (waitΨ P O 2 me) 0 5 16 ∗ (bigSep (rng me 0 16) (waitΨ P O 0 me) ∗ Fr)) ⊢ Q v) :
    iprop(records P O K ∗ St me (fun _ => Ow me 16 16 16) (waitΦ 0 me) (waitΨ P O 0 me) 0 12 16 ∗ (bigSep (rng me 0 16) (waitΦ 2 me) ∗ Fr))
      ⊢ wpM me (k0_part57 (F := F) x0M x0W x1M x1W x2M x2W x3M x3W x4M x4W outM outW accM accW rcvM rcvW cc0_scratch2 cc0_scratch3 cc0_scratch4 cc0_scratch5 me v2 v1453) Q := by
  rw [k0_part57_eq_skeleton]; unfold k0_part57_skel
  refine step P O K me (dv 12) (Nat.zero_le _) (by decide) (by clear * - me; revert me; decide +kernel) rfl
    (fun h hk W Q' => op_wait P O K 0 hk (fun _ => Ow me 16 16 16) rfl 3 (lvs_le _) (Ow_none me) (by rfl) (sem_rsSend (dv 12) _ rfl _) W Q') ?_
  refine step P O K me (dv 13) (Nat.zero_le _) (by decide) (by clear * - me; revert me; decide +kernel) rfl
    (fun h hk W Q' => op_wait P O K 0 hk (fun _ => Ow me 16 16 16) rfl 3 (lvs_le _) (Ow_none me) (by rfl) (sem_rsSend (dv 13) _ rfl _) W Q') ?_
  refine step P O K me (dv 14) (Nat.zero_le _) (by decide) (by clear * - me; revert me; decide +kernel) rfl
    (fun h hk W Q' => op_wait P O K 0 hk (fun _ => Ow me 16 16 16) rfl 3 (lvs_le _) (Ow_none me) (by rfl) (sem_rsSend (dv 14) _ rfl _) W Q') ?_
  refine step P O K me (dv 15) (Nat.zero_le _) (by decide) (by clear * - me; revert me; decide +kernel) rfl
    (fun h hk W Q' => op_wait P O K 0 hk (fun _ => Ow me 16 16 16) rfl 3 (lvs_le _) (Ow_none me) (by rfl) (sem_rsSend (dv 15) _ rfl _) W Q') ?_
  refine turn P O K me (Ψ' := waitΨ P O 2 me) ?_
  refine step P O K me (dv 0) (Nat.zero_le _) (by decide) (by clear * - me; revert me; decide +kernel) rfl
    (fun h hk W Q' => op_wait P O K 2 hk (fun _ => Ow me 16 16 16) rfl 3 (lvs_le _) (Ow_none me) (by rfl) (sem_agSend (dv 0) _ rfl _) W Q') ?_
  refine step P O K me (dv 1) (Nat.zero_le _) (by decide) (by clear * - me; revert me; decide +kernel) rfl
    (fun h hk W Q' => op_wait P O K 2 hk (fun _ => Ow me 16 16 16) rfl 3 (lvs_le _) (Ow_none me) (by rfl) (sem_agSend (dv 1) _ rfl _) W Q') ?_
  refine step P O K me (dv 2) (Nat.zero_le _) (by decide) (by clear * - me; revert me; decide +kernel) rfl
    (fun h hk W Q' => op_wait P O K 2 hk (fun _ => Ow me 16 16 16) rfl 3 (lvs_le _) (Ow_none me) (by rfl) (sem_agSend (dv 2) _ rfl _) W Q') ?_
  refine step P O K me (dv 3) (Nat.zero_le _) (by decide) (by clear * - me; revert me; decide +kernel) rfl
    (fun h hk W Q' => op_wait P O K 2 hk (fun _ => Ow me 16 16 16) rfl 3 (lvs_le _) (Ow_none me) (by rfl) (sem_agSend (dv 3) _ rfl _) W Q') ?_
  refine step P O K me (dv 4) (Nat.zero_le _) (by decide) (by clear * - me; revert me; decide +kernel) rfl
    (fun h hk W Q' => op_wait P O K 2 hk (fun _ => Ow me 16 16 16) rfl 3 (lvs_le _) (Ow_none me) (by rfl) (sem_agSend (dv 4) _ rfl _) W Q') ?_
  exact wpM_pure me _ Q (h _)

/-- Eight more result chunks have left. -/
theorem part58 {Fr : sProp 𝕄} {v2 c5_i32_847 Q} (h : ∀ v, iprop(records P O K ∗ St me (fun _ => Ow me 16 16 16) (waitΦ 2 me) (waitΨ P O 2 me) 0 13 16 ∗ Fr) ⊢ Q v) :
    iprop(records P O K ∗ St me (fun _ => Ow me 16 16 16) (waitΦ 2 me) (waitΨ P O 2 me) 0 5 16 ∗ Fr)
      ⊢ wpM me (k0_part58 (F := F) x0M x0W x1M x1W x2M x2W x3M x3W x4M x4W outM outW accM accW rcvM rcvW cc0_scratch2 cc0_scratch3 cc0_scratch4 cc0_scratch5 me v2 c5_i32_847) Q := by
  rw [k0_part58_eq_skeleton]; unfold k0_part58_skel
  refine step P O K me (dv 5) (Nat.zero_le _) (by decide) (by clear * - me; revert me; decide +kernel) rfl
    (fun h hk W Q' => op_wait P O K 2 hk (fun _ => Ow me 16 16 16) rfl 3 (lvs_le _) (Ow_none me) (by rfl) (sem_agSend (dv 5) _ rfl _) W Q') ?_
  refine step P O K me (dv 6) (Nat.zero_le _) (by decide) (by clear * - me; revert me; decide +kernel) rfl
    (fun h hk W Q' => op_wait P O K 2 hk (fun _ => Ow me 16 16 16) rfl 3 (lvs_le _) (Ow_none me) (by rfl) (sem_agSend (dv 6) _ rfl _) W Q') ?_
  refine step P O K me (dv 7) (Nat.zero_le _) (by decide) (by clear * - me; revert me; decide +kernel) rfl
    (fun h hk W Q' => op_wait P O K 2 hk (fun _ => Ow me 16 16 16) rfl 3 (lvs_le _) (Ow_none me) (by rfl) (sem_agSend (dv 7) _ rfl _) W Q') ?_
  refine step P O K me (dv 8) (Nat.zero_le _) (by decide) (by clear * - me; revert me; decide +kernel) rfl
    (fun h hk W Q' => op_wait P O K 2 hk (fun _ => Ow me 16 16 16) rfl 3 (lvs_le _) (Ow_none me) (by rfl) (sem_agSend (dv 8) _ rfl _) W Q') ?_
  refine step P O K me (dv 9) (Nat.zero_le _) (by decide) (by clear * - me; revert me; decide +kernel) rfl
    (fun h hk W Q' => op_wait P O K 2 hk (fun _ => Ow me 16 16 16) rfl 3 (lvs_le _) (Ow_none me) (by rfl) (sem_agSend (dv 9) _ rfl _) W Q') ?_
  refine step P O K me (dv 10) (Nat.zero_le _) (by decide) (by clear * - me; revert me; decide +kernel) rfl
    (fun h hk W Q' => op_wait P O K 2 hk (fun _ => Ow me 16 16 16) rfl 3 (lvs_le _) (Ow_none me) (by rfl) (sem_agSend (dv 10) _ rfl _) W Q') ?_
  refine step P O K me (dv 11) (Nat.zero_le _) (by decide) (by clear * - me; revert me; decide +kernel) rfl
    (fun h hk W Q' => op_wait P O K 2 hk (fun _ => Ow me 16 16 16) rfl 3 (lvs_le _) (Ow_none me) (by rfl) (sem_agSend (dv 11) _ rfl _) W Q') ?_
  refine step P O K me (dv 12) (Nat.zero_le _) (by decide) (by clear * - me; revert me; decide +kernel) rfl
    (fun h hk W Q' => op_wait P O K 2 hk (fun _ => Ow me 16 16 16) rfl 3 (lvs_le _) (Ow_none me) (by rfl) (sem_agSend (dv 12) _ rfl _) W Q') ?_
  exact wpM_pure me _ Q (h _)

end Cert.KernelIdealProof
-- ==== Proof.KernelIdealBody.lean ====
module
public import proofs.«01_k».proof.Proof.KernelIdealPhases
public import proofs.«01_k».proof.Proof.KernelIdealParts1
public import proofs.«01_k».proof.Proof.KernelIdealParts2
public import proofs.«01_k».proof.Proof.KernelIdealParts3
public import proofs.«01_k».proof.Proof.KernelIdealParts4
public import proofs.«01_k».proof.Proof.KernelIdealParts5
public import proofs.«01_k».proof.Proof.KernelIdealParts6
import all proofs.«01_k».proof.Proof.Gen.KernelIdeal.Skeleton
@[expose] public section

set_option maxRecDepth 100000

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → AccC F) (O : OutC F)

set_option maxHeartbeats 8000000

variable (K : Dev nD × KI → ℕ) (me : Dev nD) (x : Ins F)

/-! ## What a device holds between the phases -/

/-- The device's positions at round `r` of its semaphores of kind `j`, the others' and -/
abbrev pos (r : ℕ) (j : Fin 4) : sProp 𝕄 := bigSep (rng me 0 16) fun i => atPos ER (dCell j i me) r ∅ 0
/-- its own; -/
abbrev own4 : sProp 𝕄 := iprop(atPos ER (dCell 0 me me) 0 ∅ 0 ∗ atPos ER (dCell 1 me me) 0 ∅ 0 ∗ atPos ER (dCell 2 me me) 0 ∅ 0 ∗ atPos ER (dCell 3 me me) 0 ∅ 0)
/-- the duties of the departures and -/
abbrev tokS (j : Fin 4) : sProp 𝕄 := bigSep (rng me 0 16) fun p => dutyTok ER (dCell j p me) 0 0
/-- of the arrivals at the other devices; -/
abbrev tokR (j : Fin 4) : sProp 𝕄 := bigSep (rng me 0 16) fun p => dutyTok ER (dCell j me p) 0 0
/-- the credits of its own semaphores. -/
abbrev snt (j : Fin 4) : sProp 𝕄 := bigSep (rng me 0 16) (sentΨ j me)

/-- Before the body. -/
def bodyIn : sProp 𝕄 :=
  iprop((∃ W, owes (me : Thread nD τ) (Ow me 0 0 0) W) ∗ Args me x ∗ (∃ f, accPto me Finset.univ f) ∗ (∃ f, rcvPto me Finset.univ f)
    ∗ (∃ f, outPto me Finset.univ f) ∗ atPos ER (barCell me) 0 ∅ 0 ∗ pos me 0 0 ∗ pos me 0 1 ∗ pos me 0 2 ∗ pos me 0 3 ∗ own4 me
    ∗ (bigSep (rng me 0 16) fun p => dutyTok ER (barCell p) 0 me) ∗ tokS me 0 ∗ tokR me 1 ∗ tokS me 2 ∗ tokR me 3
    ∗ cred (tallyAt (barCell me) () 15) ∗ snt me 1 ∗ snt me 3)

/-- After it. -/
def bodyOut : sProp 𝕄 :=
  iprop((∃ W, owes (me : Thread nD τ) (Ow me 16 16 16) W) ∗ Args me x ∗ (∃ f, accPto me Finset.univ f) ∗ (∃ f, rcvPto me Finset.univ f)
    ∗ outPto me Finset.univ O ∗ semVal (barCell me) 0 ∗ bigSep Finset.univ fun ji : Fin 4 × Dev nD => semVal (dCell ji.1 ji.2 me) 0)

/-- Carried through the signals, -/
def F18 : sProp 𝕄 :=
  iprop((∃ f, accPto me Finset.univ f) ∗ (∃ f, rcvPts me me f) ∗ (∃ f, outPts me me fullShare f) ∗ pos me 0 0 ∗ pos me 0 1 ∗ pos me 0 2
    ∗ pos me 0 3 ∗ own4 me ∗ tokS me 0 ∗ tokR me 1 ∗ tokS me 2 ∗ tokR me 3 ∗ snt me 1 ∗ snt me 3)
/-- through the sending of the partial's chunks, -/
def F22 : sProp 𝕄 :=
  iprop(atPos ER (barCell me) 1 ∅ 0 ∗ (bigSep (rng me 0 16) fun p => iprop(∃ f, outPts p me fullShare f)) ∗ (∃ f, rcvPts me me f)
    ∗ (∃ f, outPts me me fullShare f) ∗ pos me 0 0 ∗ pos me 0 1 ∗ pos me 0 2 ∗ pos me 0 3 ∗ own4 me ∗ tokS me 2 ∗ tokR me 3 ∗ snt me 1 ∗ snt me 3)
/-- through the sum, -/
def F27 : sProp 𝕄 :=
  iprop((∃ f, outPts me me fullShare f) ∗ bigSep (rng me 0 16) (waitΦ 0 me) ∗ bigSep (rng me 0 16) (waitΦ 3 me) ∗ Args me x
    ∗ atPos ER (barCell me) 1 ∅ 0 ∗ (bigSep (rng me 0 16) fun p => iprop(∃ f, outPts p me fullShare f)) ∗ pos me 0 2 ∗ own4 me ∗ tokS me 2 ∗ tokR me 3)
/-- through the store of the sum, -/
def F29 : sProp 𝕄 :=
  iprop(records P O K ∗ (∃ W, owes (me : Thread nD τ) (Ow me 16 16 0) W) ∗ accPts me me (P me) ∗ rcvPto me Finset.univ (rcvAll P me) ∗ pos me 1 1
    ∗ bigSep (rng me 0 16) (waitΦ 0 me) ∗ bigSep (rng me 0 16) (waitΦ 3 me) ∗ Args me x
    ∗ atPos ER (barCell me) 1 ∅ 0 ∗ (bigSep (rng me 0 16) fun p => iprop(∃ f, outPts p me fullShare f)) ∗ pos me 0 2 ∗ own4 me ∗ tokS me 2 ∗ tokR me 3)
/-- to the end, -/
def FZ : sProp 𝕄 :=
  iprop(accPts me me (P me) ∗ rcvPto me Finset.univ (rcvAll P me) ∗ pos me 1 1 ∗ Args me x ∗ atPos ER (barCell me) 1 ∅ 0
    ∗ outPts me me (lfShare me) O ∗ own4 me)
/-- and through the sending of the result's chunks. -/
def FA : sProp 𝕄 :=
  iprop(bigSep (rng me 0 16) (waitΦ 0 me) ∗ bigSep (rng me 0 16) (waitΦ 3 me) ∗ pos me 0 2 ∗ FZ P O me x)

/-! ## From phase to phase -/

theorem to_signals : iprop(records P O K ∗ bodyIn me x)
    ⊢ iprop(records P O K ∗ St me (fun k => Ow me k 0 0) (sigΦ me) (fun _ => iprop(emp)) 0 0 16
      ∗ (atPos ER (barCell me) 0 ∅ 0 ∗ cred (tallyAt (barCell me) () 15) ∗ Args me x ∗ F18 me)) := by
  unfold bodyIn F18
  iintro ⟨HR, HO, HA, Hacc, ⟨%f, Hr⟩, ⟨%g, Ho⟩, HB, Hp0, Hp1, Hp2, Hp3, Hw, HtB, Ht0, Ht1, Ht2, Ht3, HcB, Hs1, Hs3⟩
  ihave H := (hand_over me f g) $$ [Hr Ho HtB]
  · isplitl [Hr]; · iexact Hr
    isplitl [Ho] <;> iassumption
  icases H with ⟨HΦ, Hr, Ho⟩
  isplitl [HR]; · iexact HR
  isplitl [HO HΦ]
  · iapply (St_start me (fun k => Ow me k 0 0) (sigΦ me) (fun _ => iprop(emp)) 0 16)
    isplitl [HO] <;> iassumption
  isplitl [HB]; · iexact HB
  isplitl [HcB]; · iexact HcB
  isplitl [HA]; · iexact HA
  isplitl [Hacc]; · iexact Hacc
  isplitl [Hr]
  · iexists f; iexact Hr
  isplitl [Ho]
  · iexists g; iexact Ho
  isplitl [Hp0]; · iexact Hp0
  isplitl [Hp1]; · iexact Hp1
  isplitl [Hp2]; · iexact Hp2
  isplitl [Hp3]; · iexact Hp3
  isplitl [Hw]; · iexact Hw
  isplitl [Ht0]; · iexact Ht0
  isplitl [Ht1]; · iexact Ht1
  isplitl [Ht2]; · iexact Ht2
  isplitl [Ht3]; · iexact Ht3
  isplitl [Hs1]; · iexact Hs1
  iexact Hs3

omit [FloatOps F] in
theorem bar_pays : bigSep (rng me 0 16) (fun p => barPay me p)
    = (iprop((bigSep (rng me 0 16) fun p => iprop(∃ f, rcvPts p me f)) ∗ bigSep (rng me 0 16) fun p => iprop(∃ f, outPts p me fullShare f)) : sProp 𝕄) :=
  bigSep_2
omit [FloatOps F] in
theorem rs_pays : bigSep (rng me 0 16) (rsRes me)
    = (iprop((tokS me 0 ∗ tokR me 1) ∗ bigSep (rng me 0 16) fun p => iprop(∃ f, rcvPts p me f)) : sProp 𝕄) := by
  rw [← bigSep_2, ← bigSep_2]; rfl

theorem to_partial : iprop(atPos ER (barCell me) 1 ∅ 0 ∗ bigSep (rng me 0 16) (fun p => barPay (F := F) me p) ∗ F18 (F := F) me)
    ⊢ iprop((∃ f : AccC F, accPto me Finset.univ f) ∗ bigSep (rng me 0 16) (rsRes me) ∗ F22 me) := by
  unfold F18 F22
  rw [bar_pays, rs_pays]
  iintro ⟨HB, ⟨Hrs, Hos⟩, Hacc, Hr, Ho, Hp0, Hp1, Hp2, Hp3, Hw, Ht0, Ht1, Ht2, Ht3, Hs1, Hs3⟩
  isplitl [Hacc]; · iexact Hacc
  isplitl [Ht0 Ht1 Hrs]
  · isplitl [Ht0 Ht1]
    · isplitl [Ht0] <;> iassumption
    iexact Hrs
  isplitl [HB]; · iexact HB
  isplitl [Hos]; · iexact Hos
  isplitl [Hr]; · iexact Hr
  isplitl [Ho]; · iexact Ho
  isplitl [Hp0]; · iexact Hp0
  isplitl [Hp1]; · iexact Hp1
  isplitl [Hp2]; · iexact Hp2
  isplitl [Hp3]; · iexact Hp3
  isplitl [Hw]; · iexact Hw
  isplitl [Ht2]; · iexact Ht2
  isplitl [Ht3]; · iexact Ht3
  isplitl [Hs1]; · iexact Hs1
  iexact Hs3

omit [FloatOps F] in
theorem wait_pays (j : Fin 4) : bigSep (rng me 0 16) (waitΦ j me) = (iprop(pos me 0 j ∗ snt me j) : sProp 𝕄) := bigSep_2

theorem to_sum : iprop(records P O K ∗ St me (fun k => Ow me 16 k 0) (rsΦ P me) (sentΨ 0 me) 0 16 16 ∗ (accPts me me (P me) ∗ Args me x ∗ F22 me))
    ⊢ iprop((∃ f, rcvPts me me f) ∗ accPts me me (P me) ∗ records P O K ∗ (∃ W, owes (me : Thread nD τ) (Ow me 16 16 0) W)
      ∗ bigSep (rng me 0 16) (waitΦ 1 me) ∗ F27 me x) := by
  unfold F22 F27
  rw [wait_pays, wait_pays, wait_pays]
  iintro ⟨HR, HS, Ha, HA, HB, Hos, Hr, Ho, Hp0, Hp1, Hp2, Hp3, Hw, Ht2, Ht3, Hs1, Hs3⟩
  ihave HS' := (St_end me (fun k => Ow me 16 k 0) (rsΦ P me) (sentΨ 0 me) 0 16) $$ HS
  icases HS' with ⟨HO, Hs0⟩
  isplitl [Hr]; · iexact Hr
  isplitl [Ha]; · iexact Ha
  isplitl [HR]; · iexact HR
  isplitl [HO]; · iexact HO
  isplitl [Hp1 Hs1]
  · isplitl [Hp1] <;> iassumption
  isplitl [Ho]; · iexact Ho
  isplitl [Hp0 Hs0]
  · isplitl [Hp0] <;> iassumption
  isplitl [Hp3 Hs3]
  · isplitl [Hp3] <;> iassumption
  isplitl [HA]; · iexact HA
  isplitl [HB]; · iexact HB
  isplitl [Hos]; · iexact Hos
  isplitl [Hp2]; · iexact Hp2
  isplitl [Hw]; · iexact Hw
  isplitl [Ht2]; · iexact Ht2
  iexact Ht3

theorem to_store : iprop(records P O K ∗ ((∃ W, owes (me : Thread nD τ) (Ow me 16 16 0) W) ∗ accPts me me (P me) ∗ rcvPto me Finset.univ (rcvAll P me)
      ∗ bigSep (rng me 0 16) (fun i => atPos ER (dCell 1 i me) 1 ∅ 0) ∗ F27 me x))
    ⊢ iprop((∃ f, outPts me me fullShare f) ∗ F29 P O K me x) := by
  unfold F27 F29
  iintro ⟨HR, HO, Ha, Hr, Hp1, Ho, HΦ0, HΦ3, HA, HB, Hos, Hp2, Hw, Ht2, Ht3⟩
  isplitl [Ho]; · iexact Ho
  isplitl [HR]; · iexact HR
  isplitl [HO]; · iexact HO
  isplitl [Ha]; · iexact Ha
  isplitl [Hr]; · iexact Hr
  isplitl [Hp1]; · iexact Hp1
  isplitl [HΦ0]; · iexact HΦ0
  isplitl [HΦ3]; · iexact HΦ3
  isplitl [HA]; · iexact HA
  isplitl [HB]; · iexact HB
  isplitl [Hos]; · iexact Hos
  isplitl [Hp2]; · iexact Hp2
  isplitl [Hw]; · iexact Hw
  isplitl [Ht2]; · iexact Ht2
  iexact Ht3

omit [FloatOps F] in
theorem ag_pays : bigSep (rng me 0 16) (agΦ O me)
    = (iprop(tokS me 2 ∗ tokR me 3 ∗ (bigSep (rng me 0 16) fun p => outPts me me (lfShare p) O)
        ∗ bigSep (rng me 0 16) fun p => iprop(∃ f, outPts p me fullShare f)) : sProp 𝕄) := by
  rw [← bigSep_2, ← bigSep_2, ← bigSep_2]; rfl

theorem to_gather : iprop(outPts me me fullShare O ∗ F29 P O K me x)
    ⊢ iprop(records P O K ∗ St me (fun k => Ow me 16 16 k) (agΦ O me) (sentΨ 2 me) 0 0 16 ∗ FA P O me x) := by
  unfold F29 FA FZ
  rw [out_leaves]
  iintro ⟨⟨Ho, Hls⟩, HR, HO, Ha, Hr, Hp1, HΦ0, HΦ3, HA, HB, Hos, Hp2, Hw, Ht2, Ht3⟩
  isplitl [HR]; · iexact HR
  isplitl [HO Ht2 Ht3 Hls Hos]
  · iapply (St_start me (fun k => Ow me 16 16 k) (agΦ O me) (sentΨ 2 me) 0 16)
    isplitl [HO]; · iexact HO
    iapply (Entails.of_eq (ag_pays O me).symm)
    isplitl [Ht2]; · iexact Ht2
    isplitl [Ht3]; · iexact Ht3
    isplitl [Hls] <;> iassumption
  isplitl [HΦ0]; · iexact HΦ0
  isplitl [HΦ3]; · iexact HΦ3
  isplitl [Hp2]; · iexact Hp2
  isplitl [Ha]; · iexact Ha
  isplitl [Hr]; · iexact Hr
  isplitl [Hp1]; · iexact Hp1
  isplitl [HA]; · iexact HA
  isplitl [HB]; · iexact HB
  isplitl [Ho]; · iexact Ho
  iexact Hw

theorem to_waits : iprop(records P O K ∗ St me (fun k => Ow me 16 16 k) (agΦ O me) (sentΨ 2 me) 0 16 16 ∗ FA P O me x)
    ⊢ iprop(records P O K ∗ St me (fun _ => Ow me 16 16 16) (waitΦ 3 me) (waitΨ P O 3 me) 0 0 16
      ∗ (bigSep (rng me 0 16) (waitΦ 0 me) ∗ (bigSep (rng me 0 16) (waitΦ 2 me) ∗ FZ P O me x))) := by
  unfold FA
  iintro ⟨HR, HS, HΦ0, HΦ3, Hp2, HZ⟩
  ihave HS' := (St_end me (fun k => Ow me 16 16 k) (agΦ O me) (sentΨ 2 me) 0 16) $$ HS
  icases HS' with ⟨HO, Hs2⟩
  isplitl [HR]; · iexact HR
  isplitl [HO HΦ3]
  · iapply (St_start me (fun _ => Ow me 16 16 16) (waitΦ 3 me) (waitΨ P O 3 me) 0 16)
    isplitl [HO] <;> iassumption
  isplitl [HΦ0]; · iexact HΦ0
  isplitl [Hp2 Hs2]
  · iapply (Entails.of_eq (wait_pays me 2).symm)
    isplitl [Hp2] <;> iassumption
  iexact HZ

omit [FloatOps F] in
theorem swap34 (A B C D E : sProp 𝕄) : iprop(A ∗ B ∗ (C ∗ (D ∗ E))) ⊢ iprop(A ∗ B ∗ (D ∗ (C ∗ E))) := by
  iintro ⟨HA, HB, HC, HD, HE⟩
  isplitl [HA]; · iexact HA
  isplitl [HB]; · iexact HB
  isplitl [HD]; · iexact HD
  isplitl [HC]; · iexact HC
  iexact HE

/-! ## The end of the body -/

omit [FloatOps F] in
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem close_one (ck : Dev nD × KI) (r : ℕ) (hr : ∀ r', r ≤ r' → (ringRd (F := F) P O).duties (kcell ck) r' = ∅) :
    iprop(records P O K ∗ atPos ER (kcell ck) r ∅ 0) ⊢ (|={Set.univ}=> semVal (kcell ck) 0 : sProp 𝕄) := by
  iintro ⟨#HR, Hat⟩
  ihave #HI := (inv_at P O K ck) $$ HR
  imod (Rounds.cell_close ER (ringRd P O) (Set.mem_univ (K ck)) (fun h => h) (R := r) hr) $$ [Hat] with Hz
  · isplitr; · iexact HI
    iexact Hat
  imodintro; iexact Hz

omit [FloatOps F] in
theorem close_kind (j : Fin 4) : iprop(records P O K ∗ pos me 1 j ∗ atPos ER (dCell j me me) 0 ∅ 0)
    ⊢ (|={Set.univ}=> bigSep Finset.univ fun i => semVal (dCell j i me) 0 : sProp 𝕄) := by
  have h1 : iprop(records P O K ∗ pos me 1 j) ⊢ (|={Set.univ}=> bigSep (rng me 0 16) fun i => semVal (dCell j i me) 0 : sProp 𝕄) :=
    (bigSep_using (R := records P O K) fun i _ => close_one P O K (me, some (j, i)) 1 (duties_later P O _)).trans (bigSep_fupd _ _)
  rw [bigSep_mem rfl me (Φ := fun i => (semVal (dCell j i me) 0 : sProp 𝕄))]
  iintro ⟨#HR, Hp, Hw⟩
  imod h1 $$ [Hp] with Hz
  · isplitr; · iexact HR
    iexact Hp
  imod (close_one P O K (me, some (j, me)) 0 (fun r _ => duties_own P O me j r)) $$ [Hw] with Hz'
  · isplitr; · iexact HR
    iexact Hw
  imodintro
  isplitl [Hz'] <;> iassumption

omit [FloatOps F] in
theorem bigSep_four (Φ : Fin 4 × Dev nD → sProp 𝕄) : bigSep Finset.univ Φ
    = iprop((bigSep Finset.univ fun i => Φ (0, i)) ∗ (bigSep Finset.univ fun i => Φ (1, i)) ∗ (bigSep Finset.univ fun i => Φ (2, i))
        ∗ bigSep Finset.univ fun i => Φ (3, i)) := by
  rw [bigSep_univ_prod]
  exact bigSep_univ_eq_bigSepL [0, 1, 2, 3] (by decide) (by decide) fun j => bigSep Finset.univ fun i => Φ (j, i)

omit [FloatOps F] in
theorem waited (j : Fin 4) : bigSep (rng me 0 16) (waitΨ P O j me) = iprop(pos me 1 j ∗ bigSep (rng me 0 16) fun i => xferPay P O j i me) := bigSep_2

theorem to_end : iprop(records P O K ∗ St me (fun _ => Ow me 16 16 16) (waitΦ 2 me) (waitΨ P O 2 me) 0 16 16
      ∗ (bigSep (rng me 0 16) (waitΨ P O 0 me) ∗ (bigSep (rng me 0 16) (waitΨ P O 3 me) ∗ FZ P O me x)))
    ⊢ |={Set.univ}=> bodyOut O me x := by
  unfold FZ bodyOut
  rw [waited, waited, bigSep_four]
  iintro ⟨#HR, HS, ⟨Hp0, Has⟩, ⟨Hp3, Hos⟩, Ha, Hr, Hp1, HA, HB, Ho, Hw0, Hw1, Hw2, Hw3⟩
  ihave HS' := (St_end me (fun _ => Ow me 16 16 16) (waitΦ 2 me) (waitΨ P O 2 me) 0 16) $$ HS
  icases HS' with ⟨HO, HΨ⟩
  ihave HΨ' := (Entails.of_eq (waited P O me 2)) $$ HΨ
  icases HΨ' with ⟨Hp2, Hls⟩
  imod (close_kind P O K me 0) $$ [Hp0 Hw0] with Hz0
  · isplitr; · iexact HR
    isplitl [Hp0] <;> iassumption
  imod (close_kind P O K me 1) $$ [Hp1 Hw1] with Hz1
  · isplitr; · iexact HR
    isplitl [Hp1] <;> iassumption
  imod (close_kind P O K me 2) $$ [Hp2 Hw2] with Hz2
  · isplitr; · iexact HR
    isplitl [Hp2] <;> iassumption
  imod (close_kind P O K me 3) $$ [Hp3 Hw3] with Hz3
  · isplitr; · iexact HR
    isplitl [Hp3] <;> iassumption
  imod (close_one P O K (me, none) 1 (duties_later P O _)) $$ [HB] with HzB
  · isplitr; · iexact HR
    iexact HB
  imodintro
  isplitl [HO]; · iexact HO
  isplitl [HA]; · iexact HA
  isplitl [Ha Has]
  · iexists (P me)
    iapply (Entails.of_eq (acc_whole me (P me)).symm)
    isplitl [Ha]; · iexact Ha
    iexact Has
  isplitl [Hr]
  · iexists (rcvAll P me); iexact Hr
  isplitl [Ho Hls Hos]
  · iapply (Entails.of_eq (out_whole me O).symm)
    isplitl [Ho Hls]
    · iapply (Entails.of_eq (out_leaves me O).symm)
      isplitl [Ho]; · iexact Ho
      iexact Hls
    iexact Hos
  isplitl [HzB]; · iexact HzB
  isplitl [Hz0]; · iexact Hz0
  isplitl [Hz1]; · iexact Hz1
  isplitl [Hz2]; · iexact Hz2
  iexact Hz3

/-! ## The body -/

set_option maxRecDepth 200000 in
/-- The body of one device, from what it starts with to what it leaves. -/
theorem body (hP : P me = accOf me x) (hO : O = outOf P) :
    iprop(records P O K ∗ bodyIn me x) ⊢ wpM me (cc0_body (F := F) x0M x0W x1M x1W x2M x2W x3M x3W x4M x4W outM outW accM accW rcvM rcvW cc0_scratch2 cc0_scratch3 cc0_scratch4 cc0_scratch5) (fun _ => bodyOut O me x) := by
  subst hO
  rw [cc0_body_eq_skeleton]; unfold cc0_body_skel
  refine BIBase.Entails.trans (to_signals P _ K me x) ?_
  refine bind_part me (hp := fun Q' h => part17 P _ K me h) ?_
  refine bind_part me (hp := fun Q' h => part18 P _ K me x h) ?_
  refine bind_part me (hp := fun Q' h => part19 me h) ?_
  refine bind_part me (hp := fun Q' h => part20 me x h) ?_
  refine bind_part me (hp := fun Q' h => part21 me x h) ?_
  refine BIBase.Entails.trans (sep_mono_right (sep_mono_right (sep_mono_right (to_partial me)))) ?_
  refine bind_part me (hp := fun Q' h => part22 P _ K me x hP h) ?_
  refine bind_part me (hp := fun Q' h => part23 P _ K me x h) ?_
  refine bind_part me (hp := fun Q' h => part24 me x h) ?_
  refine bind_part me (hp := fun Q' h => part25 me x h) ?_
  refine bind_part me (hp := fun Q' h => part26 P _ K me x hP h) ?_
  refine BIBase.Entails.trans (to_sum P _ K me x) ?_
  refine bind_part me (hp := fun Q' h => part27 P _ K me fun v hv => by subst hv; exact h) ?_
  rw [wpM_bind]
  refine part28 P _ K me fun c d e => ?_
  refine BIBase.Entails.trans (to_store P _ K me x) ?_
  refine bind_any me (hp := fun Q' h => part29 P me h) ?_
  rintro ⟨a1, a2, a3⟩
  refine BIBase.Entails.trans (to_gather P _ K me x) ?_
  refine bind_any me (hp := fun Q' h => part30 me h) ?_
  rintro ⟨a0, a1, a2⟩
  refine bind_any me (hp := fun Q' h => part31 P _ K me h) ?_
  rintro ⟨a0, a1, a2, a3⟩
  refine bind_any me (hp := fun Q' h => part32 P _ K me h) ?_
  rintro ⟨a0, a1, a2⟩
  refine bind_any me (hp := fun Q' h => part33 me h) ?_
  rintro ⟨a0, a1, a2, a3, a4⟩
  refine bind_any me (hp := fun Q' h => part34 P _ K me h) ?_
  rintro ⟨a0, a1, a2⟩
  refine bind_any me (hp := fun Q' h => part35 P _ K me h) ?_
  rintro ⟨a0, a1, a2, a3⟩
  refine bind_any me (hp := fun Q' h => part36 me h) ?_
  rintro ⟨a0, a1, a2, a3⟩
  refine bind_any me (hp := fun Q' h => part37 P _ K me h) ?_
  rintro ⟨a0, a1, a2⟩
  refine bind_any me (hp := fun Q' h => part38 P _ K me h) ?_
  rintro ⟨a0, a1, a2, a3, a4⟩
  refine bind_any me (hp := fun Q' h => part39 me h) ?_
  rintro ⟨a0, a1, a2⟩
  refine bind_any me (hp := fun Q' h => part40 P _ K me h) ?_
  intro a1
  refine bind_any me (hp := fun Q' h => part41 P _ K me h) ?_
  rintro ⟨a0, a1, a2, a3⟩
  refine bind_any me (hp := fun Q' h => part42 me h) ?_
  rintro ⟨a0, a1⟩
  refine bind_any me (hp := fun Q' h => part43 P _ K me h) ?_
  rintro ⟨a0, a1⟩
  refine bind_any me (hp := fun Q' h => part44 P _ K me h) ?_
  rintro ⟨a0, a1, a2, a3⟩
  refine bind_any me (hp := fun Q' h => part45 me h) ?_
  rintro ⟨a0, a1, a2⟩
  refine bind_any me (hp := fun Q' h => part46 P _ K me h) ?_
  rintro ⟨a0, a1, a2⟩
  refine bind_any me (hp := fun Q' h => part47 P _ K me h) ?_
  rintro ⟨a0, a1, a2, a3⟩
  refine bind_any me (hp := fun Q' h => part48 me h) ?_
  rintro ⟨a0, a1⟩
  refine bind_any me (hp := fun Q' h => part49 P _ K me h) ?_
  rintro ⟨a0, a1, a2, a3⟩
  refine bind_any me (hp := fun Q' h => part50 P _ K me h) ?_
  rintro ⟨a0, a1, a2, a3⟩
  refine bind_any me (hp := fun Q' h => part51 me h) ?_
  intro a1
  refine bind_any me (hp := fun Q' h => part52 P _ K me h) ?_
  rintro ⟨a0, a1, a2, a3, a4⟩
  refine bind_any me (hp := fun Q' h => part53 P _ K me h) ?_
  rintro ⟨a0, a1⟩
  refine BIBase.Entails.trans (to_waits P _ K me x) ?_
  refine bind_any me (hp := fun Q' h => part54 P _ K me h) ?_
  rintro ⟨a1, a2⟩
  refine bind_part me (hp := fun Q' h => part55 P _ K me h) ?_
  refine bind_any me (hp := fun Q' h => part56 P _ K me h) ?_
  intro a1
  refine BIBase.Entails.trans (swap34 _ _ _ _ _) ?_
  refine bind_any me (hp := fun Q' h => part57 P _ K me h) ?_
  intro a1
  refine bind_any me (hp := fun Q' h => part58 P _ K me h) ?_
  rintro ⟨a1, a2⟩
  refine step P (outOf P) K me (dv 13) (Nat.zero_le _) (by decide) (by clear * - me; revert me; decide +kernel) rfl
    (fun h hk W Q' => op_wait P (outOf P) K 2 hk (fun _ => Ow me 16 16 16) rfl 3 (lvs_le _) (Ow_none me) (by rfl) (sem_agSend (dv 13) _ rfl _) W Q') ?_
  refine step P (outOf P) K me (dv 14) (Nat.zero_le _) (by decide) (by clear * - me; revert me; decide +kernel) rfl
    (fun h hk W Q' => op_wait P (outOf P) K 2 hk (fun _ => Ow me 16 16 16) rfl 3 (lvs_le _) (Ow_none me) (by rfl) (sem_agSend (dv 14) _ rfl _) W Q') ?_
  refine step P (outOf P) K me (dv 15) (Nat.zero_le _) (by decide) (by clear * - me; revert me; decide +kernel) rfl
    (fun h hk W Q' => op_wait P (outOf P) K 2 hk (fun _ => Ow me 16 16 16) rfl 3 (lvs_le _) (Ow_none me) (by rfl) (sem_agSend (dv 15) _ rfl _) W Q') ?_
  rw [Prog.pure_eq_ret, wpM, wp_ret]
  exact to_end P _ K me x

end Cert.KernelIdealProof
-- ==== Proof.KernelIdealRun1.lean ====
module
public import proofs.«01_k».proof.Proof.KernelIdealPhases
public import proofs.«01_k».proof.Proof.KernelIdealBody
import all proofs.«01_k».proof.Proof.Gen.KernelIdeal.Skeleton
@[expose] public section

set_option maxRecDepth 100000

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → AccC F) (O : OutC F)

set_option maxHeartbeats 8000000

omit [FloatOps F] in
theorem bigSep_opt {α : Type} [Fintype α] [DecidableEq α] (Φ : Option α → sProp 𝕄) :
    bigSep Finset.univ Φ = iprop(Φ none ∗ bigSep Finset.univ fun a => Φ (some a)) := by
  rw [bigSep_univ_at Φ none, show (Finset.univ.erase (none : Option α)) = Finset.univ.map Function.Embedding.some from by
    ext a; cases a <;> simp, BI.bigSep_map]
  rfl

omit [FloatOps F] in
theorem drop_own (me : Dev nD) (Φ : Dev nD → sProp 𝕄) : bigSep Finset.univ Φ ⊢ bigSep (rng me 0 16) Φ :=
  BI.bigSep_subset (Finset.subset_univ _)

section Launch
variable (m : (ℓ : Loc nD τ sig) → Buf (Elt F) ℓ) (ρ : Dev nD → PrngReg)

/-! ## What a device computes from what it is given -/

/-- The five argument blocks staged on device `c`. -/
def xin (c : Dev nD) : Ins F where
  x0 := (win0_0.blk (0 : Fin 1)).view.read (Elt F) ((s₀ m ρ).mem ((c : Thread nD τ).loc main_arg0))
  x1 := (win0_1.blk (0 : Fin 1)).view.read (Elt F) ((s₀ m ρ).mem ((c : Thread nD τ).loc main_arg1))
  x2 := (win0_2.blk (0 : Fin 1)).view.read (Elt F) ((s₀ m ρ).mem ((c : Thread nD τ).loc main_arg2))
  x3 := (win0_3.blk (0 : Fin 1)).view.read (Elt F) ((s₀ m ρ).mem ((c : Thread nD τ).loc main_arg3))
  x4 := (win0_4.blk (0 : Fin 1)).view.read (Elt F) ((s₀ m ρ).mem ((c : Thread nD τ).loc main_arg4))

/-- Every device's partial result. -/
def PP (c : Dev nD) : AccC F := accOf c (xin m ρ c)
/-- The result, the same on all devices. -/
def OO : OutC F := outOf (PP m ρ)

/-! ## The pipeline's proof data -/

/-- The invariants and reached-marks of every cell. -/
def recs (K : Dev nD × KI → ℕ) : sProp 𝕄 :=
  iprop((bigSep Finset.univ fun ck : Dev nD × KI => cellInv ER (ringRd (PP m ρ) (OO m ρ)) (K ck) (kcell ck))
    ∗ bigSep Finset.univ fun ck : Dev nD × KI => reached ER (kcell ck) 0)

instance recs_persistent (K : Dev nD × KI → ℕ) : BI.Persistent (recs m ρ K) := by unfold recs; infer_instance

/-- Where device `c` stands: at round 0 of its cells. -/
def posns (c : Dev nD) : sProp 𝕄 :=
  iprop(atPos ER (barCell c) 0 ∅ 0 ∗ pos c 0 0 ∗ pos c 0 1 ∗ pos c 0 2 ∗ pos c 0 3 ∗ own4 c)
/-- The duty tokens device `c` pays with. -/
def payToks (c : Dev nD) : sProp 𝕄 :=
  iprop((bigSep (rng c 0 16) fun p => dutyTok ER (barCell p) 0 c) ∗ tokS c 0 ∗ tokR c 1 ∗ tokS c 2 ∗ tokR c 3)

/-- What the global step deals device `c`. -/
def G' (c : Dev nD) : sProp 𝕄 := iprop(∃ K, recs m ρ K ∗ posns c ∗ payToks c)

/-- The credit device `c` waits with. -/
def crds (c : Dev nD) : sProp 𝕄 := iprop(cred (tallyAt (barCell c) () 15) ∗ snt c 1 ∗ snt c 3)

/-- What device `c`'s body starts from, -/
def start (c : Dev nD) : sProp 𝕄 := iprop(G' m ρ c ∗ crds c ∗ levAts L lv)

def Φ₀ (c : Dev nD) : sProp 𝕄 := iprop(start m ρ c ∗ (∃ f : AccC F, accPto c Finset.univ f) ∗ (∃ f : RcvC F, rcvPto c Finset.univ f))
/-- and what it ends with beside the windows. -/
def Φ₁ (c : Dev nD) : sProp 𝕄 := iprop((∃ f : AccC F, accPto c Finset.univ f) ∗ (∃ f : RcvC F, rcvPto c Finset.univ f) ∗ semVal (barCell c) 0
  ∗ bigSep Finset.univ fun ji : Fin 4 × Dev nD => semVal (dCell ji.1 ji.2 c) 0)

/-- What each device owes at launch. -/
def O₀ (c : Dev nD) : CellTallies nD τ sig Unit := Ow c 0 0 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (xin m ρ c).x0
    | ⟨1, _⟩ => (xin m ρ c).x1
    | ⟨2, _⟩ => (xin m ρ c).x2
    | ⟨3, _⟩ => (xin m ρ c).x3
    | ⟨4, _⟩ => (xin m ρ c).x4
    | ⟨5, _⟩ => OO m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_in (t : Fin cfg0.N) (w : Fin 6) (h : w ≠ 5) : (cfg0.win w).fetch t = true := by
  rw [fin_N0 t]; fin_cases w <;> first | rfl | exact absurd rfl h

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

def bodyPost (c : Dev nD) : sProp 𝕄 :=
  iprop(Φ₁ c ∗ (dats m ρ 0 c).owesAt () t0_0.succ ∗ stg c cc0_stg0_0 (xin m ρ c).x0 ∗ stg c cc0_stg1_0 (xin m ρ c).x1
    ∗ stg c cc0_stg2_0 (xin m ρ c).x2 ∗ stg c cc0_stg3_0 (xin m ρ c).x3 ∗ stg c cc0_stg4_0 (xin m ρ c).x4 ∗ stg c cc0_stg5_0 (OO m ρ))

theorem before_0 (c : Dev nD) (d) : (dats m ρ 0 c).before (0 : Fin 6) t0_0 d = (xin m ρ c).x0 := by
  unfold Dat.before; rw [if_pos (fetch_in t0_0 0 (by decide))]; rfl
theorem before_1 (c : Dev nD) (d) : (dats m ρ 0 c).before (1 : Fin 6) t0_0 d = (xin m ρ c).x1 := by
  unfold Dat.before; rw [if_pos (fetch_in t0_0 1 (by decide))]; rfl
theorem before_2 (c : Dev nD) (d) : (dats m ρ 0 c).before (2 : Fin 6) t0_0 d = (xin m ρ c).x2 := by
  unfold Dat.before; rw [if_pos (fetch_in t0_0 2 (by decide))]; rfl
theorem before_3 (c : Dev nD) (d) : (dats m ρ 0 c).before (3 : Fin 6) t0_0 d = (xin m ρ c).x3 := by
  unfold Dat.before; rw [if_pos (fetch_in t0_0 3 (by decide))]; rfl
theorem before_4 (c : Dev nD) (d) : (dats m ρ 0 c).before (4 : Fin 6) t0_0 d = (xin m ρ c).x4 := by
  unfold Dat.before; rw [if_pos (fetch_in t0_0 4 (by decide))]; rfl

theorem pre_in (c : Dev nD) : bodyPre m ρ c ⊢ (iprop(∃ K, records (PP m ρ) (OO m ρ) K ∗ bodyIn c (xin m ρ c)) : sProp 𝕄) := by
  unfold bodyPre Φ₀ start G' posns payToks crds recs
  simp only [before_0, before_1, before_2, before_3, before_4]
  unfold Dat.owesAt Pipeline.owesWithin
  rw [show (dats m ρ 0 c).owed t0_0.castSucc = Ow c 0 0 0 from rfl]
  iintro ⟨⟨⟨⟨%K, ⟨#HI, #HR⟩, ⟨Hb, Hp0, Hp1, Hp2, Hp3, Ho4⟩, ⟨HtB, Ht0, Ht1, Ht2, Ht3⟩⟩, ⟨HcB, Hs1, Hs3⟩, #Hlev⟩, Hacc, Hrcv⟩,
    ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  subst h0 h1 h2 h3 h4
  iexists K
  unfold records bodyIn Args
  isplitr
  · isplitr; · iexact HI
    isplitr; · iexact HR
    iexact Hlev
  isplitl [HO]; · iexists W; iexact HO
  isplitl [H0 H1 H2 H3 H4]
  · isplitl [H0]; · iexact H0
    isplitl [H1]; · iexact H1
    isplitl [H2]; · iexact H2
    isplitl [H3]; · iexact H3
    iexact H4
  isplitl [Hacc]; · iexact Hacc
  isplitl [Hrcv]; · iexact Hrcv
  isplitl [H5]; · iexists g5; iexact H5
  isplitl [Hb]; · iexact Hb
  isplitl [Hp0]; · iexact Hp0
  isplitl [Hp1]; · iexact Hp1
  isplitl [Hp2]; · iexact Hp2
  isplitl [Hp3]; · iexact Hp3
  isplitl [Ho4]; · iexact Ho4
  isplitl [HtB]; · iexact HtB
  isplitl [Ht0]; · iexact Ht0
  isplitl [Ht1]; · iexact Ht1
  isplitl [Ht2]; · iexact Ht2
  isplitl [Ht3]; · iexact Ht3
  isplitl [HcB]; · iexact HcB
  isplitl [Hs1]; · iexact Hs1
  iexact Hs3

theorem out_post (c : Dev nD) : bodyOut (OO m ρ) c (xin m ρ c) ⊢ (bodyPost m ρ c : sProp 𝕄) := by
  unfold bodyOut bodyPost Φ₁ Args
  unfold Dat.owesAt Pipeline.owesWithin
  rw [show (dats m ρ 0 c).owed t0_0.succ = 0 from rfl, Ow_done]
  iintro ⟨⟨%W, HO⟩, ⟨H0, H1, H2, H3, H4⟩, Hacc, Hrcv, H5, Hb, Hz⟩
  isplitl [Hacc Hrcv Hb Hz]
  · isplitl [Hacc]; · iexact Hacc
    isplitl [Hrcv]; · iexact Hrcv
    isplitl [Hb]; · iexact Hb
    iexact Hz
  isplitl [HO]
  · iexists W; isplitr; · ipureintro; exact fun _ _ => Or.inl trivial
    iexact HO
  isplitl [H0]; · (iexists _; isplitr; · (ipureintro; rfl)); iexact H0
  isplitl [H1]; · (iexists _; isplitr; · (ipureintro; rfl)); iexact H1
  isplitl [H2]; · (iexists _; isplitr; · (ipureintro; rfl)); iexact H2
  isplitl [H3]; · (iexists _; isplitr; · (ipureintro; rfl)); iexact H3
  isplitl [H4]; · (iexists _; isplitr; · (ipureintro; rfl)); iexact H4
  iexists _; isplitr; · (ipureintro; rfl)
  iexact H5

/-- The library's body obligation on device `c`. -/
theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = bigSep (Finset.univ : Finset (Fin 6)) from rfl, bigSep_W0, bigSep_W0]
  simp only [owns_whole_eq]
  show bodyPre m ρ c ⊢ wpM c (cc0_body (F := F) x0M x0W x1M x1W x2M x2W x3M x3W x4M x4W outM outW accM accW rcvM rcvW cc0_scratch2 cc0_scratch3 cc0_scratch4 cc0_scratch5) (fun _ => bodyPost m ρ c)
  refine (pre_in m ρ c).trans ?_
  iintro ⟨%K, H⟩
  iapply (show iprop(records (PP m ρ) (OO m ρ) K ∗ bodyIn c (xin m ρ c)) ⊢ _ from
    (body (PP m ρ) (OO m ρ) K c (xin m ρ c) rfl rfl).trans (wp_mono _ _ _ fun _ => out_post m ρ c))
  iexact H

end Launch

end Cert.KernelIdealProof
-- ==== Proof.KernelIdealRun2.lean ====
module
public import proofs.«01_k».proof.Proof.KernelIdealPhases
public import proofs.«01_k».proof.Proof.KernelIdealRun1
public import Idealize.ShloMosaic.Lib.Pipeline.CollectiveSegs
import all proofs.«01_k».proof.Proof.Gen.KernelIdeal.Skeleton
@[expose] public section

set_option maxRecDepth 100000

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → AccC F) (O : OutC F)

set_option maxHeartbeats 8000000

omit [FloatOps F] in
/-- Two iterated conjunctions commute. -/
theorem bigSep_swap (s t : Finset (Dev nD)) (Φ : Dev nD → Dev nD → sProp 𝕄) :
    (bigSep s fun i => bigSep t fun j => Φ i j) = bigSep t fun j => bigSep s fun i => Φ i j := by
  induction s using Finset.induction_on with
  | empty => simp
  | insert i s hi ih =>
    rw [BI.bigSep_insert hi, ih, ← BI.bigSep_sep]
    exact bigSep_congr fun j _ => (BI.bigSep_insert hi (Φ := fun i => Φ i j)).symm

section Launch
variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ## The cells and the tokens -/

theorem dev_of_tc {a b : Dev nD} (h : (a : Thread nD τ) = (b : Thread nD τ)) : a = b := congrArg Prod.fst h

theorem csem_inj {k k' : KI} (h : csem k = csem k') : k = k' := by
  rcases k with _ | ⟨j, i⟩ <;> rcases k' with _ | ⟨j', i'⟩
  · rfl
  · cases h
  · cases h
  · have h' : dsem j i = dsem j' i' := SemLoc.dma.inj h
    obtain ⟨rfl, rfl⟩ := dsem_inj h'; rfl

theorem kcell_injective : Function.Injective (kcell : Dev nD × KI → GSem nD τ sig) := by
  rintro ⟨c, k⟩ ⟨c', k'⟩ h
  have h1 : c = c' := dev_of_tc (congrArg Prod.fst h)
  subst h1
  have h2 : k = k' := csem_inj (congrArg Prod.snd h)
  subst h2; rfl
def ringCells : Finset (GSem nD τ sig) := Finset.univ.map ⟨kcell, kcell_injective⟩

/-- The duty tokens minted for a device's cells: its barrier's one for each device, and one for each DMA semaphore. -/
abbrev tokOf (x : Dev nD × Option (Fin 4) × Dev nD) : GSem nD τ sig × ℕ × Dev nD := match x.2.1 with
  | none => (barCell x.1, 0, x.2.2)
  | some j => (dCell j x.2.2 x.1, 0, 0)
theorem tokOf_injective : Function.Injective (tokOf : Dev nD × Option (Fin 4) × Dev nD → GSem nD τ sig × ℕ × Dev nD) := by
  rintro ⟨c, k, i⟩ ⟨c', k', i'⟩ h
  rcases k with _ | j <;> rcases k' with _ | j'
  · have h1 : kcell (c, none) = kcell (c', none) := congrArg Prod.fst h
    have h2 : i = i' := congrArg (fun x : GSem nD τ sig × ℕ × Dev nD => x.2.2) h
    have h3 := congrArg Prod.fst (kcell_injective h1)
    change c = c' at h3
    subst h2 h3; rfl
  · have h1 : kcell (c, none) = kcell (c', some (j', i')) := congrArg Prod.fst h
    cases congrArg Prod.snd (kcell_injective h1)
  · have h1 : kcell (c, some (j, i)) = kcell (c', none) := congrArg Prod.fst h
    cases congrArg Prod.snd (kcell_injective h1)
  · have h1 : kcell (c, some (j, i)) = kcell (c', some (j', i')) := congrArg Prod.fst h
    cases kcell_injective h1; rfl
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun p => dutyTok ER (barCell c) 0 p) ∗ (bigSep Finset.univ fun p => dutyTok ER (dCell 0 p c) 0 0)
    ∗ (bigSep Finset.univ fun p => dutyTok ER (dCell 1 p c) 0 0) ∗ (bigSep Finset.univ fun p => dutyTok ER (dCell 2 p c) 0 0)
    ∗ bigSep Finset.univ fun p => dutyTok ER (dCell 3 p c) 0 0)

/-- What the launch deals device `c`. -/
def G (c : Dev nD) : sProp 𝕄 :=
  iprop((bigSep Finset.univ fun k : KI => roundState ER (ringRd (PP m ρ) (OO m ρ)) (kcell (c, k)) 0)
    ∗ (bigSep Finset.univ fun k : KI => iprop(atPos ER (kcell (c, k)) 0 ∅ 0 ∗ reached ER (kcell (c, k)) 0)) ∗ toks c)

omit [FloatOps F] in
theorem toks_eq (c : Dev nD) : (bigSep Finset.univ fun y : Option (Fin 4) × Dev nD =>
    (dutyTok ER (tokOf (c, y)).1 (tokOf (c, y)).2.1 (tokOf (c, y)).2.2 : sProp 𝕄)) = toks c := by
  rw [bigSep_univ_prod, bigSep_opt, bigSep_univ_eq_bigSepL [0, 1, 2, 3] (by decide) (by decide) (fun j : Fin 4 => _)]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : KI => Φ (kcell (c, k)) := by
    unfold ringCells; rw [BI.bigSep_map, bigSep_univ_prod]; rfl
  have hT : bigSep ringToks (fun x => (dutyTok ER x.1 x.2.1 x.2.2 : sProp 𝕄)) = bigSep Finset.univ fun c : Dev nD => toks c := by
    unfold ringToks; rw [BI.bigSep_map, bigSep_univ_prod]
    exact bigSep_congr fun c _ => toks_eq c
  iintro HX
  imod (Rounds.fund ER (ringRd (PP m ρ) (OO m ρ)) ringCells ringToks) $$ HX with ⟨Hst, Hr, Hat, Htok⟩
  imodintro
  ihave Hst' := (Entails.of_eq (hX fun g => roundState ER (ringRd (PP m ρ) (OO m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores are the 64 DMA semaphores; -/
theorem ownSems0_eq (c : Dev nD) : (Pipeline.ownSems0 (Ix := Unit) (Name := ℕ) (U := UU) (Lvl := ℕ) (Val := Elt F) (τ := τ) osem c : sProp 𝕄)
    = bigSep Finset.univ fun ji : Fin 4 × Dev nD => semVal (dCell ji.1 ji.2 c) 0 := rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [ownSems0_eq, unscopedSems0_eq, bigSep_opt]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd (PP m ρ) (OO m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KI => semVal (kcell (c, k)) 0) ∗ bigSep Finset.univ fun k : KI => roundState ER (ringRd (PP m ρ) (OO m ρ)) (kcell (c, k)) 0)
      ⊢ (|={Set.univ}=> bigSep Finset.univ fun k => iprop(∃ κ : ℕ, cellInv ER (ringRd (PP m ρ) (OO m ρ)) κ (kcell (c, k))) : sProp 𝕄) from by
        rw [← bigSep_sep']
        exact (bigSep_mono fun k _ => (Rounds.body_intro ER (ringRd (PP m ρ) (OO m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens and the positions -/

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_swap Finset.univ Finset.univ (fun c p : Dev nD => (dutyTok ER (barCell c) 0 p : sProp 𝕄)),
    bigSep_swap Finset.univ Finset.univ (fun c p : Dev nD => (dutyTok ER (dCell 1 p c) 0 0 : sProp 𝕄)),
    bigSep_swap Finset.univ Finset.univ (fun c p : Dev nD => (dutyTok ER (dCell 3 p c) 0 0 : sProp 𝕄))]
  exact BIClass.sep_mono (bigSep_mn fun c _ => drop_own c _) (BIClass.sep_mono (bigSep_mn fun c _ => drop_own c _) (BIClass.sep_mono (bigSep_mn fun c _ => drop_own c _)
    (BIClass.sep_mono (bigSep_mn fun c _ => drop_own c _) (bigSep_mn fun c _ => drop_own c _))))

omit [FloatOps F] in
theorem posns_intro (c : Dev nD) : (bigSep Finset.univ fun k : KI => (atPos ER (kcell (c, k)) 0 ∅ 0 : sProp 𝕄)) ⊢ posns c := by
  rw [bigSep_opt, bigSep_four,
    bigSep_mem rfl c (Φ := fun i => (atPos ER (kcell (c, some ((0 : Fin 4), i))) 0 ∅ 0 : sProp 𝕄)),
    bigSep_mem rfl c (Φ := fun i => (atPos ER (kcell (c, some ((1 : Fin 4), i))) 0 ∅ 0 : sProp 𝕄)),
    bigSep_mem rfl c (Φ := fun i => (atPos ER (kcell (c, some ((2 : Fin 4), i))) 0 ∅ 0 : sProp 𝕄)),
    bigSep_mem rfl c (Φ := fun i => (atPos ER (kcell (c, some ((3 : Fin 4), i))) 0 ∅ 0 : sProp 𝕄))]
  unfold posns own4
  iintro ⟨Hb, ⟨H0, Hp0⟩, ⟨H1, Hp1⟩, ⟨H2, Hp2⟩, ⟨H3, Hp3⟩⟩
  isplitl [Hb]; · iexact Hb
  isplitl [Hp0]; · iexact Hp0
  isplitl [Hp1]; · iexact Hp1
  isplitl [Hp2]; · iexact Hp2
  isplitl [Hp3]; · iexact Hp3
  isplitl [H0]; · iexact H0
  isplitl [H1]; · iexact H1
  isplitl [H2]; · iexact H2
  iexact H3

theorem regroup :
    (bigSep Finset.univ fun c : Dev nD => iprop((bigSep Finset.univ fun k => iprop(∃ κ : ℕ, cellInv ER (ringRd (PP m ρ) (OO m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × KI => iprop(∃ κ : ℕ, cellInv ER (ringRd (PP m ρ) (OO m ρ)) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (ringRd (PP m ρ) (OO m ρ)) κ (kcell ck) : sProp 𝕄))) $$ HI
  icases HK with ⟨%K, #HI⟩
  ihave Htk := (toks_around (F := F)) $$ Htok
  ihave Hps := (show (bigSep Finset.univ fun c : Dev nD => bigSep Finset.univ fun k : KI => (atPos ER (kcell (c, k)) 0 ∅ 0 : sProp 𝕄)) ⊢ bigSep Finset.univ fun c : Dev nD => posns c from
    bigSep_mn fun c _ => posns_intro c) $$ Hat
  iapply (bigSep_using (R := recs m ρ K) (Φ := fun c => iprop(posns c ∗ payToks c)) fun c _ => (show iprop(recs m ρ K ∗ posns c ∗ payToks c) ⊢ G' m ρ c from by
    unfold G'; iintro H; iexists K; iexact H))
  isplitr
  · unfold recs; isplitl; · iexact HI
    iexact HR
  · rw [bigSep_sep']
    isplitl [Hps]; · iexact Hps
    iexact Htk

/-- The global step: the cells' invariants allocated, the tokens dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem Obar_bar (d c : Dev nD) : Obar d 0 (barCell c) () = if c ≠ d then 1 else 0 := by
  unfold Obar
  rw [Finset.sum_apply, Finsupp.finset_sum_apply, Finset.sum_congr rfl fun p _ => (show tallyAt (barCell p) () 1 (barCell c) () = if p = c then 1 else 0 from by
    rw [tallyAt_apply]
    by_cases h : p = c
    · subst h; rw [if_pos ⟨rfl, rfl⟩, if_pos rfl]
    · rw [if_neg (fun h' => h (dev_of_tc (congrArg Prod.fst h'.1).symm)), if_neg h]),
    Finset.sum_ite_eq' (rng d 0 16) c fun _ => 1]
  refine if_congr ?_ rfl rfl
  rw [rng_all, Finset.mem_erase]; exact ⟨fun h => h.1, fun h => ⟨h, Finset.mem_univ _⟩⟩
theorem Oxf_bar (j : Fin 4) (d c : Dev nD) : Oxf j d 0 (barCell c) () = 0 := by
  by_contra h
  obtain ⟨p, hp⟩ := Oxf_pos (Nat.pos_of_ne_zero h)
  cases congrArg Prod.snd hp
theorem Obar_d (j : Fin 4) (i d c : Dev nD) : Obar d 0 (dCell j i c) () = 0 := by
  by_contra h
  obtain ⟨p, hp⟩ := Obar_pos (Nat.pos_of_ne_zero h)
  cases congrArg Prod.snd hp
theorem Oxf_d (j j' : Fin 4) (i d c : Dev nD) (hi : i ≠ c) : Oxf j d 0 (dCell j' i c) () = if d = i then (if j = j' then N else 0) else 0 := by
  unfold Oxf
  rw [Finset.sum_apply, Finsupp.finset_sum_apply, Finset.sum_congr rfl fun p _ => (show tallyAt (dCell j d p) () N (dCell j' i c) () = if p = c then (if d = i then (if j = j' then N else 0) else 0) else 0 from by
    rw [tallyAt_apply]
    by_cases h : p = c
    · subst h
      rw [if_pos rfl]
      by_cases h1 : d = i
      · subst h1; rw [if_pos rfl]
        by_cases h2 : j = j'
        · subst h2; rw [if_pos ⟨rfl, rfl⟩, if_pos rfl]
        · rw [if_neg (fun h' => h2 (dsem_inj (SemLoc.dma.inj (congrArg Prod.snd h'.1))).1.symm), if_neg h2]
      · rw [if_neg (fun h' => h1 (dsem_inj (SemLoc.dma.inj (congrArg Prod.snd h'.1))).2.symm), if_neg h1]
    · rw [if_neg (fun h' => h (dev_of_tc (congrArg Prod.fst h'.1).symm)), if_neg h]),
    Finset.sum_ite_eq' (rng d 0 16) c fun _ => _]
  by_cases h1 : d = i
  · subst h1
    rw [if_pos]; rw [rng_all, Finset.mem_erase]; exact ⟨hi.symm, Finset.mem_univ _⟩
  · rw [if_neg h1, ite_self]

theorem owed_bar (d c : Dev nD) : O₀ d (barCell c) () = if c ≠ d then 1 else 0 := by
  unfold O₀ Ow
  rw [Pi.add_apply, Finsupp.add_apply, Pi.add_apply, Finsupp.add_apply, Obar_bar, Oxf_bar, Oxf_bar, add_zero, add_zero]
theorem owed_d (j : Fin 4) (hj : j = 1 ∨ j = 3) (i d c : Dev nD) (hi : i ≠ c) : O₀ d (dCell j i c) () = if d = i then N else 0 := by
  unfold O₀ Ow
  rw [Pi.add_apply, Finsupp.add_apply, Pi.add_apply, Finsupp.add_apply, Obar_d, Oxf_d _ _ _ _ _ hi, Oxf_d _ _ _ _ _ hi]
  rcases hj with rfl | rfl
  · rw [if_pos (rfl : (1 : Fin 4) = 1), if_neg (show ¬ (3 : Fin 4) = 1 by decide), ite_self, add_zero, zero_add]
  · rw [if_neg (show ¬ (1 : Fin 4) = 3 by decide), if_pos (rfl : (3 : Fin 4) = 3), ite_self, zero_add, zero_add]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, ← Finset.card_filter]
  revert c; decide +kernel
theorem launch_d (j : Fin 4) (hj : j = 1 ∨ j = 3) (i c : Dev nD) (hi : i ≠ c) :
    tallyOn (dCell j i c) (launchCredit (Pipeline.owing O₀) 0 (dCell j i c)) = (tallyAt (dCell j i c) () N : CellTallies nD τ sig Unit) := by
  unfold tallyAt; refine congrArg _ (Finsupp.ext fun u => ?_); cases u
  rw [Pipeline.launchCredit_owing, Finsupp.single_eq_same, Finset.sum_congr rfl fun d _ => owed_d j hj i d c hi, Finset.sum_ite_eq' Finset.univ i fun _ => N,
    if_pos (Finset.mem_univ _)]

omit [FloatOps F] in
theorem creds (c : Dev nD) : (Pipeline.launchCred O₀ c : sProp 𝕄) ⊢ crds c := by
  unfold Pipeline.launchCred
  refine (BI.bigSep_subset (Finset.subset_univ (Finset.univ.map ⟨csem, fun _ _ h => csem_inj h⟩))).trans ?_
  rw [BI.bigSep_map, bigSep_opt, bigSep_four]
  unfold crds
  have hd (j : Fin 4) (hj : j = 1 ∨ j = 3) : (bigSep Finset.univ fun i : Dev nD => (cred (tallyOn (dCell j i c) (launchCredit (Pipeline.owing O₀) 0 (dCell j i c))) : sProp 𝕄)) ⊢ snt c j :=
    (drop_own c _).trans (bigSep_mn fun i hi => Entails.of_eq (by rw [launch_d j hj i c (mem_rng.mp hi).1]; rfl))
  show iprop(cred (tallyOn (barCell c) (launchCredit (Pipeline.owing O₀) 0 (barCell c)))
      ∗ (bigSep Finset.univ fun i : Dev nD => cred (tallyOn (dCell 0 i c) (launchCredit (Pipeline.owing O₀) 0 (dCell 0 i c))))
      ∗ (bigSep Finset.univ fun i : Dev nD => cred (tallyOn (dCell 1 i c) (launchCredit (Pipeline.owing O₀) 0 (dCell 1 i c))))
      ∗ (bigSep Finset.univ fun i : Dev nD => cred (tallyOn (dCell 2 i c) (launchCredit (Pipeline.owing O₀) 0 (dCell 2 i c))))
      ∗ (bigSep Finset.univ fun i : Dev nD => cred (tallyOn (dCell 3 i c) (launchCredit (Pipeline.owing O₀) 0 (dCell 3 i c))))) ⊢ _
  iintro ⟨Hb, -, H1, -, H3⟩
  isplitl [Hb]
  · iapply (Entails.of_eq (congrArg (fun t => (cred t : sProp 𝕄)) (launch_bar c))); iexact Hb
  isplitl [H1]
  · iapply (hd 1 (.inl rfl)); iexact H1
  · iapply (hd 3 (.inr rfl)); iexact H3

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Ha, Hr⟩
  isplitl [Hs]; · iexact Hs
  isplitl [Ha]; · iexact Ha
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Ha, Hr, HzB, Hz⟩
  isplitl [HzB]; · iexact HzB
  isplitl [Hz]; · iexact Hz
  isplitl [Ha]; · iexact Ha
  iexact Hr

theorem waits (c : Dev nD) : (levAts L lv : sProp 𝕄) ⊢ Pipeline.cellsWaits cfgs (dats m ρ) () 0 c :=
  Pipeline.cellsWaits_intro cfgs (dats m ρ) () 0 c fun w s t => by
    have hl : lvs (SemLoc.dma ((cfg0.win w).sem s)) ≤ 0 := by fin_cases w <;> fin_cases s <;> decide
    rcases t with ⟨_ | _, ht⟩
    · exact mayWait_of c _ 0 hl _ (Ow_levels c 0 0 0)
    · refine mayWait_of c _ 0 hl _ fun g u h => absurd h ?_
      exact Nat.lt_irrefl 0

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On the mesh of sixteen devices, for any float values, from any memory with zero counters: every fair execution
    terminates, and every final state has each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end unchanged, and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c 0).trans ((dats (F := F) m ρ 0 c).arrAt_in (0 : Fin 6) rfl _), (h.1 c 1).trans ((dats (F := F) m ρ 0 c).arrAt_in (1 : Fin 6) rfl _),
       (h.1 c 2).trans ((dats (F := F) m ρ 0 c).arrAt_in (2 : Fin 6) rfl _), (h.1 c 3).trans ((dats (F := F) m ρ 0 c).arrAt_in (3 : Fin 6) rfl _),
       (h.1 c 4).trans ((dats (F := F) m ρ 0 c).arrAt_in (4 : Fin 6) rfl _)⟩, h.2⟩) (run_main m ρ)

end Launch

end Cert.KernelIdealProof
-- ==== Proof.AttentionRow.lean ====
module
public import Idealize.ShloMosaic.Lib.Pointwise
@[expose] public section

/-! The scalars that the kernel and the reference both compute: one entry of a row of attention, and how a sum over
the columns is cut by devices, heads and columns of a head. -/

noncomputable section

namespace Cert.AttentionValue

open Idealize.ShloMosaic

/-- One entry of a row of attention: the row's masked scores `s` and the column `v` of the values. -/
def attRow (s v : Fin 128 → EReal) : EReal :=
  ∑ x, Ideal.div (Ideal.exp (s x - Finset.fold max (Ideal.ofBits .f32 0xFF800000#32) s Finset.univ))
    (∑ y, Ideal.exp (s y - Finset.fold max (Ideal.ofBits .f32 0xFF800000#32) s Finset.univ)) * v x

/-- A masked score: the product `r`, scaled, where the mask admits it. -/
def score (a : BitVec 1) (r : EReal) : EReal :=
  Scalar.select a (r * Ideal.ofBits .f32 0x3E000000#32) (Ideal.ofBits .f32 0xCE6E6B28#32)

/-- The block of 64 positions that position `n` lies in, as a word. -/
def blockWord (n : ℕ) : BitVec 32 := BitVec.ofNat 32 (n / 64)

/-- A sum over `m * n` positions is a sum over `m` blocks of `n`. -/
theorem sum_blocks {M : Type*} [AddCommMonoid M] (m n : ℕ) (f : Fin (m * n) → M) :
    ∑ k, f k = ∑ a : Fin m, ∑ b : Fin n, f ⟨n * a.val + b.val, by
      have h1 := a.isLt; have h2 := b.isLt
      calc n * a.val + b.val < n * a.val + n := by omega
        _ = n * (a.val + 1) := by ring
        _ ≤ n * m := Nat.mul_le_mul_left _ h1
        _ = m * n := Nat.mul_comm _ _⟩ := by
  rw [← Fintype.sum_prod_type' (f := fun (a : Fin m) (b : Fin n) => f ⟨n * a.val + b.val, _⟩),
    ← finProdFinEquiv.sum_comp]
  refine Finset.sum_congr rfl fun x _ => congrArg f (Fin.ext ?_)
  show x.2.val + n * x.1.val = n * x.1.val + x.2.val
  omega

/-- The 256 columns of a device are four heads of 64 columns. -/
theorem sum_heads (f : Fin 256 → EReal) :
    ∑ k, f k = ∑ h : Fin 4, ∑ e : Fin 64, f ⟨64 * h.val + e.val, by omega⟩ := sum_blocks 4 64 f

/-- The 4096 columns are sixteen devices of four heads of 64 columns. -/
theorem sum_devices (f : Fin 4096 → EReal) :
    ∑ k, f k = ∑ d : Fin 16, ∑ h : Fin 4, ∑ e : Fin 64, f ⟨256 * d.val + (64 * h.val + e.val), by omega⟩ := by
  refine (sum_blocks 16 256 f).trans (Finset.sum_congr rfl fun d _ => ?_)
  exact sum_heads fun k => f ⟨256 * d.val + k.val, by omega⟩

end Cert.AttentionValue
-- ==== Proof.AttentionHead.lean ====
module
public import proofs.«01_k».proof.Proof.KernelIdealVals
public import proofs.«01_k».proof.Proof.AttentionRow
import all proofs.«01_k».proof.Proof.Gen.KernelIdeal.Skeleton
@[expose] public section

set_option maxRecDepth 100000
set_option maxHeartbeats 8000000

/-! The kernel's attention of one head, and its partial result of one batch, at an index. -/

noncomputable section

namespace Cert.AttentionValue

open Cert.KernelIdeal Cert.KernelIdeal.Gen
open Idealize.ShloMosaic

/-- The kernel's attention of one head: `q`, `k`, `v` are the head's queries, keys and values, `m` the mask of admitted positions. -/
def headK (m : IVec S128x128 1) (q k v : FVec Ideal S128x64 .f32) : FVec Ideal S128x64 .f32 :=
  have s : FVec Ideal S128x128 .f32 := select m
    (mulf (matmul dot_S128x64_S128x64_S128x128_1_1_0_0_n_n none q k (constant S128x128 .f32 0x00000000#32))
      (broadcast S128x128 (Scalar.ofBits (F := Ideal) .f32 0x3E000000#32)))
    (broadcast S128x128 (Scalar.ofBits (F := Ideal) .f32 0xCE6E6B28#32))
  have e : FVec Ideal S128x128 .f32 := exp (subf s (broadcastTo S128x128
    (shapeCast S128x1 (multiReduction .maximumf [1] S128 s 0xFF800000#32 reduces_S128x128_S128 (.inl rfl) rfl) shapeCasts_S128_S128x1)
    broadcasts_S128x1_S128x128))
  matmul dot_S128x128_S128x64_S128x64_1_0_0_1_n_n none
    (divf e (broadcastTo S128x128
      (shapeCast S128x1 (multiReduction .add [1] S128 e 0x00000000#32 reduces_S128x128_S128 (.inl rfl) rfl) shapeCasts_S128_S128x1)
      broadcasts_S128x1_S128x128))
    v (constant S128x64 .f32 0x00000000#32)

/-- The kernel's head at an index. -/
theorem headK_apply (m : IVec S128x128 1) (q k v : FVec Ideal S128x64 .f32) (i : Fin 128) (e : Fin 64) :
    headK m q k v (ix2 i e) =
      attRow (fun x => score (m (ix2 i x)) (∑ t, q (ix2 i t) * k (ix2 x t))) (fun x => v (ix2 x e)) := by
  pointwise [headK]
  rfl

/-- The queries of the four heads: the columns of one product. -/
def qs (Q : FVec Ideal S128x256 .f32) : Fin 4 → FVec Ideal S128x64 .f32 :=
  ![extractStridedSlice S128x64 ![0, 0] Q slices_S128x256_o0_0_S128x64,
    extractStridedSlice S128x64 ![0, 64] Q slices_S128x256_o0_64_S128x64,
    extractStridedSlice S128x64 ![0, 128] Q slices_S128x256_o0_128_S128x64,
    extractStridedSlice S128x64 ![0, 192] Q slices_S128x256_o0_192_S128x64]

/-- Head `h` has columns 64 * h to 64 * h + 63. -/
theorem qs_apply (Q : FVec Ideal S128x256 .f32) (h : Fin 4) (i : Fin 128) (t : Fin 64) :
    qs Q h (ix2 i t) = Q (ix2 i ⟨64 * h.val + t.val, by omega⟩) := by
  fin_cases h <;> pointwise [qs]

/-- Four heads side by side. -/
def cat (f : Fin 4 → FVec Ideal S128x64 .f32) : FVec Ideal S128x256 .f32 :=
  concatenate S128x256 1 [⟨S128x64, f 0⟩, ⟨S128x64, f 1⟩, ⟨S128x64, f 2⟩, ⟨S128x64, f 3⟩]
    concatenates_S128x64_S128x64_S128x64_S128x64_S128x256_d1

/-- Column 64 * h + e is column `e` of head `h`. -/
theorem cat_apply (f : Fin 4 → FVec Ideal S128x64 .f32) (h : Fin 4) (i : Fin 128) (e : Fin 64) :
    cat f (ix2 i ⟨64 * h.val + e.val, by omega⟩) = f h (ix2 i e) := by
  have he := e.isLt
  fin_cases h
  · pointwise [cat]
  · pointwise [cat]
  · pointwise [cat]
    simp [show ¬ (128 + e.val - 64 < 64) by omega, show 128 + e.val - 64 - 64 = e.val by omega]
    exact fun h => absurd h (by omega)
  · pointwise [cat]
    simp [show ¬ (192 + e.val - 64 < 64) by omega, show ¬ (192 + e.val - 64 - 64 < 64) by omega,
      show 192 + e.val - 64 - 64 - 64 = e.val by omega]
    exact fun h => absurd h (by omega)

/-- The kernel's head `h` of one batch. -/
def headsK (m : IVec S128x128 1) (Q : FVec Ideal S128x256 .f32) (K V : Fin 4 → FVec Ideal S1x128x1x64 .f32) (h : Fin 4) :
    FVec Ideal S128x64 .f32 :=
  headK m (qs Q h) (shapeCast S128x64 (K h) shapeCasts_S1x128x1x64_S128x64) (shapeCast S128x64 (V h) shapeCasts_S1x128x1x64_S128x64)

/-- Head `h` of one batch at an index. -/
theorem headsK_apply (m : IVec S128x128 1) (Q : FVec Ideal S128x256 .f32) (K V : Fin 4 → FVec Ideal S1x128x1x64 .f32)
    (h : Fin 4) (i : Fin 128) (e : Fin 64) :
    headsK m Q K V h (ix2 i e) =
      attRow (fun x => score (m (ix2 i x)) (∑ t : Fin 64, Q (ix2 i ⟨64 * h.val + t.val, by omega⟩) * K h (ix4 0 x 0 t)))
        (fun x => V h (ix4 0 x 0 e)) := by
  rw [headsK, headK_apply]
  simp only [qs_apply]
  pointwise

/-- The kernel's partial result of one batch: the four heads side by side, times the device's rows of the output weights. -/
def partK (m : IVec S128x128 1) (Q : FVec Ideal S128x256 .f32) (K V : Fin 4 → FVec Ideal S1x128x1x64 .f32)
    (W : FVec Ideal S256x512 .f32) : FVec Ideal S128x512 .f32 :=
  matmul dot_S128x256_S256x512_S128x512_1_0_0_1_n_n none (cat (headsK m Q K V)) W (constant S128x512 .f32 0x00000000#32)

/-- The partial result of one batch at an index: a sum over the heads and their columns. -/
theorem partK_apply (m : IVec S128x128 1) (Q : FVec Ideal S128x256 .f32) (K V : Fin 4 → FVec Ideal S1x128x1x64 .f32)
    (W : FVec Ideal S256x512 .f32) (i : Fin 128) (j : Fin 512) :
    partK m Q K V W (ix2 i j) = ∑ h : Fin 4, ∑ e : Fin 64,
      attRow (fun x => score (m (ix2 i x)) (∑ t : Fin 64, Q (ix2 i ⟨64 * h.val + t.val, by omega⟩) * K h (ix4 0 x 0 t)))
        (fun x => V h (ix4 0 x 0 e)) * W (ix2 ⟨64 * h.val + e.val, by omega⟩ j) := by
  pointwise [partK]
  rw [sum_heads]
  simp only [cat_apply, headsK_apply]

open Cert.KernelIdealProof in
/-- The first half of the kernel's partial result is that of batch 0. -/
theorem half0_eq (d : Dev nD) (x : Ins Ideal) :
    half0 d x = partK (k0_pay6 w83 w108) (w112 d x) (fun h => ldK x 0 h) (fun h => ldV x 0 h) (w58 d x) := by
  have e : ∀ v : FVec Ideal S128x512 .f32, shapeCast S128x512 v shapeCasts_S128x512_S128x512 = v := by
    intro v; funext j; pointwise
  refine Eq.trans ?_ (e _)
  rfl

open Cert.KernelIdealProof in
/-- The second half is that of batch 1. -/
theorem half1_eq (d : Dev nD) (x : Ins Ideal) :
    half1 d x = partK (k0_pay6 w83 w108) (w224 d x) (fun h => ldK x 1 h) (fun h => ldV x 1 h) (w58 d x) := by
  have e : ∀ v : FVec Ideal S128x512 .f32, shapeCast S128x512 v shapeCasts_S128x512_S128x512 = v := by
    intro v; funext j; pointwise
  refine Eq.trans ?_ (e _)
  rfl

end Cert.AttentionValue
-- ==== Proof.AttentionKernel.lean ====
module
public import proofs.«01_k».proof.Proof.AttentionHead
import all proofs.«01_k».proof.Proof.Gen.KernelIdeal.Skeleton
@[expose] public section

set_option maxRecDepth 100000
set_option maxHeartbeats 8000000

/-! The kernel's result at an index. -/

noncomputable section

namespace Cert.AttentionValue

open Cert.KernelIdeal Cert.KernelIdeal.Gen Cert.KernelIdealProof
open Idealize.ShloMosaic Idealize.ShloMosaic.TcCoe

/-- The kernel computes the block of each row. -/
theorem rowBlock_apply (i j : Fin 128) : w83 (ix2 i j) = blockWord i.val := by
  pointwise [w83, w59, k0_pay4, k0_pay3]
  revert i; decide

/-- and of each column. -/
theorem colBlock_apply (i j : Fin 128) : w108 (ix2 i j) = blockWord j.val := by
  pointwise [w108, k0_pay5]
  revert j; decide

/-- and admits a column in the row's block or an earlier one. -/
theorem maskK_apply (i j : Fin 128) : k0_pay6 w83 w108 (ix2 i j) = IntOp.cmpi .sle (blockWord j.val) (blockWord i.val) := by
  pointwise [k0_pay6]
  rw [rowBlock_apply, colBlock_apply]

section Loads

/-- The argument buffers as arrays of extended reals. -/
def inX (x : Ins Ideal) : FVec Ideal S2x128x512 .f32 := x.x0
def inWq (x : Ins Ideal) : FVec Ideal S512x4096 .f32 := x.x1
def inK (x : Ins Ideal) : FVec Ideal S2x128x4x64 .f32 := x.x2
def inV (x : Ins Ideal) : FVec Ideal S2x128x4x64 .f32 := x.x3
def inWo (x : Ins Ideal) : FVec Ideal S4096x512 .f32 := x.x4

variable (d : Dev nD) (x : Ins Ideal)

/-- The blocks loaded, at an index: batch `b` of the input. -/
theorem ldX_apply (b : Fin 2) (i : Fin 128) (c : Fin 512) : ldX x b (ix3 0 i c) = inX x (ix3 b i c) := by
  refine congrArg x.x0 (?_ : _ = ix3 b i c)
  funext a
  apply Fin.ext
  fin_cases a
  · change b.val + 1 * 0 = b.val; omega
  · change 0 + 1 * i.val = i.val; omega
  · change 0 + 1 * c.val = c.val; omega

/-- head `h` of the keys of batch `b`. -/
theorem ldK_apply (b : Fin 2) (h : Fin 4) (i : Fin 128) (t : Fin 64) : ldK x b h (ix4 0 i 0 t) = inK x (ix4 b i h t) := by
  refine congrArg x.x2 (?_ : _ = ix4 b i h t)
  funext a
  apply Fin.ext
  fin_cases a
  · change b.val + 1 * 0 = b.val; omega
  · change 0 + 1 * i.val = i.val; omega
  · change h.val + 1 * 0 = h.val; omega
  · change 0 + 1 * t.val = t.val; omega

/-- head `h` of the values of batch `b`. -/
theorem ldV_apply (b : Fin 2) (h : Fin 4) (i : Fin 128) (t : Fin 64) : ldV x b h (ix4 0 i 0 t) = inV x (ix4 b i h t) := by
  refine congrArg x.x3 (?_ : _ = ix4 b i h t)
  funext a
  apply Fin.ext
  fin_cases a
  · change b.val + 1 * 0 = b.val; omega
  · change 0 + 1 * i.val = i.val; omega
  · change h.val + 1 * 0 = h.val; omega
  · change 0 + 1 * t.val = t.val; omega

/-- the 256 columns of device `d` of the query weights. -/
theorem ldWq_apply (c : Fin 512) (n : Fin 256) :
    ldWq d x (ix2 c n) = inWq x (ix2 c ⟨256 * d.val + n.val, by have h := d.isLt; change d.val < 16 at h; omega⟩) := by
  refine congrArg x.x1 (?_ : _ = ix2 c ⟨256 * d.val + n.val, _⟩)
  funext a
  apply Fin.ext
  have e := k0_off1_eq d
  fin_cases a
  · change k0_off1 d 0 + 1 * c.val = c.val
    rw [e]; change 0 + 1 * c.val = c.val; omega
  · change k0_off1 d 1 + 1 * n.val = 256 * d.val + n.val
    rw [e]; change 256 * d.val + 1 * n.val = 256 * d.val + n.val; omega

/-- the 256 rows of device `d` of the output weights. -/
theorem ldWo_apply (n : Fin 256) (j : Fin 512) :
    ldWo d x (ix2 n j) = inWo x (ix2 ⟨256 * d.val + n.val, by have h := d.isLt; change d.val < 16 at h; omega⟩ j) := by
  refine congrArg x.x4 (?_ : _ = ix2 ⟨256 * d.val + n.val, _⟩ j)
  funext a
  apply Fin.ext
  have e := k0_off2_eq d
  fin_cases a
  · change k0_off2 d 0 + 1 * n.val = 256 * d.val + n.val
    rw [e]; change 256 * d.val + 1 * n.val = 256 * d.val + n.val; omega
  · change k0_off2 d 1 + 1 * j.val = j.val
    rw [e]; change 0 + 1 * j.val = j.val; omega

/-- The reshape of the query weights moves nothing. -/
theorem wq_apply (c : Fin 512) (n : Fin 256) : w55 d x (ix2 c n) = ldWq d x (ix2 c n) := by
  pointwise [w55, k0_pay1]

/-- nor does that of the output weights. -/
theorem wo_apply (n : Fin 256) (j : Fin 512) : w58 d x (ix2 n j) = ldWo d x (ix2 n j) := by
  pointwise [w58, k0_pay2]

/-- The queries are rows of the input times columns of the query weights. -/
theorem q_apply (b : Fin 2) (i : Fin 128) (n : Fin 256) :
    k0_pay7 (w55 d x) (ldX x b) (ix2 i n) =
      ∑ c : Fin 512, inX x (ix3 b i c) * inWq x (ix2 c ⟨256 * d.val + n.val, by have h := d.isLt; change d.val < 16 at h; omega⟩) := by
  pointwise [k0_pay7]
  simp only [wq_apply, ldWq_apply, ldX_apply]

/-- Row `i` of batch `b` of the partial result of device `d`, at column `j`. -/
def part (b : Fin 2) (i : Fin 128) (j : Fin 512) : EReal :=
  ∑ h : Fin 4, ∑ e : Fin 64,
    attRow (fun k => score (IntOp.cmpi .sle (blockWord k.val) (blockWord i.val))
        (∑ t : Fin 64, (∑ c : Fin 512, inX x (ix3 b i c) *
          inWq x (ix2 c ⟨256 * d.val + (64 * h.val + t.val), by have h := d.isLt; change d.val < 16 at h; omega⟩)) * inK x (ix4 b k h t)))
      (fun k => inV x (ix4 b k h e)) *
      inWo x (ix2 ⟨256 * d.val + (64 * h.val + e.val), by have h := d.isLt; change d.val < 16 at h; omega⟩ j)

/-- One batch of the partial result, at an index. -/
theorem partK_eq (b : Fin 2) (i : Fin 128) (j : Fin 512) :
    partK (k0_pay6 w83 w108) (k0_pay7 (w55 d x) (ldX x b)) (fun h => ldK x b h) (fun h => ldV x b h) (w58 d x) (ix2 i j) =
      part d x b i j := by
  rw [partK_apply, part]
  simp only [maskK_apply, q_apply, ldK_apply, ldV_apply, wo_apply, ldWo_apply]

/-- The partial result, row 128 * b + i. -/
theorem accOf_apply (b : Fin 2) (i : Fin 128) (j : Fin 512) :
    accOf d x (ix2 ⟨128 * b.val + i.val, by omega⟩ j) = part d x b i j := by
  have hi := i.isLt
  match b with
  | 0 =>
    refine (dif_pos (show 128 * 0 + i.val < 128 by omega)).trans ?_
    rw [half0_eq]
    refine Eq.trans ?_ (partK_eq d x 0 i j)
    refine congrArg (partK _ _ _ _ _) ?_
    refine congrArg (fun r : Fin 128 => ix2 r j) (Fin.ext ?_)
    show 128 * 0 + i.val = i.val
    omega
  | 1 =>
    refine (dif_neg (show ¬ 128 * 1 + i.val < 128 by omega)).trans ?_
    rw [half1_eq]
    refine Eq.trans ?_ (partK_eq d x 1 i j)
    refine congrArg (partK _ _ _ _ _) ?_
    refine congrArg (fun r : Fin 128 => ix2 r j) (Fin.ext ?_)
    show 128 * 1 + i.val - 128 = i.val
    omega

end Loads

/-- Device `d`'s partial as an array of extended reals. -/
def partialOf (P : Dev nD → AccC Ideal) (d : Fin 16) : FVec Ideal S256x512 .f32 := P d

/-- The result from all partials: their sum, row by row. -/
theorem outOf_apply (P : Dev nD → AccC Ideal) (b : Fin 2) (i : Fin 128) (j : Fin 512) :
    outOf P (ix3 b i j : S2x128x512.Idx) = ∑ d : Fin 16, partialOf P d (ix2 ⟨128 * b.val + i.val, by omega⟩ j) := by
  have hi := i.isLt
  have hb := b.isLt
  have e : ∀ (v : FVec Ideal S16x16x512 .f32) (r : Fin 16), k0_pay26 v (ix2 r j) = ∑ s : Fin 16, v (ix3 s r j) := by
    intro v r
    pointwise [k0_pay26]
  refine (e (rcvAll P _) _).trans (Finset.sum_congr rfl fun s _ => ?_)
  refine congrArg (P s) ?_
  refine congrArg (fun r : Fin 256 => ix2 r j) (Fin.ext ?_)
  show 16 * (8 * b.val + i.val / 16) + i.val % 16 = 128 * b.val + i.val
  omega

end Cert.AttentionValue
-- ==== Proof.AttentionReference.lean ====
module
public import proofs.«01_k».proof.Proof.AttentionRow
public import proofs.«01_k».proof.Proof.Gen.ReferenceIdeal.Run
public import Idealize.ShloMosaic.Lib.Routing.OpsOrder
@[expose] public section

set_option maxRecDepth 100000
set_option maxHeartbeats 8000000

/-! The reference's result at an index. -/

noncomputable section

namespace Cert.AttentionValue

open Cert.ReferenceIdeal Cert.ReferenceIdeal.Gen
open Idealize.ShloMosaic Idealize.ShloMosaic.TcCoe

/-- The block of 64 positions that each of the 128 positions lies in, as the reference computes it. -/
def blocksR : IVec S128 32 :=
  select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))

/-- The reference's mask. -/
def maskR : IVec S128x128 1 :=
  cmpi .sle (broadcastInDim S128x128 ![0, 1] bcast_S1x128_S128x128_0_1 (broadcastInDim S1x128 ![1] bcast_S128_S1x128_1 blocksR))
    (broadcastInDim S128x128 ![0, 1] bcast_S128x1_S128x128_0_1 (broadcastInDim S128x1 ![0] bcast_S128_S128x1_0 blocksR))

/-- Which rows of the mask admit a position. -/
def keepR : IVec S128 1 := Host.reduce IntOp.ori maskR (constantI S_ 1 0#1) reducesTo_S128x128_S128_d1 h_S_

/-- The reference's masked scores. -/
def scoresR (Q K : FVec Ideal S2x128x64x64 .f32) : FVec Ideal S2x64x128x128 .f32 :=
  select (broadcastInDim S2x64x128x128 ![0, 1, 2, 3] bcast_S1x1x128x128_S2x64x128x128_0_1_2_3 (broadcastInDim S1x1x128x128 ![2, 3] bcast_S128x128_S1x1x128x128_2_3 maskR))
    (mulf (Host.dotGeneral dot_S2x128x64x64_S2x128x64x64_S2x64x128x128_3_3_1_1_02_02 none Q K)
      (broadcastInDim S2x64x128x128 ![] bcast_S_S2x64x128x128 (constant S_ .f32 0x3E000000#32)))
    (broadcastInDim S2x64x128x128 ![] bcast_S_S2x64x128x128 (id (constant S_ .f32 0xCE6E6B28#32)))

/-- The exponentials of scores, each less the greatest of its row. -/
def expR (S : FVec Ideal S2x64x128x128 .f32) : FVec Ideal S2x64x128x128 .f32 :=
  Host.exp (subf S (broadcastInDim S2x64x128x128 ![0, 1, 2, 3] bcast_S2x64x128x1_S2x64x128x128_0_1_2_3 (broadcastInDim S2x64x128x1 ![0, 1, 2] bcast_S2x64x128_S2x64x128x1_0_1_2
    (Host.reduce FloatOps.maximumf S (constant S_ .f32 0xFF800000#32) reducesTo_S2x64x128x128_S2x64x128_d3 h_S_))))

/-- The weights of exponentials, under the rows kept. -/
def weightsR (keep : IVec S128 1) (E : FVec Ideal S2x64x128x128 .f32) : FVec Ideal S2x64x128x128 .f32 :=
  select (broadcastInDim S2x64x128x128 ![0, 1, 2, 3] bcast_S1x1x128x1_S2x64x128x128_0_1_2_3 (broadcastInDim S1x1x128x1 ![2] bcast_S128_S1x1x128x1_2 keep))
    (Host.divf E (broadcastInDim S2x64x128x128 ![0, 1, 2, 3] bcast_S2x64x128x1_S2x64x128x128_0_1_2_3
      (select (broadcastInDim S2x64x128x1 ![0, 1, 2, 3] bcast_S1x1x128x1_S2x64x128x1_0_1_2_3 (broadcastInDim S1x1x128x1 ![2] bcast_S128_S1x1x128x1_2 keep))
        (broadcastInDim S2x64x128x1 ![0, 1, 2] bcast_S2x64x128_S2x64x128x1_0_1_2 (Host.reduceAdd E (constant S_ .f32 0x00000000#32) reducesTo_S2x64x128x128_S2x64x128_d3 h_S_))
        (broadcastInDim S2x64x128x1 ![] bcast_S_S2x64x128x1 (id (constant S_ .f32 0x3F800000#32))))))
    (broadcastInDim S2x64x128x128 ![] bcast_S_S2x64x128x128 (id (constant S_ .f32 0x00000000#32)))

/-- The reference's context: the weighted sums of the values. -/
def ctxR (V : FVec Ideal S2x128x64x64 .f32) (W : FVec Ideal S2x64x128x128 .f32) : FVec Ideal S2x128x4096 .f32 :=
  shapeCast S2x128x4096 (transpose S2x128x64x64 [0, 3, 1, 2] (Host.dotGeneral dot_S2x128x64x64_S2x64x128x128_S2x64x64x128_1_3_3_2_02_01 none V W)
    transposes_S2x64x64x128_S2x128x64x64_0_3_1_2) shapeCasts_S2x128x64x64_S2x128x4096

/-- The reference's queries. -/
def qR (x : FVec Ideal S2x128x512 .f32) (wq : FVec Ideal S512x4096 .f32) : FVec Ideal S2x128x64x64 .f32 :=
  shapeCast S2x128x64x64 (Host.dotGeneral dot_S2x128x512_S512x4096_S2x128x4096_2_0_01_1_n_n none x wq) shapeCasts_S2x128x4096_S2x128x64x64

/-- The reference's result. -/
def outR (x : FVec Ideal S2x128x512 .f32) (wq : FVec Ideal S512x4096 .f32) (K V : FVec Ideal S2x128x64x64 .f32)
    (wo : FVec Ideal S4096x512 .f32) : FVec Ideal S2x128x512 .f32 :=
  Host.dotGeneral dot_S2x128x4096_S4096x512_S2x128x512_2_0_01_1_n_n none (ctxR V (weightsR keepR (expR (scoresR (qR x wq) K)))) wo

/-- The term of the reference's run is that. -/
theorem res_eq (m : (ℓ : Loc nD τ sig) → Buf (Elt Ideal) ℓ) (c : Dev nD) :
    Value.res_main_v33 (F := Ideal) m c = outR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rfl

/-- The reference computes the block of each position. -/
theorem blocksR_apply (i : Fin 128) : blocksR (ix1 i) = blockWord i.val := by
  pointwise [blocksR]
  revert i; decide

/-- and admits a column in the row's block or an earlier one. -/
theorem maskR_apply (i j : Fin 128) : maskR (ix2 i j) = IntOp.cmpi .sle (blockWord j.val) (blockWord i.val) := by
  pointwise [maskR]
  rw [blocksR_apply, blocksR_apply]

/-- The reference's queries at an index. -/
theorem qR_apply (x : FVec Ideal S2x128x512 .f32) (wq : FVec Ideal S512x4096 .f32) (b : Fin 2) (i : Fin 128) (g e : Fin 64) :
    qR x wq (ix4 b i g e) = ∑ c : Fin 512, x (ix3 b i c) * wq (ix2 c ⟨64 * g.val + e.val, by omega⟩) := by
  pointwise [qR]
  simp only [Nat.mul_comm g.val 64]

/-- its masked scores. -/
theorem scoresR_apply (Q K : FVec Ideal S2x128x64x64 .f32) (b : Fin 2) (g : Fin 64) (i j : Fin 128) :
    scoresR Q K (ix4 b g i j) = score (maskR (ix2 i j)) (∑ t, Q (ix4 b i g t) * K (ix4 b j g t)) := by
  pointwise [scoresR, score, id]

/-- its exponentials. -/
theorem expR_apply (S : FVec Ideal S2x64x128x128 .f32) (b : Fin 2) (g : Fin 64) (i j : Fin 128) :
    expR S (ix4 b g i j) = Ideal.exp (S (ix4 b g i j) -
      Finset.fold max (Ideal.ofBits .f32 0xFF800000#32) (fun k => S (ix4 b g i k)) Finset.univ) := by
  pointwise [expR]

/-- Every row admits a position: its first column. -/
theorem keepR_apply (i : Fin 128) : keepR (ix1 i) = 1#1 := by
  pointwise [keepR]
  rw [Routing.fold_ori]
  refine ⟨0, ?_⟩
  rw [maskR_apply]
  revert i; decide

/-- The reference's weights at an index. -/
theorem weightsR_apply (E : FVec Ideal S2x64x128x128 .f32) (b : Fin 2) (g : Fin 64) (i j : Fin 128) :
    weightsR keepR E (ix4 b g i j) = Ideal.div (E (ix4 b g i j)) (∑ k, E (ix4 b g i k)) := by
  pointwise [weightsR]
  rw [keepR_apply]
  rfl

/-- its context. -/
theorem ctxR_apply (V : FVec Ideal S2x128x64x64 .f32) (W : FVec Ideal S2x64x128x128 .f32) (b : Fin 2) (i : Fin 128) (g e : Fin 64) :
    ctxR V W (ix3 b i ⟨64 * g.val + e.val, by omega⟩) = ∑ k, V (ix4 b k g e) * W (ix4 b g i k) := by
  pointwise [ctxR]

/-- The reference at an index: over the sixteen blocks of four heads of 64 columns. -/
theorem outR_apply (x : FVec Ideal S2x128x512 .f32) (wq : FVec Ideal S512x4096 .f32) (K V : FVec Ideal S2x128x64x64 .f32)
    (wo : FVec Ideal S4096x512 .f32) (b : Fin 2) (i : Fin 128) (j : Fin 512) :
    outR x wq K V wo (ix3 b i j) = ∑ d : Fin 16, ∑ h : Fin 4, ∑ e : Fin 64,
      attRow (fun k => score (IntOp.cmpi .sle (blockWord k.val) (blockWord i.val))
          (∑ t : Fin 64, (∑ c : Fin 512, x (ix3 b i c) * wq (ix2 c ⟨256 * d.val + (64 * h.val + t.val), by omega⟩)) *
            K (ix4 b k ⟨4 * d.val + h.val, by omega⟩ t)))
        (fun k => V (ix4 b k ⟨4 * d.val + h.val, by omega⟩ e)) * wo (ix2 ⟨256 * d.val + (64 * h.val + e.val), by omega⟩ j) := by
  pointwise [outR]
  rw [sum_devices]
  refine Finset.sum_congr rfl fun d _ => Finset.sum_congr rfl fun h _ => Finset.sum_congr rfl fun e _ => ?_
  congr 1
  have he : ∀ t : Fin 64, (⟨256 * d.val + (64 * h.val + t.val), by omega⟩ : Fin 4096) =
      ⟨64 * (⟨4 * d.val + h.val, by omega⟩ : Fin 64).val + t.val, by show 64 * (4 * d.val + h.val) + t.val < 4096; omega⟩ :=
    fun t => Fin.ext (by show 256 * d.val + (64 * h.val + t.val) = 64 * (4 * d.val + h.val) + t.val; omega)
  rw [he e, ctxR_apply]
  simp only [weightsR_apply, expR_apply, scoresR_apply, qR_apply, maskR_apply, he]
  exact Finset.sum_congr rfl fun k _ => mul_comm _ _

end Cert.AttentionValue
-- ==== Proof.AttentionEqual.lean ====
module
public import proofs.«01_k».proof.Proof.AttentionKernel
public import proofs.«01_k».proof.Proof.AttentionReference
public import Idealize.ShloMosaic.Lib.Layout
@[expose] public section

set_option maxRecDepth 100000
set_option maxHeartbeats 8000000

/-! The kernel's result is the reference's. -/

noncomputable section

namespace Cert.AttentionValue

open Cert.KernelIdeal Cert.KernelIdealProof
open Idealize.ShloMosaic

/-- Head `h` of device `d` is head `4 * d + h` of the whole array. -/
theorem block_apply_heads (A : FVec Ideal ⟨4, ![2, 128, 64, 64]⟩ .f32) (d : Fin 16) (b : Fin 2) (i : Fin 128) (h : Fin 4) (t : Fin 64) :
    Layout.block ⟨4, ![2, 128, 4, 64]⟩ ⟨4, ![2, 128, 64, 64]⟩ 2 16 d A (by decide) (ix4 b i h t) = A (ix4 b i ⟨4 * d.val + h.val, by omega⟩ t) := by
  rw [Layout.block_apply]
  refine congrArg A ?_
  funext a
  apply Fin.ext
  rw [Layout.Tiles.idx_val]
  fin_cases a
  · rfl
  · rfl
  · show d.val * 4 + h.val = 4 * d.val + h.val
    omega
  · rfl

/-- The kernel's result from the devices' arguments is the reference's from the whole arguments. -/
theorem value_eq (x : FVec Ideal S2x128x512 .f32) (wq : FVec Ideal S512x4096 .f32) (K V : FVec Ideal ⟨4, ![2, 128, 64, 64]⟩ .f32)
    (wo : FVec Ideal S4096x512 .f32) (xs : Dev nD → Ins Ideal) (hx : ∀ d, inX (xs d) = x) (hq : ∀ d, inWq (xs d) = wq)
    (hk : ∀ d, inK (xs d) = Layout.block ⟨4, ![2, 128, 4, 64]⟩ ⟨4, ![2, 128, 64, 64]⟩ 2 16 d K (by decide))
    (hv : ∀ d, inV (xs d) = Layout.block ⟨4, ![2, 128, 4, 64]⟩ ⟨4, ![2, 128, 64, 64]⟩ 2 16 d V (by decide))
    (ho : ∀ d, inWo (xs d) = wo) :
    (outOf (fun d => accOf d (xs d)) : FVec Ideal S2x128x512 .f32) = outR x wq K V wo := by
  funext y
  obtain ⟨b, i, j, rfl⟩ : ∃ (b : Fin 2) (i : Fin 128) (j : Fin 512), y = ix3 b i j := ⟨y 0, y 1, y 2, eq_ix3 y⟩
  refine (outOf_apply _ b i j).trans ?_
  refine (Finset.sum_congr (g := fun d : Fin 16 => part d (xs d) b i j) rfl fun d _ => accOf_apply d (xs d) b i j).trans ?_
  rw [outR_apply]
  refine Finset.sum_congr rfl fun d _ => ?_
  rw [part]
  simp only [hx, hq, hk, hv, ho, block_apply_heads]

end Cert.AttentionValue
-- ==== Proof.AttentionRun.lean ====
module
public import proofs.«01_k».proof.Proof.AttentionEqual
public import proofs.«01_k».proof.Proof.KernelIdealRun2
@[expose] public section

set_option maxRecDepth 100000
set_option maxHeartbeats 8000000

/-! The arrays the kernel's run ends at: the result's, and the arguments as each device reads them. -/

noncomputable section

namespace Cert.AttentionValue

open Cert.KernelIdeal Cert.KernelIdeal.Gen Cert.KernelIdealProof
open Idealize.ShloMosaic Idealize.ShloMosaic.TcCoe Idealize.SL.Sem

variable (m : (ℓ : Loc nD τ sig) → Buf (Elt Ideal) ℓ) (ρ : Dev nD → PrngReg)

/-- The one block of each window is at index zero. -/
theorem index_0 : (fun a => win0_0.index (0 : Fin 1) a * main_arg0.ty.shape.size a) = fun _ => 0 :=
  funext fun a => by fin_cases a <;> decide
theorem index_1 : (fun a => win0_1.index (0 : Fin 1) a * main_arg1.ty.shape.size a) = fun _ => 0 :=
  funext fun a => by fin_cases a <;> decide
theorem index_2 : (fun a => win0_2.index (0 : Fin 1) a * main_arg2.ty.shape.size a) = fun _ => 0 :=
  funext fun a => by fin_cases a <;> decide
theorem index_3 : (fun a => win0_3.index (0 : Fin 1) a * main_arg3.ty.shape.size a) = fun _ => 0 :=
  funext fun a => by fin_cases a <;> decide
theorem index_4 : (fun a => win0_4.index (0 : Fin 1) a * main_arg4.ty.shape.size a) = fun _ => 0 :=
  funext fun a => by fin_cases a <;> decide
theorem index_5 : (fun a => win0_5.index (0 : Fin 1) a * main_v1.ty.shape.size a) = fun _ => 0 :=
  funext fun a => by fin_cases a <;> decide

/-- A block at offset zero of the whole array's size fits. -/
theorem zero_fits {n : ℕ} {off size : Fin n → ℕ} (h : off = fun _ => 0) (a : Fin n) : off a + size a ≤ size a := by
  subst h
  exact le_of_eq (Nat.zero_add _)

/-- So each argument block is the whole argument. -/
theorem xin_x0 (c : Dev nD) : (xin m ρ c).x0 = m ((c.tc : Thread nD τ).loc main_arg0) := by
  show (win0_0.blk (0 : Fin 1)).view.read (Elt Ideal) ((s₀ m ρ).mem ((c : Thread nD τ).loc main_arg0)) = m ((c.tc : Thread nD τ).loc main_arg0)
  refine Eq.trans ?_ (Memref.read_access_unit_zero (Elt Ideal) main_arg0 index_0 (zero_fits index_0) (m ((c.tc : Thread nD τ).loc main_arg0)))
  rfl
theorem xin_x1 (c : Dev nD) : (xin m ρ c).x1 = m ((c.tc : Thread nD τ).loc main_arg1) := by
  show (win0_1.blk (0 : Fin 1)).view.read (Elt Ideal) ((s₀ m ρ).mem ((c : Thread nD τ).loc main_arg1)) = m ((c.tc : Thread nD τ).loc main_arg1)
  refine Eq.trans ?_ (Memref.read_access_unit_zero (Elt Ideal) main_arg1 index_1 (zero_fits index_1) (m ((c.tc : Thread nD τ).loc main_arg1)))
  rfl
theorem xin_x2 (c : Dev nD) : (xin m ρ c).x2 = m ((c.tc : Thread nD τ).loc main_arg2) := by
  show (win0_2.blk (0 : Fin 1)).view.read (Elt Ideal) ((s₀ m ρ).mem ((c : Thread nD τ).loc main_arg2)) = m ((c.tc : Thread nD τ).loc main_arg2)
  refine Eq.trans ?_ (Memref.read_access_unit_zero (Elt Ideal) main_arg2 index_2 (zero_fits index_2) (m ((c.tc : Thread nD τ).loc main_arg2)))
  rfl
theorem xin_x3 (c : Dev nD) : (xin m ρ c).x3 = m ((c.tc : Thread nD τ).loc main_arg3) := by
  show (win0_3.blk (0 : Fin 1)).view.read (Elt Ideal) ((s₀ m ρ).mem ((c : Thread nD τ).loc main_arg3)) = m ((c.tc : Thread nD τ).loc main_arg3)
  refine Eq.trans ?_ (Memref.read_access_unit_zero (Elt Ideal) main_arg3 index_3 (zero_fits index_3) (m ((c.tc : Thread nD τ).loc main_arg3)))
  rfl
theorem xin_x4 (c : Dev nD) : (xin m ρ c).x4 = m ((c.tc : Thread nD τ).loc main_arg4) := by
  show (win0_4.blk (0 : Fin 1)).view.read (Elt Ideal) ((s₀ m ρ).mem ((c : Thread nD τ).loc main_arg4)) = m ((c.tc : Thread nD τ).loc main_arg4)
  refine Eq.trans ?_ (Memref.read_access_unit_zero (Elt Ideal) main_arg4 index_4 (zero_fits index_4) (m ((c.tc : Thread nD τ).loc main_arg4)))
  rfl

/-- The result array ends at the result computed: the result window's one block is the whole array. -/
theorem finalA_out (c : Dev nD) : finalA m ρ c (5 : Fin 6) = OO m ρ := by
  unfold finalA
  rw [show cfg0.N = t0_0.val + 1 from rfl, (dats m ρ 0 c).arrAt_succ (5 : Fin 6) t0_0,
    if_pos (show (cfg0.win (5 : Fin 6)).flush t0_0 = true from rfl)]
  exact Memref.write_access_unit_zero_univ (Elt Ideal) main_v1 index_5 _ _ _

/-- The kernel's run, its result named. -/
theorem run_value : θ_run (defs (F := Ideal)) (onTc (main (F := Ideal))) (s₀ m ρ) (fun r => ∀ c : Dev nD,
    r.2.mem ((c.tc : Thread nD τ).loc main_v1) = OO m ρ
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run (defs (F := Ideal)) _ _).mono (fun _ h c =>
    ⟨(h.1 c (5 : Fin 6)).trans (finalA_out m ρ c),
     (h.1 c 0).trans ((dats (F := Ideal) m ρ 0 c).arrAt_in (0 : Fin 6) rfl _), (h.1 c 1).trans ((dats (F := Ideal) m ρ 0 c).arrAt_in (1 : Fin 6) rfl _),
     (h.1 c 2).trans ((dats (F := Ideal) m ρ 0 c).arrAt_in (2 : Fin 6) rfl _), (h.1 c 3).trans ((dats (F := Ideal) m ρ 0 c).arrAt_in (3 : Fin 6) rfl _),
     (h.1 c 4).trans ((dats (F := Ideal) m ρ 0 c).arrAt_in (4 : Fin 6) rfl _)⟩) (run_main m ρ)

end Cert.AttentionValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun2
public import proofs.«01_k».proof.Proof.KernelIdealRun2
public import proofs.«01_k».proof.Proof.AttentionRun
public import Idealize.ShloMosaic.Adequacy
public import Idealize.ShloMosaic.Init

@[expose] public section

noncomputable section

namespace Cert.Proof

open Idealize.ShloMosaic Idealize.SL.Sem Cert.Kernel

/-- The kernel's frame: the run at the bit-exact instance. -/
theorem frame_p : Cert.quiescent_Kernel := fun m ρ _ => KernelProof.run_frame (F := Bits) m ρ

/-- The idealized kernel's frame: the run at the ideal instance. -/
theorem frame_pi : Cert.quiescent_KernelIdeal := fun m ρ _ => KernelIdealProof.run_frame (F := Ideal) m ρ

/-- The reference's frame: its generated run; it declares no semaphore. -/
theorem frame_ri : Cert.quiescent_ReferenceIdeal := fun m ρ _ =>
  (θ_run Cert.ReferenceIdeal.defs _ _).mono (fun _ h => ⟨fun c => (h c).2, funext fun g => by
    rcases g with ⟨t, s | s⟩ <;> exact s.elim0⟩) (Cert.ReferenceIdeal.Value.run (F := Ideal) m ρ)

/-- On every device the kernel's result is the reference's, over the extended reals. -/
theorem algebraic : Cert.algebraic_KernelIdeal_ReferenceIdeal := by
  intro m ρ m' ρ' _ hagree
  refine ⟨KernelIdealProof.OO (F := Ideal) m ρ, AttentionValue.run_value m ρ, ?_⟩
  refine (θ_run Cert.ReferenceIdeal.defs _ _).mono (fun _ h => ⟨(h 0).1.trans ?_, (h 0).2⟩)
    (Cert.ReferenceIdeal.Value.run (F := Ideal) m' ρ')
  refine (AttentionValue.res_eq m' 0).trans (AttentionValue.value_eq _ _ _ _ _ (fun c => KernelIdealProof.xin m ρ c)
    (fun c => (AttentionValue.xin_x0 m ρ c).trans (hagree c).1)
    (fun c => (AttentionValue.xin_x1 m ρ c).trans (hagree c).2.1)
    (fun c => (AttentionValue.xin_x2 m ρ c).trans (hagree c).2.2.1)
    (fun c => (AttentionValue.xin_x3 m ρ c).trans (hagree c).2.2.2.1)
    (fun c => (AttentionValue.xin_x4 m ρ c).trans (hagree c).2.2.2.2)).symm

theorem claim : Cert.Claim := ⟨Cert.Kernel.Gen.facts, Cert.KernelIdeal.Gen.facts, Cert.ReferenceIdeal.Gen.facts,
  frame_p, frame_pi, frame_ri, trivial, algebraic⟩

end Cert.Proof

end
